-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.bf16_pair.PackStatement Cert.KernelIdeal.S1024x512
  ∧ IdealRules.bf16_pair.Statement Cert.KernelIdeal.S1x2048x256 Cert.KernelIdeal.S1x1024x256
  ∧ IdealRules.bf16_pair.PackStatement Cert.KernelIdeal.S512x512
  ∧ IdealRules.bf16_pair.Statement Cert.KernelIdeal.S1x1024x256 Cert.KernelIdeal.S1x512x256
  ∧ IdealRules.bf16_pair.PackStatement Cert.KernelIdeal.S256x512
  ∧ IdealRules.bf16_pair.Statement Cert.KernelIdeal.S1x512x256 Cert.KernelIdeal.S1x256x256

def algebraic_KernelIdeal_ReferenceIdeal_on_rows_written [hKernelIdeal : Cert.KernelIdeal.Facts] [hReferenceIdeal : Cert.ReferenceIdeal.Facts] [hPre_tables_in_range : Cert.Pre_tables_in_range.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 262144, 256]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 262144, 256]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v58) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_on_first_half [hKernel2Ideal : Cert.Kernel2Ideal.Facts] [hReference2Ideal : Cert.Reference2Ideal.Facts] [hOn_first_half : Cert.On_first_half.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![32768, 1024]⟩ : Shape).Idx, (Cert.On_first_half.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Kernel2Ideal.nD Cert.Kernel2Ideal.τ).loc Cert.Kernel2Ideal.main_v1) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![32768, 1024]⟩ : Shape).Idx, (Cert.On_first_half.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Reference2Ideal.nD Cert.Reference2Ideal.τ).loc Cert.Reference2Ideal.main_v36) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_in_range : Cert.Pre_tables_in_range.Facts) (hOn_rows_written : Cert.On_rows_written.Facts) (hOn_first_half : Cert.On_first_half.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_rows_written (hKernelIdeal := hKernelIdeal) (hReferenceIdeal := hReferenceIdeal) (hPre_tables_in_range := hPre_tables_in_range) (hOn_rows_written := hOn_rows_written)
    ∧ preserves_Kernel2_Kernel2Ideal
    ∧ algebraic_Kernel2Ideal_Reference2Ideal_on_first_half (hKernel2Ideal := hKernel2Ideal) (hReference2Ideal := hReference2Ideal) (hOn_first_half := hOn_first_half)
    ∧ preserves_Kernel3_Kernel3Ideal
    ∧ algebraic_Kernel3Ideal_Reference3Ideal (hKernel3Ideal := hKernel3Ideal) (hReference3Ideal := hReference3Ideal)
-- ==== On_first_half.lean ====
abbrev S16384x1024 : Shape := ⟨2, ![16384, 1024]⟩
abbrev S4x2x16384x256 : Shape := ⟨4, ![4, 2, 16384, 256]⟩
abbrev S16384x128 : Shape := ⟨2, ![16384, 128]⟩
abbrev S1024 : Shape := ⟨1, ![1024]⟩
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S16384x1024 .f32) (main_arg1 : IVec S4x2x16384x256 32) (main_arg2 : FVec F S16384x128 .f32) (main_arg3 : FVec F S1024 .f32) : IVec S32768x1024 1 :=
  let main_v0 : IVec S32768x1024 32 := iotaInDim S32768x1024 32 0
  let main_c : IVec S_ 32 := constantI S_ 32 16384#32
  let main_v1 : IVec S32768x1024 32 := broadcastInDim S32768x1024 ![] bcast_S_S32768x1024 main_c
  let main_v2 : IVec S32768x1024 1 := cmpi .slt main_v0 main_v1
  main_v2
-- ==== On_rows_written.lean ====
abbrev S64 : Shape := ⟨1, ![64]⟩
abbrev S1 : Shape := ⟨1, ![1]⟩
abbrev S2x131072x256 : Shape := ⟨3, ![2, 131072, 256]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S64x4096 : Shape := ⟨2, ![64, 4096]⟩
abbrev S_ : Shape := ⟨0, ![]⟩
abbrev S262144 : Shape := ⟨1, ![262144]⟩
abbrev S2x262144x256 : Shape := ⟨3, ![2, 262144, 256]⟩

class Facts : Prop where
  bcast_S64_S64x4096_0 : S64.BroadcastsInDim S64x4096 (![0] : Fin 1 → Fin S64x4096.rank)
  shapeCasts_S1_S_ : S1.ShapeCasts S_
  bcast_S_S64x4096 : S_.BroadcastsInDim S64x4096 (![] : Fin 0 → Fin S64x4096.rank)
  shapeCasts_S64x4096_S262144 : S64x4096.ShapeCasts S262144
  bcast_S262144_S2x262144x256_1 : S262144.BroadcastsInDim S2x262144x256 (![1] : Fin 1 → Fin S2x262144x256.rank)

variable [Facts]

def fn {F : FTy → Type} [FloatOps F] (main_arg0 : IVec S64 32) (main_arg1 : IVec S64 32) (main_arg2 : IVec S1 32) (main_arg3 : IVec S2x131072x256 32) (main_arg4 : FVec F S2x32x1024x2048 .f32) (main_arg5 : FVec F S2x32x1x2048 .f32) (main_arg6 : FVec F S2x32x1024x1024 .f32) (main_arg7 : FVec F S2x32x1x1024 .f32) : IVec S2x262144x256 1 :=
  let main_v0 : IVec S64x4096 32 := iotaInDim S64x4096 32 1
  let main_v1 : IVec S64x4096 32 := iotaInDim S64x4096 32 0
  let main_v2 : IVec S64x4096 32 := broadcastInDim S64x4096 ![0] bcast_S64_S64x4096_0 main_arg1
  let main_v3 : IVec S_ 32 := shapeCast S_ main_arg2 shapeCasts_S1_S_
  let main_v4 : IVec S64x4096 32 := broadcastInDim S64x4096 ![] bcast_S_S64x4096 main_v3
  let main_v5 : IVec S64x4096 1 := cmpi .slt main_v1 main_v4
  let main_c : IVec S_ 32 := constantI S_ 32 512#32
  let main_v6 : IVec S64x4096 32 := broadcastInDim S64x4096 ![] bcast_S_S64x4096 main_c
  let main_v7 : IVec S64x4096 32 := muli main_v6 main_v2
  let main_c_0 : IVec S_ 32 := constantI S_ 32 4096#32
  let main_v8 : IVec S64x4096 32 := broadcastInDim S64x4096 ![] bcast_S_S64x4096 main_c_0
  let main_v9 : IVec S64x4096 32 := subi main_v8 main_v7
  let main_v10 : IVec S64x4096 1 := cmpi .sge main_v0 main_v9
  let main_v11 : IVec S64x4096 1 := andi main_v5 main_v10
  let main_v12 : IVec S262144 1 := shapeCast S262144 main_v11 shapeCasts_S64x4096_S262144
  let main_v13 : IVec S2x262144x256 1 := broadcastInDim S2x262144x256 ![1] bcast_S262144_S2x262144x256_1 main_v12
  main_v13
-- ==== Pre_tables_in_range.lean ====
abbrev S64 : Shape := ⟨1, ![64]⟩
abbrev S1 : Shape := ⟨1, ![1]⟩
abbrev S2x131072x256 : Shape := ⟨3, ![2, 131072, 256]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : IVec S64 32) (main_arg2 : IVec S1 32) (main_arg3 : IVec S2x131072x256 32) (main_arg4 : FVec F S2x32x1024x2048 .f32) (main_arg5 : FVec F S2x32x1x2048 .f32) (main_arg6 : FVec F S2x32x1024x1024 .f32) (main_arg7 : FVec F S2x32x1x1024 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 32#32
  let main_v2 : IVec S64 32 := broadcastInDim S64 ![] bcast_S_S64 main_c_0
  let main_v3 : IVec S64 1 := cmpi .slt main_arg0 main_v2
  let main_v4 : IVec S64 1 := andi main_v1 main_v3
  let main_c_1 : IVec S_ 32 := constantI S_ 32 0#32
  let main_v5 : IVec S64 32 := broadcastInDim S64 ![] bcast_S_S64 main_c_1
  let main_v6 : IVec S64 1 := cmpi .sge main_arg1 main_v5
  let main_c_2 : IVec S_ 32 := constantI S_ 32 8#32
  let main_v7 : IVec S64 32 := broadcastInDim S64 ![] bcast_S_S64 main_c_2
  let main_v8 : IVec S64 1 := cmpi .sle main_arg1 main_v7
  let main_v9 : IVec S64 1 := andi main_v6 main_v8
  let main_c_3 : IVec S_ 1 := constantI S_ 1 1#1
  let main_v10 : IVec S_ 1 := (fun x v => Host.reduce IntOp.andi x v reducesTo_S64_S_d0 h_S_) main_v4 main_c_3
  let main_c_4 : IVec S_ 1 := constantI S_ 1 1#1
  let main_v11 : IVec S_ 1 := (fun x v => Host.reduce IntOp.andi x v reducesTo_S64_S_d0 h_S_) main_v9 main_c_4
  let main_v12 : IVec S_ 1 := andi main_v10 main_v11
  main_v12
-- ==== Kernel.lean ====
abbrev S64 : Shape := ⟨1, ![64]⟩
abbrev S1 : Shape := ⟨1, ![1]⟩
abbrev S2x131072x256 : Shape := ⟨3, ![2, 131072, 256]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S2x262144x256 : Shape := ⟨3, ![2, 262144, 256]⟩
abbrev S2x2048x256 : Shape := ⟨3, ![2, 2048, 256]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S2x4096x256 : Shape := ⟨3, ![2, 4096, 256]⟩
abbrev S1024x2048 : Shape := ⟨2, ![1024, 2048]⟩
abbrev S1024x1024 : Shape := ⟨2, ![1024, 1024]⟩
abbrev S1x1x128x2048 : Shape := ⟨4, ![1, 1, 128, 2048]⟩
abbrev S128x2048 : Shape := ⟨2, ![128, 2048]⟩
abbrev S1x1x128x1024 : Shape := ⟨4, ![1, 1, 128, 1024]⟩
abbrev S128x1024 : Shape := ⟨2, ![128, 1024]⟩
abbrev S1x1024x256 : Shape := ⟨3, ![1, 1024, 256]⟩
abbrev S1024x256 : Shape := ⟨2, ![1024, 256]⟩
abbrev S1024x512 : Shape := ⟨2, ![1024, 512]⟩
abbrev S1x1x1x512 : Shape := ⟨4, ![1, 1, 1, 512]⟩
abbrev S1x512 : Shape := ⟨2, ![1, 512]⟩
abbrev S1x1024 : Shape := ⟨2, ![1, 1024]⟩
abbrev S1x2048x256 : Shape := ⟨3, ![1, 2048, 256]⟩
abbrev S1x512x256 : Shape := ⟨3, ![1, 512, 256]⟩
abbrev S512x256 : Shape := ⟨2, ![512, 256]⟩
abbrev S512x1024 : Shape := ⟨2, ![512, 1024]⟩
abbrev S512x512 : Shape := ⟨2, ![512, 512]⟩
abbrev S1x256x256 : Shape := ⟨3, ![1, 256, 256]⟩
abbrev S256x256 : Shape := ⟨2, ![256, 256]⟩
abbrev S256x1024 : Shape := ⟨2, ![256, 1024]⟩
abbrev S256x512 : Shape := ⟨2, ![256, 512]⟩

abbrev nBuf : Space → Nat
  | .hbm => 6
  | .vmem => 15
  | .smem => 3
  | _ => 0

abbrev bufTy : (tb : Table) → Fin (tcTables nBuf tb) → BufTy
  | .hbm, ⟨0, _⟩ => ⟨S2x131072x256, .i32⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S2x262144x256, .bf16⟩
  | .local _ .vmem, ⟨0, _⟩ => ⟨S2x2048x256, .i32⟩
  | .local _ .vmem, ⟨1, _⟩ => ⟨S2x2048x256, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S2x4096x256, .bf16⟩
  | .local _ .vmem, ⟨11, _⟩ => ⟨S2x4096x256, .bf16⟩
  | .local _ .vmem, ⟨12, _⟩ => ⟨S1024x2048, .bf16⟩
  | .local _ .vmem, ⟨13, _⟩ => ⟨S1024x1024, .bf16⟩
  | .local _ .vmem, ⟨14, _⟩ => ⟨S1024x1024, .bf16⟩
  | .local _ .smem, ⟨0, _⟩ => ⟨S64, .i32⟩
  | .local _ .smem, ⟨1, _⟩ => ⟨S64, .i32⟩
  | .local _ .smem, ⟨2, _⟩ => ⟨S1, .i32⟩
  | _, _ => ⟨S2x131072x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![64], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
@[reducible] def k0_t1_loop : Scf.Loop 32 :=
  let c0_i32_15 : BitVec 32 := 0#32
  let c8_i32 : BitVec 32 := 8#32
  let v49 : BitVec 32 := Scalar.addi c0_i32_15 c8_i32
  let c1_i32_16 : BitVec 32 := 1#32
  ⟨c0_i32_15, v49, c1_i32_16⟩
def k0_mult1 (k0_t1 : Fin k0_t1_loop.trips) : BitVec 32 :=
  let c0_i32_15 : BitVec 32 := 0#32
  let c1_i32_16 : BitVec 32 := 1#32
  let arg13 : BitVec 32 := Scf.iv c0_i32_15 c1_i32_16 k0_t1
  let c128_i32 : BitVec 32 := 128#32
  let v51 : BitVec 32 := Scalar.muli arg13 c128_i32
  v51
def k0_off3 (k0_t1 : Fin k0_t1_loop.trips) : Fin 4 → Nat :=
  let c0_22 : Index := 0#32
  let c0_23 : Index := 0#32
  let c0_i32_15 : BitVec 32 := 0#32
  let c1_i32_16 : BitVec 32 := 1#32
  let arg13 : BitVec 32 := Scf.iv c0_i32_15 c1_i32_16 k0_t1
  let c128_i32 : BitVec 32 := 128#32
  let v51 : BitVec 32 := Scalar.muli arg13 c128_i32
  let v52 : BitVec 32 := v51
  let v53 : Index := Scalar.indexCast v52
  let c0_24 : Index := 0#32
  ![0, 0, v53.toNat, 0]
def k0_off4 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v51 : BitVec 32 := Scalar.muli arg13 c128_i32
  let v52 : BitVec 32 := v51
  let v57 : Index := Scalar.indexCast v52
  let c0_25 : Index := 0#32
  ![v57.toNat, 0]
@[reducible] def k0_t2_loop : Scf.Loop 32 :=
  let c0_i32_18 : BitVec 32 := 0#32
  let c8_i32_19 : BitVec 32 := 8#32
  let v50 : BitVec 32 := Scalar.addi c0_i32_18 c8_i32_19
  let c1_i32_20 : BitVec 32 := 1#32
  ⟨c0_i32_18, v50, c1_i32_20⟩
def k0_mult2 (k0_t2 : Fin k0_t2_loop.trips) : BitVec 32 :=
  let c0_i32_18 : BitVec 32 := 0#32
  let c1_i32_20 : BitVec 32 := 1#32
  let arg13 : BitVec 32 := Scf.iv c0_i32_18 c1_i32_20 k0_t2
  let c128_i32 : BitVec 32 := 128#32
  let v51 : BitVec 32 := Scalar.muli arg13 c128_i32
  v51
def k0_off5 (k0_t2 : Fin k0_t2_loop.trips) : Fin 4 → Nat :=
  let c0_22 : Index := 0#32
  let c0_23 : Index := 0#32
  let c0_i32_18 : BitVec 32 := 0#32
  let c1_i32_20 : BitVec 32 := 1#32
  let arg13 : BitVec 32 := Scf.iv c0_i32_18 c1_i32_20 k0_t2
  let c128_i32 : BitVec 32 := 128#32
  let v51 : BitVec 32 := Scalar.muli arg13 c128_i32
  let v52 : BitVec 32 := v51
  let v53 : Index := Scalar.indexCast v52
  let c0_24 : Index := 0#32
  ![0, 0, v53.toNat, 0]
def k0_off6 (k0_t2 : Fin k0_t2_loop.trips) : Fin 2 → Nat :=
  let c0_i32_18 : BitVec 32 := 0#32
  let c1_i32_20 : BitVec 32 := 1#32
  let arg13 : BitVec 32 := Scf.iv c0_i32_18 c1_i32_20 k0_t2
  let c128_i32 : BitVec 32 := 128#32
  let v51 : BitVec 32 := Scalar.muli arg13 c128_i32
  let v52 : BitVec 32 := v51
  let v57 : Index := Scalar.indexCast v52
  let c0_25 : Index := 0#32
  ![v57.toNat, 0]
def k0_off7 (i : grid0.Coords) : Fin 1 → Nat :=
  let arg0 : BitVec 32 := BitVec.ofNat 32 (i 0).val
  let v14 : Index := Scalar.indexCast arg0
  ![v14.toNat]
@[reducible] def k0_t3_loop (v15 : BitVec 32) : Scf.Loop 32 :=
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_18 : BitVec 32 := 1#32
  ⟨c0_i32_15, v53, c1_i32_18⟩
def k0_cond2 (i : grid0.Coords) (v9 : BitVec 32) (v15 : BitVec 32) : BitVec 1 :=
  let arg0 : BitVec 32 := BitVec.ofNat 32 (i 0).val
  let v10 : BitVec 1 := Scalar.cmpi .slt arg0 v9
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let c0_i32_8 : BitVec 32 := 0#32
  let v35 : BitVec 1 := Scalar.cmpi .sgt v34 c0_i32_8
  let v36 : BitVec 1 := Scalar.andi v10 v35
  let v37 : BitVec 32 := Scalar.extui v36
  let c0_i32_9 : BitVec 32 := 0#32
  let v38 : BitVec 1 := Scalar.cmpi .ne v37 c0_i32_9
  v38

def k0_mult3 (v15 : BitVec 32) (k0_t3 : Fin (k0_t3_loop v15).trips) : BitVec 32 :=
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c1_i32_18 : BitVec 32 := 1#32
  let arg13 : BitVec 32 := Scf.iv c0_i32_15 c1_i32_18 k0_t3
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  v60
def k0_off8 (v15 : BitVec 32) (k0_t3 : Fin (k0_t3_loop v15).trips) : Fin 3 → Nat :=
  let c0_23 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c1_i32_18 : BitVec 32 := 1#32
  let arg13 : BitVec 32 := Scf.iv c0_i32_15 c1_i32_18 k0_t3
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v62 : Index := Scalar.indexCast v61
  let c0_24 : Index := 0#32
  ![0, v62.toNat, 0]
def k0_off9 (v15 : BitVec 32) (k0_t3 : Fin (k0_t3_loop v15).trips) : Fin 3 → Nat :=
  let c1 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c1_i32_18 : BitVec 32 := 1#32
  let arg13 : BitVec 32 := Scf.iv c0_i32_15 c1_i32_18 k0_t3
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v65 : Index := Scalar.indexCast v61
  let c0_25 : Index := 0#32
  ![1, v65.toNat, 0]
def k0_off10 (v15 : BitVec 32) (k0_t3 : Fin (k0_t3_loop v15).trips) : Fin 3 → Nat :=
  let c0_75 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c1_i32_18 : BitVec 32 := 1#32
  let arg13 : BitVec 32 := Scf.iv c0_i32_15 c1_i32_18 k0_t3
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v155 : Index := Scalar.indexCast v61
  let c0_76 : Index := 0#32
  ![0, Nat.mul 2 v155.toNat, 0]
def k0_off11 (v15 : BitVec 32) (k0_t3 : Fin (k0_t3_loop v15).trips) : Fin 3 → Nat :=
  let c1_77 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c1_i32_18 : BitVec 32 := 1#32
  let arg13 : BitVec 32 := Scf.iv c0_i32_15 c1_i32_18 k0_t3
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v161 : Index := Scalar.indexCast v61
  let c0_78 : Index := 0#32
  ![1, Nat.mul 2 v161.toNat, 0]
@[reducible] def k0_t4_loop (v15 : BitVec 32) : Scf.Loop 32 :=
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let v50 : BitVec 32 := Scalar.addi c0_i32_15 v49
  let c1_i32_19 : BitVec 32 := 1#32
  ⟨v53, v50, c1_i32_19⟩
def k0_mult4 (v15 : BitVec 32) (k0_t4 : Fin (k0_t4_loop v15).trips) : BitVec 32 :=
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_19 : BitVec 32 := 1#32
  let arg13 : BitVec 32 := Scf.iv v53 c1_i32_19 k0_t4
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  v60
def k0_off12 (v15 : BitVec 32) (k0_t4 : Fin (k0_t4_loop v15).trips) : Fin 3 → Nat :=
  let c0_23 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_19 : BitVec 32 := 1#32
  let arg13 : BitVec 32 := Scf.iv v53 c1_i32_19 k0_t4
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v62 : Index := Scalar.indexCast v61
  let c0_24 : Index := 0#32
  ![0, v62.toNat, 0]
def k0_off13 (v15 : BitVec 32) (k0_t4 : Fin (k0_t4_loop v15).trips) : Fin 3 → Nat :=
  let c1 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_19 : BitVec 32 := 1#32
  let arg13 : BitVec 32 := Scf.iv v53 c1_i32_19 k0_t4
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v65 : Index := Scalar.indexCast v61
  let c0_25 : Index := 0#32
  ![1, v65.toNat, 0]
def k0_off14 (v15 : BitVec 32) (k0_t4 : Fin (k0_t4_loop v15).trips) : Fin 3 → Nat :=
  let c0_75 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_19 : BitVec 32 := 1#32
  let arg13 : BitVec 32 := Scf.iv v53 c1_i32_19 k0_t4
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v155 : Index := Scalar.indexCast v61
  let c0_76 : Index := 0#32
  ![0, Nat.mul 2 v155.toNat, 0]
def k0_off15 (v15 : BitVec 32) (k0_t4 : Fin (k0_t4_loop v15).trips) : Fin 3 → Nat :=
  let c1_77 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let c0_i32_2 : BitVec 32 := 0#32
  let v19 : BitVec 1 := Scalar.cmpi .sgt v15 c0_i32_2
  let v20 : BitVec 32 := Scalar.extui v19
  let c0_i32_3 : BitVec 32 := 0#32
  let v21 : BitVec 1 := Scalar.cmpi .slt v15 c0_i32_3
  let v22 : BitVec 32 := Scalar.extui v21
  let v23 : BitVec 32 := Scalar.subi v20 v22
  let c4_i32 : BitVec 32 := 4#32
  let c0_i32_4 : BitVec 32 := 0#32
  let v24 : BitVec 1 := Scalar.cmpi .sgt c4_i32 c0_i32_4
  let v25 : BitVec 32 := Scalar.extui v24
  let c0_i32_5 : BitVec 32 := 0#32
  let v26 : BitVec 1 := Scalar.cmpi .slt c4_i32 c0_i32_5
  let v27 : BitVec 32 := Scalar.extui v26
  let v28 : BitVec 32 := Scalar.subi v25 v27
  let v29 : BitVec 1 := Scalar.cmpi .ne v23 v28
  let v30 : BitVec 32 := Scalar.remsi v15 c4_i32
  let c0_i32_6 : BitVec 32 := 0#32
  let v31 : BitVec 1 := Scalar.cmpi .ne v30 c0_i32_6
  let v32 : BitVec 1 := Scalar.andi v29 v31
  let v18 : BitVec 32 := Scalar.divsi v15 c4_i32
  let c1_i32_7 : BitVec 32 := 1#32
  let v33 : BitVec 32 := Scalar.subi v18 c1_i32_7
  let v34 : BitVec 32 := Scalar.select v32 v33 v18
  let v49 : BitVec 32 := Scalar.subi v34 c0_i32_15
  let c1_i32_17 : BitVec 32 := 1#32
  let v51 : BitVec 32 := Scalar.divsi v49 c1_i32_17
  let v52 : BitVec 32 := Scalar.muli v51 c1_i32_17
  let v53 : BitVec 32 := Scalar.addi c0_i32_15 v52
  let c1_i32_19 : BitVec 32 := 1#32
  let arg13 : BitVec 32 := Scf.iv v53 c1_i32_19 k0_t4
  let c1_i32_20 : BitVec 32 := 1#32
  let v56 : BitVec 32 := Scalar.addi arg13 c1_i32_20
  let c4_i32_21 : BitVec 32 := 4#32
  let v57 : BitVec 32 := Scalar.muli v56 c4_i32_21
  let v58 : BitVec 32 := Scalar.subi v15 v57
  let c256_i32_22 : BitVec 32 := 256#32
  let v59 : BitVec 32 := Scalar.muli v58 c256_i32_22
  let v60 : BitVec 32 := Scalar.addi v17 v59
  let v61 : BitVec 32 := v60
  let v161 : Index := Scalar.indexCast v61
  let c0_78 : Index := 0#32
  ![1, Nat.mul 2 v161.toNat, 0]
def k0_mult5 (v15 : BitVec 32) : BitVec 32 :=
  let c2048_i32 : BitVec 32 := 2048#32
  let c256_i32 : BitVec 32 := 256#32
  let v16 : BitVec 32 := Scalar.muli v15 c256_i32
  let v17 : BitVec 32 := Scalar.subi c2048_i32 v16
  let c1_i32_15 : BitVec 32 := 1#32
  let v49 : BitVec 32 := Scalar.andi v15 c1_i32_15
  let c256_i32_16 : BitVec 32 := 256#32
  let v50 : BitVec 32 := Scalar.muli v49 c256_i32_16
  let v51 : BitVec 32 := Scalar.addi v17 v50
  v51
def k0_cond3 (i : grid0.Coords) (v9 : BitVec 32) (v15 : BitVec 32) : BitVec 1 :=
  let arg0 : BitVec 32 := BitVec.ofNat 32 (i 0).val
  let v10 : BitVec 1 := Scalar.cmpi .slt arg0 v9
  let c2_i32 : BitVec 32 := 2#32
  let v39 : BitVec 32 := Scalar.andi v15 c2_i32
  let c0_i32_10 : BitVec 32 := 0#32
  let v40 : BitVec 1 := Scalar.cmpi .ne v39 c0_i32_10
  let v41 : BitVec 1 := Scalar.andi v10 v40
  let v42 : BitVec 32 := Scalar.extui v41
  let c0_i32_11 : BitVec 32 := 0#32
  let v43 : BitVec 1 := Scalar.cmpi .ne v42 c0_i32_11
  v43

def k0_off16 (v15 : BitVec 32) : Fin 3 → Nat :=
  let c0_17 : Index := 0#32
  let c2048_i32 : BitVec 32 := 2048#32
  let c256_i32 : BitVec 32 := 256#32
  let v16 : BitVec 32 := Scalar.muli v15 c256_i32
  let v17 : BitVec 32 := Scalar.subi c2048_i32 v16
  let c1_i32_15 : BitVec 32 := 1#32
  let v49 : BitVec 32 := Scalar.andi v15 c1_i32_15
  let c256_i32_16 : BitVec 32 := 256#32
  let v50 : BitVec 32 := Scalar.muli v49 c256_i32_16
  let v51 : BitVec 32 := Scalar.addi v17 v50
  let v52 : BitVec 32 := v51
  let v53 : Index := Scalar.indexCast v52
  let c0_18 : Index := 0#32
  ![0, v53.toNat, 0]
def k0_off17 (v15 : BitVec 32) : Fin 3 → Nat :=
  let c1 : Index := 1#32
  let c2048_i32 : BitVec 32 := 2048#32
  let c256_i32 : BitVec 32 := 256#32
  let v16 : BitVec 32 := Scalar.muli v15 c256_i32
  let v17 : BitVec 32 := Scalar.subi c2048_i32 v16
  let c1_i32_15 : BitVec 32 := 1#32
  let v49 : BitVec 32 := Scalar.andi v15 c1_i32_15
  let c256_i32_16 : BitVec 32 := 256#32
  let v50 : BitVec 32 := Scalar.muli v49 c256_i32_16
  let v51 : BitVec 32 := Scalar.addi v17 v50
  let v52 : BitVec 32 := v51
  let v56 : Index := Scalar.indexCast v52
  let c0_19 : Index := 0#32
  ![1, v56.toNat, 0]
def k0_off18 (v15 : BitVec 32) : Fin 3 → Nat :=
  let c0_69 : Index := 0#32
  let c2048_i32 : BitVec 32 := 2048#32
  let c256_i32 : BitVec 32 := 256#32
  let v16 : BitVec 32 := Scalar.muli v15 c256_i32
  let v17 : BitVec 32 := Scalar.subi c2048_i32 v16
  let c1_i32_15 : BitVec 32 := 1#32
  let v49 : BitVec 32 := Scalar.andi v15 c1_i32_15
  let c256_i32_16 : BitVec 32 := 256#32
  let v50 : BitVec 32 := Scalar.muli v49 c256_i32_16
  let v51 : BitVec 32 := Scalar.addi v17 v50
  let v52 : BitVec 32 := v51
  let v146 : Index := Scalar.indexCast v52
  let c0_70 : Index := 0#32
  ![0, Nat.mul 2 v146.toNat, 0]
def k0_off19 (v15 : BitVec 32) : Fin 3 → Nat :=
  let c1_71 : Index := 1#32
  let c2048_i32 : BitVec 32 := 2048#32
  let c256_i32 : BitVec 32 := 256#32
  let v16 : BitVec 32 := Scalar.muli v15 c256_i32
  let v17 : BitVec 32 := Scalar.subi c2048_i32 v16
  let c1_i32_15 : BitVec 32 := 1#32
  let v49 : BitVec 32 := Scalar.andi v15 c1_i32_15
  let c256_i32_16 : BitVec 32 := 256#32
  let v50 : BitVec 32 := Scalar.muli v49 c256_i32_16
  let v51 : BitVec 32 := Scalar.addi v17 v50
  let v52 : BitVec 32 := v51
  let v152 : Index := Scalar.indexCast v52
  let c0_72 : Index := 0#32
  ![1, Nat.mul 2 v152.toNat, 0]
def k0_mult6 (v15 : BitVec 32) : BitVec 32 :=
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let v49 : BitVec 32 := Scalar.andi v15 c0_i32_15
  let c256_i32_16 : BitVec 32 := 256#32
  let v50 : BitVec 32 := Scalar.muli v49 c256_i32_16
  let v51 : BitVec 32 := Scalar.addi v17 v50
  v51
def k0_cond4 (i : grid0.Coords) (v9 : BitVec 32) (v15 : BitVec 32) : BitVec 1 :=
  let arg0 : BitVec 32 := BitVec.ofNat 32 (i 0).val
  let v10 : BitVec 1 := Scalar.cmpi .slt arg0 v9
  let c1_i32_12 : BitVec 32 := 1#32
  let v44 : BitVec 32 := Scalar.andi v15 c1_i32_12
  let c0_i32_13 : BitVec 32 := 0#32
  let v45 : BitVec 1 := Scalar.cmpi .ne v44 c0_i32_13
  let v46 : BitVec 1 := Scalar.andi v10 v45
  let v47 : BitVec 32 := Scalar.extui v46
  let c0_i32_14 : BitVec 32 := 0#32
  let v48 : BitVec 1 := Scalar.cmpi .ne v47 c0_i32_14
  v48

def k0_off20 (v15 : BitVec 32) : Fin 3 → Nat :=
  let c0_17 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let v49 : BitVec 32 := Scalar.andi v15 c0_i32_15
  let c256_i32_16 : BitVec 32 := 256#32
  let v50 : BitVec 32 := Scalar.muli v49 c256_i32_16
  let v51 : BitVec 32 := Scalar.addi v17 v50
  let v52 : BitVec 32 := v51
  let v53 : Index := Scalar.indexCast v52
  let c0_18 : Index := 0#32
  ![0, v53.toNat, 0]
def k0_off21 (v15 : BitVec 32) : Fin 3 → Nat :=
  let c1 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let v49 : BitVec 32 := Scalar.andi v15 c0_i32_15
  let c256_i32_16 : BitVec 32 := 256#32
  let v50 : BitVec 32 := Scalar.muli v49 c256_i32_16
  let v51 : BitVec 32 := Scalar.addi v17 v50
  let v52 : BitVec 32 := v51
  let v56 : Index := Scalar.indexCast v52
  let c0_19 : Index := 0#32
  ![1, v56.toNat, 0]
def k0_off22 (v15 : BitVec 32) : Fin 3 → Nat :=
  let c0_69 : Index := 0#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let v49 : BitVec 32 := Scalar.andi v15 c0_i32_15
  let c256_i32_16 : BitVec 32 := 256#32
  let v50 : BitVec 32 := Scalar.muli v49 c256_i32_16
  let v51 : BitVec 32 := Scalar.addi v17 v50
  let v52 : BitVec 32 := v51
  let v146 : Index := Scalar.indexCast v52
  let c0_70 : Index := 0#32
  ![0, Nat.mul 2 v146.toNat, 0]
def k0_off23 (v15 : BitVec 32) : Fin 3 → Nat :=
  let c1_71 : Index := 1#32
  let c2048_i32 : BitVec 32 := 2048#32
  let c256_i32 : BitVec 32 := 256#32
  let v16 : BitVec 32 := Scalar.muli v15 c256_i32
  let v17 : BitVec 32 := Scalar.subi c2048_i32 v16
  let c0_i32_15 : BitVec 32 := 0#32
  let v49 : BitVec 32 := Scalar.andi v15 c0_i32_15
  let c256_i32_16 : BitVec 32 := 256#32
  let v50 : BitVec 32 := Scalar.muli v49 c256_i32_16
  let v51 : BitVec 32 := Scalar.addi v17 v50
  let v52 : BitVec 32 := v51
  let v152 : Index := Scalar.indexCast v52
  let c0_72 : Index := 0#32
  ![1, Nat.mul 2 v152.toNat, 0]

def k0_chk1 (i : grid0.Coords) (v9 : BitVec 32) (v15 : BitVec 32) : Prop :=
  (∀ (k0_h2 : k0_cond2 i v9 v15 = 1#1), (k0_t3_loop v15).OK) ∧
  (∀ k0_t3 : Fin (k0_t3_loop v15).trips, ∀ (k0_h2 : k0_cond2 i v9 v15 = 1#1), 256 ∣ (k0_mult3 v15 k0_t3).toNat) ∧
  (∀ k0_t3 : Fin (k0_t3_loop v15).trips, ∀ (k0_h2 : k0_cond2 i v9 v15 = 1#1), ∀ a, (k0_off8 v15 k0_t3) a + S1x1024x256.size a ≤ S2x2048x256.size a) ∧
  (∀ k0_t3 : Fin (k0_t3_loop v15).trips, ∀ (k0_h2 : k0_cond2 i v9 v15 = 1#1), ∀ a, (k0_off9 v15 k0_t3) a + S1x1024x256.size a ≤ S2x2048x256.size a) ∧
  (∀ k0_t3 : Fin (k0_t3_loop v15).trips, ∀ (k0_h2 : k0_cond2 i v9 v15 = 1#1), ∀ a, (k0_off10 v15 k0_t3) a + S1x2048x256.size a ≤ S2x4096x256.size a) ∧
  (∀ k0_t3 : Fin (k0_t3_loop v15).trips, ∀ (k0_h2 : k0_cond2 i v9 v15 = 1#1), ∀ (hinb : ∀ a, (k0_off10 v15 k0_t3) a + S1x2048x256.size a ≤ S2x4096x256.size a), (Rect.unit (s := S2x4096x256) (k0_off10 v15 k0_t3) S1x2048x256.size hinb).PackedRows (EltTy.packing .bf16)) ∧
  (∀ k0_t3 : Fin (k0_t3_loop v15).trips, ∀ (k0_h2 : k0_cond2 i v9 v15 = 1#1), ∀ a, (k0_off11 v15 k0_t3) a + S1x2048x256.size a ≤ S2x4096x256.size a) ∧
  (∀ k0_t3 : Fin (k0_t3_loop v15).trips, ∀ (k0_h2 : k0_cond2 i v9 v15 = 1#1), ∀ (hinb : ∀ a, (k0_off11 v15 k0_t3) a + S1x2048x256.size a ≤ S2x4096x256.size a), (Rect.unit (s := S2x4096x256) (k0_off11 v15 k0_t3) S1x2048x256.size hinb).PackedRows (EltTy.packing .bf16)) ∧
  (∀ (k0_h2 : k0_cond2 i v9 v15 = 1#1), (k0_t4_loop v15).OK) ∧
  (∀ k0_t4 : Fin (k0_t4_loop v15).trips, ∀ (k0_h2 : k0_cond2 i v9 v15 = 1#1), 256 ∣ (k0_mult4 v15 k0_t4).toNat) ∧
  (∀ k0_t4 : Fin (k0_t4_loop v15).trips, ∀ (k0_h2 : k0_cond2 i v9 v15 = 1#1), ∀ a, (k0_off12 v15 k0_t4) a + S1x1024x256.size a ≤ S2x2048x256.size a) ∧
  (∀ k0_t4 : Fin (k0_t4_loop v15).trips, ∀ (k0_h2 : k0_cond2 i v9 v15 = 1#1), ∀ a, (k0_off13 v15 k0_t4) a + S1x1024x256.size a ≤ S2x2048x256.size a) ∧
  (∀ k0_t4 : Fin (k0_t4_loop v15).trips, ∀ (k0_h2 : k0_cond2 i v9 v15 = 1#1), ∀ a, (k0_off14 v15 k0_t4) a + S1x2048x256.size a ≤ S2x4096x256.size a) ∧
  (∀ k0_t4 : Fin (k0_t4_loop v15).trips, ∀ (k0_h2 : k0_cond2 i v9 v15 = 1#1), ∀ (hinb : ∀ a, (k0_off14 v15 k0_t4) a + S1x2048x256.size a ≤ S2x4096x256.size a), (Rect.unit (s := S2x4096x256) (k0_off14 v15 k0_t4) S1x2048x256.size hinb).PackedRows (EltTy.packing .bf16)) ∧
  (∀ k0_t4 : Fin (k0_t4_loop v15).trips, ∀ (k0_h2 : k0_cond2 i v9 v15 = 1#1), ∀ a, (k0_off15 v15 k0_t4) a + S1x2048x256.size a ≤ S2x4096x256.size a) ∧
  (∀ k0_t4 : Fin (k0_t4_loop v15).trips, ∀ (k0_h2 : k0_cond2 i v9 v15 = 1#1), ∀ (hinb : ∀ a, (k0_off15 v15 k0_t4) a + S1x2048x256.size a ≤ S2x4096x256.size a), (Rect.unit (s := S2x4096x256) (k0_off15 v15 k0_t4) S1x2048x256.size hinb).PackedRows (EltTy.packing .bf16)) ∧
  (∀ (k0_h3 : k0_cond3 i v9 v15 = 1#1), 256 ∣ (k0_mult5 v15).toNat) ∧
  (∀ (k0_h3 : k0_cond3 i v9 v15 = 1#1), ∀ a, (k0_off16 v15) a + S1x512x256.size a ≤ S2x2048x256.size a) ∧
  (∀ (k0_h3 : k0_cond3 i v9 v15 = 1#1), ∀ a, (k0_off17 v15) a + S1x512x256.size a ≤ S2x2048x256.size a) ∧
  (∀ (k0_h3 : k0_cond3 i v9 v15 = 1#1), ∀ a, (k0_off18 v15) a + S1x1024x256.size a ≤ S2x4096x256.size a) ∧
  (∀ (k0_h3 : k0_cond3 i v9 v15 = 1#1), ∀ (hinb : ∀ a, (k0_off18 v15) a + S1x1024x256.size a ≤ S2x4096x256.size a), (Rect.unit (s := S2x4096x256) (k0_off18 v15) S1x1024x256.size hinb).PackedRows (EltTy.packing .bf16)) ∧
  (∀ (k0_h3 : k0_cond3 i v9 v15 = 1#1), ∀ a, (k0_off19 v15) a + S1x1024x256.size a ≤ S2x4096x256.size a) ∧
  (∀ (k0_h3 : k0_cond3 i v9 v15 = 1#1), ∀ (hinb : ∀ a, (k0_off19 v15) a + S1x1024x256.size a ≤ S2x4096x256.size a), (Rect.unit (s := S2x4096x256) (k0_off19 v15) S1x1024x256.size hinb).PackedRows (EltTy.packing .bf16)) ∧
  (∀ (k0_h4 : k0_cond4 i v9 v15 = 1#1), 256 ∣ (k0_mult6 v15).toNat) ∧
  (∀ (k0_h4 : k0_cond4 i v9 v15 = 1#1), ∀ a, (k0_off20 v15) a + S1x256x256.size a ≤ S2x2048x256.size a) ∧
  (∀ (k0_h4 : k0_cond4 i v9 v15 = 1#1), ∀ a, (k0_off21 v15) a + S1x256x256.size a ≤ S2x2048x256.size a) ∧
  (∀ (k0_h4 : k0_cond4 i v9 v15 = 1#1), ∀ a, (k0_off22 v15) a + S1x512x256.size a ≤ S2x4096x256.size a) ∧
  (∀ (k0_h4 : k0_cond4 i v9 v15 = 1#1), ∀ (hinb : ∀ a, (k0_off22 v15) a + S1x512x256.size a ≤ S2x4096x256.size a), (Rect.unit (s := S2x4096x256) (k0_off22 v15) S1x512x256.size hinb).PackedRows (EltTy.packing .bf16)) ∧
  (∀ (k0_h4 : k0_cond4 i v9 v15 = 1#1), ∀ a, (k0_off23 v15) a + S1x512x256.size a ≤ S2x4096x256.size a) ∧
  (∀ (k0_h4 : k0_cond4 i v9 v15 = 1#1), ∀ (hinb : ∀ a, (k0_off23 v15) a + S1x512x256.size a ≤ S2x4096x256.size a), (Rect.unit (s := S2x4096x256) (k0_off23 v15) S1x512x256.size hinb).PackedRows (EltTy.packing .bf16))
theorem k0_t3_ok : ∀ (i : grid0.Coords) (v9 : BitVec 32) (v15 : BitVec 32) (k0_hw1 : k0_chk1 i v9 v15), ∀ (k0_h2 : k0_cond2 i v9 v15 = 1#1), (k0_t3_loop v15).OK := fun i v9 v15 k0_hw1 k0_h2 => k0_hw1.1 k0_h2
theorem k0_mult3_dvd : ∀ (i : grid0.Coords) (v9 : BitVec 32) (v15 : BitVec 32) (k0_hw1 : k0_chk1 i v9 v15) (k0_t3 : Fin (k0_t3_loop v15).trips), ∀ (k0_h2 : k0_cond2 i v9 v15 = 1#1), 256 ∣ (k0_mult3 v15 k0_t3).toNat := fun i v9 v15 k0_hw1 k0_t3 k0_h2 => k0_hw1.2.1 k0_t3 k0_h2
theorem k0_off8_inb : ∀ (i : grid0.Coords) (v9 : BitVec 32) (v15 : BitVec 32) (k0_hw1 : k0_chk1 i v9 v15) (k0_t3 : Fin (k0_t3_loop v15).trips), ∀ (k0_h2 : k0_cond2 i v9 v15 = 1#1), ∀ a, (k0_off8 v15 k0_t3) a + S1x1024x256.size a ≤ S2x2048x256.size a := fun i v9 v15 k0_hw1 k0_t3 k0_h2 => k0_hw1.2.2.1 k0_t3 k0_h2
theorem k0_off9_inb : ∀ (i : grid0.Coords) (v9 : BitVec 32) (v15 : BitVec 32) (k0_hw1 : k0_chk1 i v9 v15) (k0_t3 : Fin (k0_t3_loop v15).trips), ∀ (k0_h2 : k0_cond2 i v9 v15 = 1#1), ∀ a, (k0_off9 v15 k0_t3) a + S1x1024x256.size a ≤ S2x2048x256.size a := fun i v9 v15 k0_hw1 k0_t3 k0_h2 => k0_hw1.2.2.2.1 k0_t3 k0_h2
theorem k0_off10_inb : ∀ (i : grid0.Coords) (v9 : BitVec 32) (v15 : BitVec 32) (k0_hw1 : k0_chk1 i v9 v15) (k0_t3 : Fin (k0_t3_loop v15).trips), ∀ (k0_h2 : k0_cond2 i v9 v15 = 1#1), ∀ a, (k0_off10 v15 k0_t3) a + S1x2048x256.size a ≤ S2x4096x256.size a := fun i v9 v15 k0_hw1 k0_t3 k0_h2 => k0_hw1.2.2.2.2.1 k0_t3 k0_h2
theorem k0_off10_packedbf16 : ∀ (i : grid0.Coords) (v9 : BitVec 32) (v15 : BitVec 32) (k0_hw1 : k0_chk1 i v9 v15) (k0_t3 : Fin (k0_t3_loop v15).trips), ∀ (k0_h2 : k0_cond2 i v9 v15 = 1#1), (Rect.unit (s := S2x4096x256) (k0_off10 v15 k0_t3) S1x2048x256.size (k0_off10_inb i v9 v15 k0_hw1 k0_t3 k0_h2)).PackedRows (EltTy.packing .bf16) := fun i v9 v15 k0_hw1 k0_t3 k0_h2 => k0_hw1.2.2.2.2.2.1 k0_t3 k0_h2 (k0_off10_inb i v9 v15 k0_hw1 k0_t3 k0_h2)
theorem k0_off11_inb : ∀ (i : grid0.Coords) (v9 : BitVec 32) (v15 : BitVec 32) (k0_hw1 : k0_chk1 i v9 v15) (k0_t3 : Fin (k0_t3_loop v15).trips), ∀ (k0_h2 : k0_cond2 i v9 v15 = 1#1), ∀ a, (k0_off11 v15 k0_t3) a + S1x2048x256.size a ≤ S2x4096x256.size a := fun i v9 v15 k0_hw1 k0_t3 k0_h2 => k0_hw1.2.2.2.2.2.2.1 k0_t3 k0_h2
theorem k0_off11_packedbf16 : ∀ (i : grid0.Coords) (v9 : BitVec 32) (v15 : BitVec 32) (k0_hw1 : k0_chk1 i v9 v15) (k0_t3 : Fin (k0_t3_loop v15).trips), ∀ (k0_h2 : k0_cond2 i v9 v15 = 1#1), (Rect.unit (s := S2x4096x256) (k0_off11 v15 k0_t3) S1x2048x256.size (k0_off11_inb i v9 v15 k0_hw1 k0_t3 k0_h2)).PackedRows (EltTy.packing .bf16) := fun i v9 v15 k0_hw1 k0_t3 k0_h2 => k0_hw1.2.2.2.2.2.2.2.1 k0_t3 k0_h2 (k0_off11_inb i v9 v15 k0_hw1 k0_t3 k0_h2)
theorem k0_t4_ok : ∀ (i : grid0.Coords) (v9 : BitVec 32) (v15 : BitVec 32) (k0_hw1 : k0_chk1 i v9 v15), ∀ (k0_h2 : k0_cond2 i v9 v15 = 1#1), (k0_t4_loop v15).OK := fun i v9 v15 k0_hw1 k0_h2 => k0_hw1.2.2.2.2.2.2.2.2.1 k0_h2
theorem k0_mult4_dvd : ∀ (i : grid0.Coords) (v9 : BitVec 32) (v15 : BitVec 32) (k0_hw1 : k0_chk1 i v9 v15) (k0_t4 : Fin (k0_t4_loop v15).trips), ∀ (k0_h2 : k0_cond2 i v9 v15 = 1#1), 256 ∣ (k0_mult4 v15 k0_t4).toNat := fun i v9 v15 k0_hw1 k0_t4 k0_h2 => k0_hw1.2.2.2.2.2.2.2.2.2.1 k0_t4 k0_h2
theorem k0_off12_inb : ∀ (i : grid0.Coords) (v9 : BitVec 32) (v15 : BitVec 32) (k0_hw1 : k0_chk1 i v9 v15) (k0_t4 : Fin (k0_t4_loop v15).trips), ∀ (k0_h2 : k0_cond2 i v9 v15 = 1#1), ∀ a, (k0_off12 v15 k0_t4) a + S1x1024x256.size a ≤ S2x2048x256.size a := fun i v9 v15 k0_hw1 k0_t4 k0_h2 => k0_hw1.2.2.2.2.2.2.2.2.2.2.1 k0_t4 k0_h2
theorem k0_off13_inb : ∀ (i : grid0.Coords) (v9 : BitVec 32) (v15 : BitVec 32) (k0_hw1 : k0_chk1 i v9 v15) (k0_t4 : Fin (k0_t4_loop v15).trips), ∀ (k0_h2 : k0_cond2 i v9 v15 = 1#1), ∀ a, (k0_off13 v15 k0_t4) a + S1x1024x256.size a ≤ S2x2048x256.size a := fun i v9 v15 k0_hw1 k0_t4 k0_h2 => k0_hw1.2.2.2.2.2.2.2.2.2.2.2.1 k0_t4 k0_h2
theorem k0_off14_inb : ∀ (i : grid0.Coords) (v9 : BitVec 32) (v15 : BitVec 32) (k0_hw1 : k0_chk1 i v9 v15) (k0_t4 : Fin (k0_t4_loop v15).trips), ∀ (k0_h2 : k0_cond2 i v9 v15 = 1#1), ∀ a, (k0_off14 v15 k0_t4) a + S1x2048x256.size a ≤ S2x4096x256.size a := fun i v9 v15 k0_hw1 k0_t4 k0_h2 => k0_hw1.2.2.2.2.2.2.2.2.2.2.2.2.1 k0_t4 k0_h2
theorem k0_off14_packedbf16 : ∀ (i : grid0.Coords) (v9 : BitVec 32) (v15 : BitVec 32) (k0_hw1 : k0_chk1 i v9 v15) (k0_t4 : Fin (k0_t4_loop v15).trips), ∀ (k0_h2 : k0_cond2 i v9 v15 = 1#1), (Rect.unit (s := S2x4096x256) (k0_off14 v15 k0_t4) S1x2048x256.size (k0_off14_inb i v9 v15 k0_hw1 k0_t4 k0_h2)).PackedRows (EltTy.packing .bf16) := fun i v9 v15 k0_hw1 k0_t4 k0_h2 => k0_hw1.2.2.2.2.2.2.2.2.2.2.2.2.2.1 k0_t4 k0_h2 (k0_off14_inb i v9 v15 k0_hw1 k0_t4 k0_h2)
theorem k0_off15_inb : ∀ (i : grid0.Coords) (v9 : BitVec 32) (v15 : BitVec 32) (k0_hw1 : k0_chk1 i v9 v15) (k0_t4 : Fin (k0_t4_loop v15).trips), ∀ (k0_h2 : k0_cond2 i v9 v15 = 1#1), ∀ a, (k0_off15 v15 k0_t4) a + S1x2048x256.size a ≤ S2x4096x256.size a := fun i v9 v15 k0_hw1 k0_t4 k0_h2 => k0_hw1.2.2.2.2.2.2.2.2.2.2.2.2.2.2.1 k0_t4 k0_h2
theorem k0_off15_packedbf16 : ∀ (i : grid0.Coords) (v9 : BitVec 32) (v15 : BitVec 32) (k0_hw1 : k0_chk1 i v9 v15) (k0_t4 : Fin (k0_t4_loop v15).trips), ∀ (k0_h2 : k0_cond2 i v9 v15 = 1#1), (Rect.unit (s := S2x4096x256) (k0_off15 v15 k0_t4) S1x2048x256.size (k0_off15_inb i v9 v15 k0_hw1 k0_t4 k0_h2)).PackedRows (EltTy.packing .bf16) := fun i v9 v15 k0_hw1 k0_t4 k0_h2 => k0_hw1.2.2.2.2.2.2.2.2.2.2.2.2.2.2.2.1 k0_t4 k0_h2 (k0_off15_inb i v9 v15 k0_hw1 k0_t4 k0_h2)
theorem k0_mult5_dvd : ∀ (i : grid0.Coords) (v9 : BitVec 32) (v15 : BitVec 32) (k0_hw1 : k0_chk1 i v9 v15), ∀ (k0_h3 : k0_cond3 i v9 v15 = 1#1), 256 ∣ (k0_mult5 v15).toNat := fun i v9 v15 k0_hw1 k0_h3 => k0_hw1.2.2.2.2.2.2.2.2.2.2.2.2.2.2.2.2.1 k0_h3
theorem k0_off16_inb : ∀ (i : grid0.Coords) (v9 : BitVec 32) (v15 : BitVec 32) (k0_hw1 : k0_chk1 i v9 v15), ∀ (k0_h3 : k0_cond3 i v9 v15 = 1#1), ∀ a, (k0_off16 v15) a + S1x512x256.size a ≤ S2x2048x256.size a := fun i v9 v15 k0_hw1 k0_h3 => k0_hw1.2.2.2.2.2.2.2.2.2.2.2.2.2.2.2.2.2.1 k0_h3
theorem k0_off17_inb : ∀ (i : grid0.Coords) (v9 : BitVec 32) (v15 : BitVec 32) (k0_hw1 : k0_chk1 i v9 v15), ∀ (k0_h3 : k0_cond3 i v9 v15 = 1#1), ∀ a, (k0_off17 v15) a + S1x512x256.size a ≤ S2x2048x256.size a := fun i v9 v15 k0_hw1 k0_h3 => k0_hw1.2.2.2.2.2.2.2.2.2.2.2.2.2.2.2.2.2.2.1 k0_h3
theorem k0_off18_inb : ∀ (i : grid0.Coords) (v9 : BitVec 32) (v15 : BitVec 32) (k0_hw1 : k0_chk1 i v9 v15), ∀ (k0_h3 : k0_cond3 i v9 v15 = 1#1), ∀ a, (k0_off18 v15) a + S1x1024x256.size a ≤ S2x4096x256.size a := fun i v9 v15 k0_hw1 k0_h3 => k0_hw1.2.2.2.2.2.2.2.2.2.2.2.2.2.2.2.2.2.2.2.1 k0_h3
theorem k0_off18_packedbf16 : ∀ (i : grid0.Coords) (v9 : BitVec 32) (v15 : BitVec 32) (k0_hw1 : k0_chk1 i v9 v15), ∀ (k0_h3 : k0_cond3 i v9 v15 = 1#1), (Rect.unit (s := S2x4096x256) (k0_off18 v15) S1x1024x256.size (k0_off18_inb i v9 v15 k0_hw1 k0_h3)).PackedRows (EltTy.packing .bf16) := fun i v9 v15 k0_hw1 k0_h3 => k0_hw1.2.2.2.2.2.2.2.2.2.2.2.2.2.2.2.2.2.2.2.2.1 k0_h3 (k0_off18_inb i v9 v15 k0_hw1 k0_h3)
theorem k0_off19_inb : ∀ (i : grid0.Coords) (v9 : BitVec 32) (v15 : BitVec 32) (k0_hw1 : k0_chk1 i v9 v15), ∀ (k0_h3 : k0_cond3 i v9 v15 = 1#1), ∀ a, (k0_off19 v15) a + S1x1024x256.size a ≤ S2x4096x256.size a := fun i v9 v15 k0_hw1 k0_h3 => k0_hw1.2.2.2.2.2.2.2.2.2.2.2.2.2.2.2.2.2.2.2.2.2.1 k0_h3
theorem k0_off19_packedbf16 : ∀ (i : grid0.Coords) (v9 : BitVec 32) (v15 : BitVec 32) (k0_hw1 : k0_chk1 i v9 v15), ∀ (k0_h3 : k0_cond3 i v9 v15 = 1#1), (Rect.unit (s := S2x4096x256) (k0_off19 v15) S1x1024x256.size (k0_off19_inb i v9 v15 k0_hw1 k0_h3)).PackedRows (EltTy.packing .bf16) := fun i v9 v15 k0_hw1 k0_h3 => k0_hw1.2.2.2.2.2.2.2.2.2.2.2.2.2.2.2.2.2.2.2.2.2.2.1 k0_h3 (k0_off19_inb i v9 v15 k0_hw1 k0_h3)
theorem k0_mult6_dvd : ∀ (i : grid0.Coords) (v9 : BitVec 32) (v15 : BitVec 32) (k0_hw1 : k0_chk1 i v9 v15), ∀ (k0_h4 : k0_cond4 i v9 v15 = 1#1), 256 ∣ (k0_mult6 v15).toNat := fun i v9 v15 k0_hw1 k0_h4 => k0_hw1.2.2.2.2.2.2.2.2.2.2.2.2.2.2.2.2.2.2.2.2.2.2.2.1 k0_h4
theorem k0_off20_inb : ∀ (i : grid0.Coords) (v9 : BitVec 32) (v15 : BitVec 32) (k0_hw1 : k0_chk1 i v9 v15), ∀ (k0_h4 : k0_cond4 i v9 v15 = 1#1), ∀ a, (k0_off20 v15) a + S1x256x256.size a ≤ S2x2048x256.size a := fun i v9 v15 k0_hw1 k0_h4 => k0_hw1.2.2.2.2.2.2.2.2.2.2.2.2.2.2.2.2.2.2.2.2.2.2.2.2.1 k0_h4
theorem k0_off21_inb : ∀ (i : grid0.Coords) (v9 : BitVec 32) (v15 : BitVec 32) (k0_hw1 : k0_chk1 i v9 v15), ∀ (k0_h4 : k0_cond4 i v9 v15 = 1#1), ∀ a, (k0_off21 v15) a + S1x256x256.size a ≤ S2x2048x256.size a := fun i v9 v15 k0_hw1 k0_h4 => k0_hw1.2.2.2.2.2.2.2.2.2.2.2.2.2.2.2.2.2.2.2.2.2.2.2.2.2.1 k0_h4
theorem k0_off22_inb : ∀ (i : grid0.Coords) (v9 : BitVec 32) (v15 : BitVec 32) (k0_hw1 : k0_chk1 i v9 v15), ∀ (k0_h4 : k0_cond4 i v9 v15 = 1#1), ∀ a, (k0_off22 v15) a + S1x512x256.size a ≤ S2x4096x256.size a := fun i v9 v15 k0_hw1 k0_h4 => k0_hw1.2.2.2.2.2.2.2.2.2.2.2.2.2.2.2.2.2.2.2.2.2.2.2.2.2.2.1 k0_h4
theorem k0_off22_packedbf16 : ∀ (i : grid0.Coords) (v9 : BitVec 32) (v15 : BitVec 32) (k0_hw1 : k0_chk1 i v9 v15), ∀ (k0_h4 : k0_cond4 i v9 v15 = 1#1), (Rect.unit (s := S2x4096x256) (k0_off22 v15) S1x512x256.size (k0_off22_inb i v9 v15 k0_hw1 k0_h4)).PackedRows (EltTy.packing .bf16) := fun i v9 v15 k0_hw1 k0_h4 => k0_hw1.2.2.2.2.2.2.2.2.2.2.2.2.2.2.2.2.2.2.2.2.2.2.2.2.2.2.2.1 k0_h4 (k0_off22_inb i v9 v15 k0_hw1 k0_h4)
theorem k0_off23_inb : ∀ (i : grid0.Coords) (v9 : BitVec 32) (v15 : BitVec 32) (k0_hw1 : k0_chk1 i v9 v15), ∀ (k0_h4 : k0_cond4 i v9 v15 = 1#1), ∀ a, (k0_off23 v15) a + S1x512x256.size a ≤ S2x4096x256.size a := fun i v9 v15 k0_hw1 k0_h4 => k0_hw1.2.2.2.2.2.2.2.2.2.2.2.2.2.2.2.2.2.2.2.2.2.2.2.2.2.2.2.2.1 k0_h4
theorem k0_off23_packedbf16 : ∀ (i : grid0.Coords) (v9 : BitVec 32) (v15 : BitVec 32) (k0_hw1 : k0_chk1 i v9 v15), ∀ (k0_h4 : k0_cond4 i v9 v15 = 1#1), (Rect.unit (s := S2x4096x256) (k0_off23 v15) S1x512x256.size (k0_off23_inb i v9 v15 k0_hw1 k0_h4)).PackedRows (EltTy.packing .bf16) := fun i v9 v15 k0_hw1 k0_h4 => k0_hw1.2.2.2.2.2.2.2.2.2.2.2.2.2.2.2.2.2.2.2.2.2.2.2.2.2.2.2.2.2 k0_h4 (k0_off23_inb i v9 v15 k0_hw1 k0_h4)

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  let c0_i32_2 : BitVec 32 := 0#32
  ![c0_i32_0.toNat, v3.toNat, c0_i32_1.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  let c0_i32_2 : BitVec 32 := 0#32
  ![c0_i32_0.toNat, v3.toNat, c0_i32_1.toNat]

abbrev stage0_0 : Fin 2 → Memref sig .tc .vmem S2x2048x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S64 : Shape := ⟨1, ![64]⟩
abbrev S1 : Shape := ⟨1, ![1]⟩
abbrev S2x131072x256 : Shape := ⟨3, ![2, 131072, 256]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩
abbrev S1x131072x256 : Shape := ⟨3, ![1, 131072, 256]⟩
abbrev S131072x256 : Shape := ⟨2, ![131072, 256]⟩
abbrev S131072x1024 : Shape := ⟨2, ![131072, 1024]⟩
abbrev S64x2048x1024 : Shape := ⟨3, ![64, 2048, 1024]⟩
abbrev S1x32x1024x2048 : Shape := ⟨4, ![1, 32, 1024, 2048]⟩
abbrev S32x1024x2048 : Shape := ⟨3, ![32, 1024, 2048]⟩
abbrev S64x1 : Shape := ⟨2, ![64, 1]⟩
abbrev S64x1024x2048 : Shape := ⟨3, ![64, 1024, 2048]⟩
abbrev S64x2048x2048 : Shape := ⟨3, ![64, 2048, 2048]⟩
abbrev S1x32x1x2048 : Shape := ⟨4, ![1, 32, 1, 2048]⟩
abbrev S32x1x2048 : Shape := ⟨3, ![32, 1, 2048]⟩
abbrev S64x1x2048 : Shape := ⟨3, ![64, 1, 2048]⟩
abbrev S1x32x1024x1024 : Shape := ⟨4, ![1, 32, 1024, 1024]⟩
abbrev S32x1024x1024 : Shape := ⟨3, ![32, 1024, 1024]⟩
abbrev S64x1024x1024 : Shape := ⟨3, ![64, 1024, 1024]⟩
abbrev S1x32x1x1024 : Shape := ⟨4, ![1, 32, 1, 1024]⟩
abbrev S32x1x1024 : Shape := ⟨3, ![32, 1, 1024]⟩
abbrev S64x1x1024 : Shape := ⟨3, ![64, 1, 1024]⟩
abbrev S131072x2x2x256 : Shape := ⟨4, ![131072, 2, 2, 256]⟩
abbrev S2x131072x2x256 : Shape := ⟨4, ![2, 131072, 2, 256]⟩
abbrev S2x262144x256 : Shape := ⟨3, ![2, 262144, 256]⟩

abbrev nBuf : Space → Nat
  | .hbm => 81
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S1, .i32⟩
  | .hbm, ⟨3, _⟩ => ⟨S2x131072x256, .i32⟩
  | .hbm, ⟨4, _⟩ => ⟨S2x32x1024x2048, .f32⟩
  | .hbm, ⟨5, _⟩ => ⟨S2x32x1x2048, .f32⟩
  | .hbm, ⟨6, _⟩ => ⟨S2x32x1024x1024, .f32⟩
  | .hbm, ⟨7, _⟩ => ⟨S2x32x1x1024, .f32⟩
  | .hbm, ⟨8, _⟩ => ⟨S_, .i32⟩
  | .hbm, ⟨9, _⟩ => ⟨S2x131072x256, .i32⟩
  | .hbm, ⟨10, _⟩ => ⟨S2x131072x256, .i32⟩
  | .hbm, ⟨11, _⟩ => ⟨S2x131072x256, .f32⟩
  | .hbm, ⟨12, _⟩ => ⟨S_, .i32⟩
  | .hbm, ⟨13, _⟩ => ⟨S2x131072x256, .i32⟩
  | .hbm, ⟨14, _⟩ => ⟨S2x131072x256, .i32⟩
  | .hbm, ⟨15, _⟩ => ⟨S2x131072x256, .f32⟩
  | .hbm, ⟨16, _⟩ => ⟨S1x131072x256, .f32⟩
  | .hbm, ⟨17, _⟩ => ⟨S131072x256, .f32⟩
  | .hbm, ⟨18, _⟩ => ⟨S1x131072x256, .f32⟩
  | .hbm, ⟨19, _⟩ => ⟨S131072x256, .f32⟩
  | .hbm, ⟨20, _⟩ => ⟨S1x131072x256, .f32⟩
  | .hbm, ⟨21, _⟩ => ⟨S131072x256, .f32⟩
  | .hbm, ⟨22, _⟩ => ⟨S1x131072x256, .f32⟩
  | .hbm, ⟨23, _⟩ => ⟨S131072x256, .f32⟩
  | .hbm, ⟨24, _⟩ => ⟨S131072x1024, .f32⟩
  | .hbm, ⟨25, _⟩ => ⟨S64x2048x1024, .f32⟩
  | .hbm, ⟨26, _⟩ => ⟨S1x32x1024x2048, .f32⟩
  | .hbm, ⟨27, _⟩ => ⟨S32x1024x2048, .f32⟩
  | .hbm, ⟨28, _⟩ => ⟨S64x1, .i32⟩
  | .hbm, ⟨29, _⟩ => ⟨S64x1024x2048, .f32⟩
  | .hbm, ⟨30, _⟩ => ⟨S64x2048x2048, .f32⟩
  | .hbm, ⟨31, _⟩ => ⟨S1x32x1x2048, .f32⟩
  | .hbm, ⟨32, _⟩ => ⟨S32x1x2048, .f32⟩
  | .hbm, ⟨33, _⟩ => ⟨S64x1, .i32⟩
  | .hbm, ⟨34, _⟩ => ⟨S64x1x2048, .f32⟩
  | .hbm, ⟨35, _⟩ => ⟨S64x2048x2048, .f32⟩
  | .hbm, ⟨36, _⟩ => ⟨S64x2048x2048, .f32⟩
  | .hbm, ⟨37, _⟩ => ⟨S64x2048x1024, .f32⟩
  | .hbm, ⟨38, _⟩ => ⟨S_, .f32⟩
  | .hbm, ⟨39, _⟩ => ⟨S64x2048x1024, .f32⟩
  | .hbm, ⟨40, _⟩ => ⟨S64x2048x1024, .f32⟩
  | .hbm, ⟨41, _⟩ => ⟨S64x2048x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64x2048x1024, .f32⟩
  | .hbm, ⟨46, _⟩ => ⟨S64x2048x1024, .f32⟩
  | .hbm, ⟨47, _⟩ => ⟨S_, .f32⟩
  | .hbm, ⟨48, _⟩ => ⟨S64x2048x1024, .f32⟩
  | .hbm, ⟨49, _⟩ => ⟨S64x2048x1024, .f32⟩
  | .hbm, ⟨50, _⟩ => ⟨S_, .f32⟩
  | .hbm, ⟨51, _⟩ => ⟨S64x2048x1024, .f32⟩
  | .hbm, ⟨52, _⟩ => ⟨S64x2048x1024, .f32⟩
  | .hbm, ⟨53, _⟩ => ⟨S64x2048x1024, .f32⟩
  | .hbm, ⟨54, _⟩ => ⟨S64x2048x1024, .f32⟩
  | .hbm, ⟨55, _⟩ => ⟨S_, .f32⟩
  | .hbm, ⟨56, _⟩ => ⟨S64x2048x1024, .f32⟩
  | .hbm, ⟨57, _⟩ => ⟨S64x2048x1024, .f32⟩
  | .hbm, ⟨58, _⟩ => ⟨S_, .f32⟩
  | .hbm, ⟨59, _⟩ => ⟨S64x2048x1024, .f32⟩
  | .hbm, ⟨60, _⟩ => ⟨S64x2048x1024, .f32⟩
  | .hbm, ⟨61, _⟩ => ⟨S64x2048x1024, .f32⟩
  | .hbm, ⟨62, _⟩ => ⟨S_, .f32⟩
  | .hbm, ⟨63, _⟩ => ⟨S64x2048x1024, .f32⟩
  | .hbm, ⟨64, _⟩ => ⟨S64x2048x1024, .f32⟩
  | .hbm, ⟨65, _⟩ => ⟨S64x2048x1024, .f32⟩
  | .hbm, ⟨66, _⟩ => ⟨S1x32x1024x1024, .f32⟩
  | .hbm, ⟨67, _⟩ => ⟨S32x1024x1024, .f32⟩
  | .hbm, ⟨68, _⟩ => ⟨S64x1, .i32⟩
  | .hbm, ⟨69, _⟩ => ⟨S64x1024x1024, .f32⟩
  | .hbm, ⟨70, _⟩ => ⟨S64x2048x1024, .f32⟩
  | .hbm, ⟨71, _⟩ => ⟨S1x32x1x1024, .f32⟩
  | .hbm, ⟨72, _⟩ => ⟨S32x1x1024, .f32⟩
  | .hbm, ⟨73, _⟩ => ⟨S64x1, .i32⟩
  | .hbm, ⟨74, _⟩ => ⟨S64x1x1024, .f32⟩
  | .hbm, ⟨75, _⟩ => ⟨S64x2048x1024, .f32⟩
  | .hbm, ⟨76, _⟩ => ⟨S64x2048x1024, .f32⟩
  | .hbm, ⟨77, _⟩ => ⟨S131072x2x2x256, .f32⟩
  | .hbm, ⟨78, _⟩ => ⟨S2x131072x2x256, .f32⟩
  | .hbm, ⟨79, _⟩ => ⟨S2x262144x256, .f32⟩
  | .hbm, ⟨80, _⟩ => ⟨S2x262144x256, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel2.lean ====
abbrev S16384x1024 : Shape := ⟨2, ![16384, 1024]⟩
abbrev S4x2x16384x256 : Shape := ⟨4, ![4, 2, 16384, 256]⟩
abbrev S16384x128 : Shape := ⟨2, ![16384, 128]⟩
abbrev S1024 : Shape := ⟨1, ![1024]⟩
abbrev S1x1024 : Shape := ⟨2, ![1, 1024]⟩
abbrev S32768x1024 : Shape := ⟨2, ![32768, 1024]⟩
abbrev S1024x1024 : Shape := ⟨2, ![1024, 1024]⟩
abbrev S4x2x1024x256 : Shape := ⟨4, ![4, 2, 1024, 256]⟩
abbrev S1024x128 : Shape := ⟨2, ![1024, 128]⟩
abbrev S1024x256 : Shape := ⟨2, ![1024, 256]⟩
abbrev S1024x1 : Shape := ⟨2, ![1024, 1]⟩
abbrev S1x1x1024x256 : Shape := ⟨4, ![1, 1, 1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x2x16384x256, .i32⟩
  | .hbm, ⟨2, _⟩ => ⟨S16384x128, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S4x2x1024x256, .i32⟩
  | .local _ .vmem, ⟨3, _⟩ => ⟨S4x2x1024x256, .i32⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S4x2x16384x256 : Shape := ⟨4, ![4, 2, 16384, 256]⟩
abbrev S16384x128 : Shape := ⟨2, ![16384, 128]⟩
abbrev S1024 : Shape := ⟨1, ![1024]⟩
abbrev S_ : Shape := ⟨0, ![]⟩
abbrev S4x1x16384x256 : Shape := ⟨4, ![4, 1, 16384, 256]⟩
abbrev S4x16384x256 : Shape := ⟨3, ![4, 16384, 256]⟩
abbrev S4x16384x1024 : Shape := ⟨3, ![4, 16384, 1024]⟩
abbrev S16384x4 : Shape := ⟨2, ![16384, 4]⟩
abbrev S4x16384 : Shape := ⟨2, ![4, 16384]⟩
abbrev S4x16384x1 : Shape := ⟨3, ![4, 16384, 1]⟩
abbrev S16384 : Shape := ⟨1, ![16384]⟩
abbrev S16384x1 : Shape := ⟨2, ![16384, 1]⟩
abbrev S1x1024 : Shape := ⟨2, ![1, 1024]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x16384x256, .i32⟩
  | .hbm, ⟨2, _⟩ => ⟨S16384x128, .f32⟩
  | .hbm, ⟨3, _⟩ => ⟨S1024, .f32⟩
  | .hbm, ⟨4, _⟩ => ⟨S_, .i32⟩
  | .hbm, ⟨5, _⟩ => ⟨S4x2x16384x256, .i32⟩
  | .hbm, ⟨6, _⟩ => ⟨S4x2x16384x256, .i32⟩
  | .hbm, ⟨7, _⟩ => ⟨S4x2x16384x256, .f32⟩
  | .hbm, ⟨8, _⟩ => ⟨S_, .i32⟩
  | .hbm, ⟨9, _⟩ => ⟨S4x2x16384x256, .i32⟩
  | .hbm, ⟨10, _⟩ => ⟨S4x2x16384x256, .i32⟩
  | .hbm, ⟨11, _⟩ => ⟨S4x2x16384x256, .f32⟩
  | .hbm, ⟨12, _⟩ => ⟨S4x1x16384x256, .f32⟩
  | .hbm, ⟨13, _⟩ => ⟨S4x16384x256, .f32⟩
  | .hbm, ⟨14, _⟩ => ⟨S4x1x16384x256, .f32⟩
  | .hbm, ⟨15, _⟩ => ⟨S4x16384x256, .f32⟩
  | .hbm, ⟨16, _⟩ => ⟨S4x1x16384x256, .f32⟩
  | .hbm, ⟨17, _⟩ => ⟨S4x16384x256, .f32⟩
  | .hbm, ⟨18, _⟩ => ⟨S4x1x16384x256, .f32⟩
  | .hbm, ⟨19, _⟩ => ⟨S4x16384x256, .f32⟩
  | .hbm, ⟨20, _⟩ => ⟨S4x16384x1024, .f32⟩
  | .hbm, ⟨21, _⟩ => ⟨S16384x4, .f32⟩
  | .hbm, ⟨22, _⟩ => ⟨S4x16384, .f32⟩
  | .hbm, ⟨23, _⟩ => ⟨S4x16384x1, .f32⟩
  | .hbm, ⟨24, _⟩ => ⟨S4x16384x1024, .f32⟩
  | .hbm, ⟨25, _⟩ => ⟨S4x16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel3.lean ====
abbrev S16384x1024 : Shape := ⟨2, ![16384, 1024]⟩
abbrev S4x2x16384x256 : Shape := ⟨4, ![4, 2, 16384, 256]⟩
abbrev S16384x128 : Shape := ⟨2, ![16384, 128]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S4x2x1024x256 : Shape := ⟨4, ![4, 2, 1024, 256]⟩
abbrev S1024x128 : Shape := ⟨2, ![1024, 128]⟩
abbrev S1024x256 : Shape := ⟨2, ![1024, 256]⟩
abbrev S1024x1 : Shape := ⟨2, ![1024, 1]⟩
abbrev S1x1x1024x256 : Shape := ⟨4, ![1, 1, 1024, 256]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x2x16384x256, .i32⟩
  | .hbm, ⟨2, _⟩ => ⟨S16384x128, .f32⟩
  | .hbm, ⟨3, _⟩ => ⟨S1024, .f32⟩
  | .hbm, ⟨4, _⟩ => ⟨S32768x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S4x2x1024x256, .i32⟩
  | .local _ .vmem, ⟨3, _⟩ => ⟨S4x2x1024x256, .i32⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S4x2x16384x256 : Shape := ⟨4, ![4, 2, 16384, 256]⟩
abbrev S16384x128 : Shape := ⟨2, ![16384, 128]⟩
abbrev S1024 : Shape := ⟨1, ![1024]⟩
abbrev S32768x1024 : Shape := ⟨2, ![32768, 1024]⟩
abbrev S_ : Shape := ⟨0, ![]⟩
abbrev S4x1x16384x256 : Shape := ⟨4, ![4, 1, 16384, 256]⟩
abbrev S4x16384x256 : Shape := ⟨3, ![4, 16384, 256]⟩
abbrev S4x16384x1024 : Shape := ⟨3, ![4, 16384, 1024]⟩
abbrev S16384x4 : Shape := ⟨2, ![16384, 4]⟩
abbrev S4x16384 : Shape := ⟨2, ![4, 16384]⟩
abbrev S4x16384x1 : Shape := ⟨3, ![4, 16384, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x16384x256, .i32⟩
  | .hbm, ⟨2, _⟩ => ⟨S16384x128, .f32⟩
  | .hbm, ⟨3, _⟩ => ⟨S1024, .f32⟩
  | .hbm, ⟨4, _⟩ => ⟨S32768x1024, .f32⟩
  | .hbm, ⟨5, _⟩ => ⟨S_, .i32⟩
  | .hbm, ⟨6, _⟩ => ⟨S4x2x16384x256, .i32⟩
  | .hbm, ⟨7, _⟩ => ⟨S4x2x16384x256, .i32⟩
  | .hbm, ⟨8, _⟩ => ⟨S4x2x16384x256, .f32⟩
  | .hbm, ⟨9, _⟩ => ⟨S_, .i32⟩
  | .hbm, ⟨10, _⟩ => ⟨S4x2x16384x256, .i32⟩
  | .hbm, ⟨11, _⟩ => ⟨S4x2x16384x256, .i32⟩
  | .hbm, ⟨12, _⟩ => ⟨S4x2x16384x256, .f32⟩
  | .hbm, ⟨13, _⟩ => ⟨S4x1x16384x256, .f32⟩
  | .hbm, ⟨14, _⟩ => ⟨S4x16384x256, .f32⟩
  | .hbm, ⟨15, _⟩ => ⟨S4x1x16384x256, .f32⟩
  | .hbm, ⟨16, _⟩ => ⟨S4x16384x256, .f32⟩
  | .hbm, ⟨17, _⟩ => ⟨S4x1x16384x256, .f32⟩
  | .hbm, ⟨18, _⟩ => ⟨S4x16384x256, .f32⟩
  | .hbm, ⟨19, _⟩ => ⟨S4x1x16384x256, .f32⟩
  | .hbm, ⟨20, _⟩ => ⟨S4x16384x256, .f32⟩
  | .hbm, ⟨21, _⟩ => ⟨S4x16384x1024, .f32⟩
  | .hbm, ⟨22, _⟩ => ⟨S16384x4, .f32⟩
  | .hbm, ⟨23, _⟩ => ⟨S4x16384, .f32⟩
  | .hbm, ⟨24, _⟩ => ⟨S4x16384x1, .f32⟩
  | .hbm, ⟨25, _⟩ => ⟨S4x16384x1024, .f32⟩
  | .hbm, ⟨26, _⟩ => ⟨S4x16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.K.Run3.lean ====
/-
  One trip of the loop of 1024-row runs.
-/
module

public import proofs.«01_k».proof.Proof.K.Geometry

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- One trip: 1024 rows, the next ones up from the finished rows at the bottom. -/
theorem trip3 (X4 : BufTy.Contents (Elt F) arg4.view.ty) (X6 : BufTy.Contents (Elt F) arg6.view.ty) (X8 : BufTy.Contents (Elt F) arg8.view.ty) (X10 : BufTy.Contents (Elt F) arg10.view.ty) (X11 : BufTy.Contents (Elt F) arg11.view.ty)
    (v9 : BitVec 32) (n : Fin 9) (hc : k0_chk1 i v9 (nb n)) (v17 : BitVec 32) (h2 : k0_cond2 i v9 (nb n) = 1#1) (k : Fin (k0_t3_loop (nb n)).trips) (acc : BitVec 32)
    (f9 : BufTy.Contents (Elt F) arg9.view.ty) (f12 : BufTy.Contents (Elt F) arg12.view.ty) :
    iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg9.view.loc (c : Thread nD τ) ↦[arg9.view.set]{fullShare} f9) ∗ (arg12.view.loc (c : Thread nD τ) ↦[arg12.view.set]{fullShare} f12))
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 v9 (nb n) hc v17 h2 k acc)
          (fun _ => iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9', (arg9.view.loc (c : Thread nD τ) ↦[arg9.view.set]{fullShare} f9')) ∗ (∃ f12', (arg12.view.loc (c : Thread nD τ) ↦[arg12.view.set]{fullShare} f12')) : sProp 𝕄)) := by
  unfold k0_t3_body
  iintro ⟨H4, H6, H8, H10, H11, H9, H12⟩
  sl_exec
  sl_step
  isplitl [H4]; · iexact H4
  isplitl [H6]; · iexact H6
  isplitl [H8]; · iexact H8
  isplitl [H10]; · iexact H10
  isplitl [H11]; · iexact H11
  isplitl [H9]
  · iexists _; iexact H9
  · iexists _; iexact H12

end Cert.Kernel.Hand

end
-- ==== Proof.K.Runs.lean ====
/-
  The loops of one grid point: the two that recast the expert's weights, the one over 1024-row runs, and the loop left over
  after it, which has no trips.
-/
module

public import proofs.«01_k».proof.Proof.K.Run3

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- One trip recasts the next rows. -/
theorem trip1 (X : BufTy.Contents (Elt F) arg5.view.ty) (k : Fin k0_t1_loop.trips) (acc : Unit) (f : BufTy.Contents (Elt F) arg10.view.ty) :
    iprop((arg5.view.loc (c : Thread nD τ) ↦[arg5.view.set]{fullShare} X) ∗ (arg10.view.loc (c : Thread nD τ) ↦[arg10.view.set]{fullShare} f))
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k acc)
          (fun _ => iprop((arg5.view.loc (c : Thread nD τ) ↦[arg5.view.set]{fullShare} X) ∗ (∃ f', (arg10.view.loc (c : Thread nD τ) ↦[arg10.view.set]{fullShare} f')) : sProp 𝕄)) := by
  unfold k0_t1_body
  iintro ⟨HR, HW⟩
  sl_exec
  sl_step
  isplitl [HR]; · iexact HR
  iexists _; iexact HW

set_option warn.classDefReducibility false in
/-- The recast loop over arg5: before trip `k` the trips so far have recast their rows. -/
@[sl_loop] def recastLoop1 (X : BufTy.Contents (Elt F) arg5.view.ty) :
    Idealize.ShloMosaic.LoopInv (M := 𝕄) Idealize.ShloMosaic.frame (wpE (defs₀ (F := F)) 𝒱 (c : Thread nD τ) bd) E k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12) where
  inv k _ := iprop((arg5.view.loc (c : Thread nD τ) ↦[arg5.view.set]{fullShare} X) ∗ (∃ f, (arg10.view.loc (c : Thread nD τ) ↦[arg10.view.set]{fullShare} f)))
  step k acc := by
    iintro ⟨HR, ⟨%f, HW⟩⟩
    iapply (wp_wand_r Idealize.ShloMosaic.frame (wpE (defs₀ (F := F)) 𝒱 (c : Thread nD τ) bd) E)
    isplitl [HR HW]
    · iapply (trip1 (F := F) 𝒱 c bd E i arg1 harg1 arg2 harg2 arg3 harg3 arg4 harg4 arg5 harg5 arg6 harg6 arg7 harg7 arg8 harg8 arg9 harg9 arg10 harg10 arg11 harg11 arg12 harg12 X k acc f)
      isplitl [HR]; · iexact HR
      iexact HW
    · iintro %_ H
      iexact H

/-- One trip recasts the next rows. -/
theorem trip2 (X : BufTy.Contents (Elt F) arg7.view.ty) (k : Fin k0_t2_loop.trips) (acc : Unit) (f : BufTy.Contents (Elt F) arg11.view.ty) :
    iprop((arg7.view.loc (c : Thread nD τ) ↦[arg7.view.set]{fullShare} X) ∗ (arg11.view.loc (c : Thread nD τ) ↦[arg11.view.set]{fullShare} f))
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k acc)
          (fun _ => iprop((arg7.view.loc (c : Thread nD τ) ↦[arg7.view.set]{fullShare} X) ∗ (∃ f', (arg11.view.loc (c : Thread nD τ) ↦[arg11.view.set]{fullShare} f')) : sProp 𝕄)) := by
  unfold k0_t2_body
  iintro ⟨HR, HW⟩
  sl_exec
  sl_step
  isplitl [HR]; · iexact HR
  iexists _; iexact HW

set_option warn.classDefReducibility false in
/-- The recast loop over arg7: before trip `k` the trips so far have recast their rows. -/
@[sl_loop] def recastLoop2 (X : BufTy.Contents (Elt F) arg7.view.ty) :
    Idealize.ShloMosaic.LoopInv (M := 𝕄) Idealize.ShloMosaic.frame (wpE (defs₀ (F := F)) 𝒱 (c : Thread nD τ) bd) E k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12) where
  inv k _ := iprop((arg7.view.loc (c : Thread nD τ) ↦[arg7.view.set]{fullShare} X) ∗ (∃ f, (arg11.view.loc (c : Thread nD τ) ↦[arg11.view.set]{fullShare} f)))
  step k acc := by
    iintro ⟨HR, ⟨%f, HW⟩⟩
    iapply (wp_wand_r Idealize.ShloMosaic.frame (wpE (defs₀ (F := F)) 𝒱 (c : Thread nD τ) bd) E)
    isplitl [HR HW]
    · iapply (trip2 (F := F) 𝒱 c bd E i arg1 harg1 arg2 harg2 arg3 harg3 arg4 harg4 arg5 harg5 arg6 harg6 arg7 harg7 arg8 harg8 arg9 harg9 arg10 harg10 arg11 harg11 arg12 harg12 X k acc f)
      isplitl [HR]; · iexact HR
      iexact HW
    · iintro %_ H
      iexact H

set_option warn.classDefReducibility false in
/-- The loop over 1024-row runs: before trip `k` the last `1024 * k` rows are finished. -/
@[sl_loop] def runLoop (X4 : BufTy.Contents (Elt F) arg4.view.ty) (X6 : BufTy.Contents (Elt F) arg6.view.ty) (X8 : BufTy.Contents (Elt F) arg8.view.ty) (X10 : BufTy.Contents (Elt F) arg10.view.ty) (X11 : BufTy.Contents (Elt F) arg11.view.ty) (v9 : BitVec 32) (n : Fin 9) (hc : k0_chk1 i v9 (nb n)) (v17 : BitVec 32) (h2 : k0_cond2 i v9 (nb n) = 1#1) (init : BitVec 32) :
    Idealize.ShloMosaic.LoopInv (M := 𝕄) Idealize.ShloMosaic.frame (wpE (defs₀ (F := F)) 𝒱 (c : Thread nD τ) bd) E (k0_t3_loop (nb n)).lb (k0_t3_loop (nb n)).ub (k0_t3_loop (nb n)).st (k0_t3_ok i v9 (nb n) hc h2) init (k0_t3_body (F := F) i arg1 harg1 arg2 harg2 arg3 harg3 arg4 harg4 arg5 harg5 arg6 harg6 arg7 harg7 arg8 harg8 arg9 harg9 arg10 harg10 arg11 harg11 arg12 harg12 v9 (nb n) hc v17 h2) where
  inv k _ := iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9, (arg9.view.loc (c : Thread nD τ) ↦[arg9.view.set]{fullShare} f9)) ∗ (∃ f12, (arg12.view.loc (c : Thread nD τ) ↦[arg12.view.set]{fullShare} f12)))
  step k acc := by
    iintro ⟨H4, H6, H8, H10, H11, ⟨%f9, H9⟩, ⟨%f12, H12⟩⟩
    iapply (wp_wand_r Idealize.ShloMosaic.frame (wpE (defs₀ (F := F)) 𝒱 (c : Thread nD τ) bd) E)
    isplitl [H4 H6 H8 H10 H11 H9 H12]
    · iapply (trip3 (F := F) 𝒱 c bd E i arg1 harg1 arg2 harg2 arg3 harg3 arg4 harg4 arg5 harg5 arg6 harg6 arg7 harg7 arg8 harg8 arg9 harg9 arg10 harg10 arg11 harg11 arg12 harg12 X4 X6 X8 X10 X11 v9 n hc v17 h2 k acc f9 f12)
      isplitl [H4]; · iexact H4
      isplitl [H6]; · iexact H6
      isplitl [H8]; · iexact H8
      isplitl [H10]; · iexact H10
      isplitl [H11]; · iexact H11
      isplitl [H9]; · iexact H9
      iexact H12
    · iintro %_ H
      iexact H

set_option warn.classDefReducibility false in
/-- The loop left over has no trips: whatever holds before it holds after it. -/
@[sl_loop] def leftLoop (X4 : BufTy.Contents (Elt F) arg4.view.ty) (X6 : BufTy.Contents (Elt F) arg6.view.ty) (X8 : BufTy.Contents (Elt F) arg8.view.ty) (X10 : BufTy.Contents (Elt F) arg10.view.ty) (X11 : BufTy.Contents (Elt F) arg11.view.ty) (v9 : BitVec 32) (n : Fin 9) (hc : k0_chk1 i v9 (nb n)) (v17 : BitVec 32) (h2 : k0_cond2 i v9 (nb n) = 1#1) (v53 : BitVec 32) (init : BitVec 32) :
    Idealize.ShloMosaic.LoopInv (M := 𝕄) Idealize.ShloMosaic.frame (wpE (defs₀ (F := F)) 𝒱 (c : Thread nD τ) bd) E (k0_t4_loop (nb n)).lb (k0_t4_loop (nb n)).ub (k0_t4_loop (nb n)).st (k0_t4_ok i v9 (nb n) hc h2) init (k0_t4_body (F := F) i arg1 harg1 arg2 harg2 arg3 harg3 arg4 harg4 arg5 harg5 arg6 harg6 arg7 harg7 arg8 harg8 arg9 harg9 arg10 harg10 arg11 harg11 arg12 harg12 v9 (nb n) hc v17 h2 v53) where
  inv k _ := iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9, (arg9.view.loc (c : Thread nD τ) ↦[arg9.view.set]{fullShare} f9)) ∗ (∃ f12, (arg12.view.loc (c : Thread nD τ) ↦[arg12.view.set]{fullShare} f12)))
  step k acc := (Nat.not_lt_zero _ (Nat.lt_of_lt_of_eq k.isLt (trips4 n))).elim

end Cert.Kernel.Hand

end
-- ==== Proof.K.Part13.lean ====
/-
  The first part of a grid point: recast the expert's weights if they are new, then the runs of 1024 rows.
-/
module

public import proofs.«01_k».proof.Proof.K.Runs

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The expert of point `i`, the expert of the point before it, its number of 256-row blocks, and the number of points that
have any rows: words of the three tables. -/
def curWord (i : grid0.Coords) (arg1 : Memref sig .tc .smem S64 .i32) (X : BufTy.Contents (Elt F) arg1.view.ty) : BitVec 32 :=
  View.readAt (Elt F) arg1.view (Rect.unit (s := S64) (k0_off1 i) S1.size (k0_off1_inb i)).toLoadRect X (Shape.Idx.first (numel1_S1.symm ▸ Nat.one_pos))
def prevWord (i : grid0.Coords) (arg1 : Memref sig .tc .smem S64 .i32) (X : BufTy.Contents (Elt F) arg1.view.ty) : BitVec 32 :=
  View.readAt (Elt F) arg1.view (Rect.unit (s := S64) (k0_off2 i) S1.size (k0_off2_inb i)).toLoadRect X (Shape.Idx.first (numel1_S1.symm ▸ Nat.one_pos))
def blkWord (i : grid0.Coords) (arg2 : Memref sig .tc .smem S64 .i32) (X : BufTy.Contents (Elt F) arg2.view.ty) : BitVec 32 :=
  View.readAt (Elt F) arg2.view (Rect.unit (s := S64) (k0_off7 i) S1.size (k0_off7_inb i)).toLoadRect X (Shape.Idx.first (numel1_S1.symm ▸ Nat.one_pos))
def limWord (arg3 : Memref sig .tc .smem S1 .i32) (X : BufTy.Contents (Elt F) arg3.view.ty) : BitVec 32 :=
  View.readAt (Elt F) arg3.view (Rect.unit (s := S1) ![0] S1.size inb_S1_S1_0).toLoadRect X (Shape.Idx.first (numel1_S1.symm ▸ Nat.one_pos))

/-- The point has rows. -/
def live (i : grid0.Coords) (v9 : BitVec 32) : BitVec 1 := Scalar.cmpi .slt (BitVec.ofNat 32 (i 0).val) v9

/-- The point has rows and its expert is not the one before. -/
def fresh (i : grid0.Coords) (v9 cur prev : BitVec 32) : BitVec 1 :=
  Scalar.cmpi .ne (Scalar.extui (Scalar.andi (live i v9) (Scalar.ori (Scalar.cmpi .eq (BitVec.ofNat 32 (i 0).val) 0#32) (Scalar.cmpi .ne cur prev)))) 0#32
theorem live_of_fresh (i : grid0.Coords) (v9 cur prev : BitVec 32) (h : fresh i v9 cur prev = 1#1) : live i v9 = 1#1 := by
  unfold fresh at h
  by_contra hl
  have hz : live i v9 = 0#1 := by
    rcases BitVec.eq_zero_or_eq_one (live i v9) with h0 | h1
    · exact h0
    · exact absurd h1 hl
  rw [hz] at h
  revert h
  generalize Scalar.ori (Scalar.cmpi .eq (BitVec.ofNat 32 (i 0).val) 0#32) (Scalar.cmpi .ne cur prev) = b
  revert b
  decide

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

theorem part13FreshRuns (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n)
    (hrc : fresh i (limWord arg3 X3) (curWord i arg1 X1) (prevWord i arg1 X1) = 1#1) (h2 : k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (k0_part13 (F := F) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  rw [k0_part13_eq_skeleton]; unfold k0_part13_skel
  iintro ⟨H1, H2, H3, H4, H5, H6, H7, H8, H9, H10, H11, H12⟩
  have hl : live i (limWord arg3 X3) = 1#1 := live_of_fresh _ _ _ _ hrc
  sl_exec
  have hn' : part13FreshRuns.sl.r_3 i arg2 X2 = nb n := hn
  have hl' : part13FreshRuns.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  exact fun h => absurd hl h

theorem part13FreshNone (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n)
    (hrc : fresh i (limWord arg3 X3) (curWord i arg1 X1) (prevWord i arg1 X1) = 1#1) (h2 : ¬ k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (k0_part13 (F := F) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  rw [k0_part13_eq_skeleton]; unfold k0_part13_skel
  iintro ⟨H1, H2, H3, H4, H5, H6, H7, H8, H9, H10, H11, H12⟩
  have hl : live i (limWord arg3 X3) = 1#1 := live_of_fresh _ _ _ _ hrc
  sl_exec
  have hn' : part13FreshNone.sl.r_3 i arg2 X2 = nb n := hn
  have hl' : part13FreshNone.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  exact fun h => absurd hl h

theorem part13KeptRuns (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n)
    (hrc : ¬ fresh i (limWord arg3 X3) (curWord i arg1 X1) (prevWord i arg1 X1) = 1#1) (h2 : k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (k0_part13 (F := F) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  rw [k0_part13_eq_skeleton]; unfold k0_part13_skel
  iintro ⟨H1, H2, H3, H4, H5, H6, H7, H8, H9, H10, H11, H12⟩
  sl_exec
  have hn' : part13KeptRuns.sl.r_3 i arg2 X2 = nb n := hn
  have hl' : part13KeptRuns.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  exact fun h => absurd ((cond2_iff i (limWord arg3 X3) n).mp h2).1 h

theorem part13KeptNone (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n)
    (hrc : ¬ fresh i (limWord arg3 X3) (curWord i arg1 X1) (prevWord i arg1 X1) = 1#1) (h2 : ¬ k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (k0_part13 (F := F) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  rw [k0_part13_eq_skeleton]; unfold k0_part13_skel
  iintro ⟨H1, H2, H3, H4, H5, H6, H7, H8, H9, H10, H11, H12⟩
  sl_exec
  have hn' : part13KeptNone.sl.r_3 i arg2 X2 = nb n := hn
  have hl' : part13KeptNone.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  exact fun _ => ⟨rfl, rfl, rfl⟩

/-- The first part, whatever the tables say. -/
theorem part13 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (k0_part13 (F := F) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  by_cases hrc : fresh i (limWord arg3 X3) (curWord i arg1 X1) (prevWord i arg1 X1) = 1#1
  · by_cases h2 : k0_cond2 i (limWord arg3 X3) (nb n) = 1#1
    · exact part13FreshRuns 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hrc h2
    · exact part13FreshNone 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hrc h2
  · by_cases h2 : k0_cond2 i (limWord arg3 X3) (nb n) = 1#1
    · exact part13KeptRuns 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hrc h2
    · exact part13KeptNone 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hrc h2

end Cert.Kernel.Hand

end
-- ==== Proof.K.Point.lean ====
/-
  The first part of a grid point: recast the expert's weights if they are new, then the runs of 1024 rows.
-/
module

public import proofs.«01_k».proof.Proof.K.Part13

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- One grid point: the buffers it reads are unchanged; at a point with rows the scratch holds the expert's weights, recast,
and the result window's rows from \`2048 - 256 n\` on hold the expert's results; at a point without rows nothing changes. -/
theorem point (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (n : Fin 9)
    (hn : (blkWord i arg2 X2) = nb n) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := F)) 𝒱 (c : Thread nD τ) bd) E (cc0_experts (F := F) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜¬ live i (limWord arg3 X3) = 1#1 → f9' = f9 ∧ f10' = f10 ∧ f11' = f11⌝) : sProp 𝕄)) := by
  rw [cc0_experts_eq_skeleton]; unfold cc0_experts_skel
  iintro ⟨H1, H2, H3, H4, H5, H6, H7, H8, H9, H10, H11, H12⟩
  have hcut := part13 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn
  sl_exec
  sl_step
  have e9 : v9 = limWord arg3 X3 := hk0_part13_0
  have e15 : v15 = nb n := hk0_part13_1
  isplitl [Hk0_part13_2]; · iexact Hk0_part13_2
  isplitl [Hk0_part13_3]; · iexact Hk0_part13_3
  isplitl [Hk0_part13_4]; · iexact Hk0_part13_4
  isplitl [Hk0_part13_5]; · iexact Hk0_part13_5
  isplitl [Hk0_part13_6]; · iexact Hk0_part13_6
  isplitl [Hk0_part13_7]; · iexact Hk0_part13_7
  isplitl [Hk0_part13_8]; · iexact Hk0_part13_8
  isplitl [Hk0_part13_9]; · iexact Hk0_part13_9
  iexists _; iexists _; iexists _; iexists _
  isplitl [Hk0_part13_10]; · iexact Hk0_part13_10
  isplitl [Hk0_part13_11]; · iexact Hk0_part13_11
  isplitl [Hk0_part13_12]; · iexact Hk0_part13_12
  isplitl [Hk0_part13_13]; · iexact Hk0_part13_13
  ipureintro
  subst e9 e15
  have hno3 : ¬ live i (limWord arg3 X3) = 1#1 → ¬ k0_cond3 i (limWord arg3 X3) (nb n) = 1#1 := fun h h3 => h ((cond3_iff i (limWord arg3 X3) n).mp h3).1
  have hno4 : ¬ live i (limWord arg3 X3) = 1#1 → ¬ k0_cond4 i (limWord arg3 X3) (nb n) = 1#1 := fun h h4 => h ((cond4_iff i (limWord arg3 X3) n).mp h4).1
  intro hl
  refine ⟨?_, (hk0_part13_14 hl).2⟩
  rw [dif_neg (hno4 hl), dif_neg (hno3 hl)]
  exact (hk0_part13_14 hl).1

end Cert.Kernel.Hand

end
-- ==== Proof.Loads.lean ====
/-
  A load through a unit-stride rectangle, read at one index.
-/
module

public import Idealize.ShloMosaic.Lib.WritesUnit
public import Idealize.ShloMosaic.Lib.VecWindow

@[expose] public section

namespace Cert.Hand

open Idealize.ShloMosaic

/-- The element a load finds at position `x` of its rectangle is the view's element at the offsets plus `x`. -/
theorem readAt_unit_apply {sig : RefSig} {κ : Kind} {sp : Space} {s : Shape} {e : EltTy} {Val : EltTy → Type}
    (v : View sig κ sp s e) (X : v.ty.Contents Val) {off off' size : Fin s.rank → ℕ} (inb : ∀ a, off a + size a ≤ s.size a)
    (x : (Rect.unit off size inb).shape.Idx) (y : s.Idx) (heq : off = off') (hx : ∀ a, (y a).val = off' a + (x a).val) :
    v.readAt Val (Rect.unit off size inb).toLoadRect X x = v.read Val X y := by
  subst heq
  have hy : (Rect.unit off size inb).emb x = y := funext fun a => Fin.ext (by
    show off a + 1 * (x a).val = (y a).val
    rw [hx a, Nat.one_mul])
  exact congrArg (v.read Val X) hy

end Cert.Hand

end
-- ==== Proof.Steps.lean ====
/-
  The order of the steps: which steps have rows, and which block of the rows a step's window is.
-/
module

public import Idealize.ShloMosaic.PureOps

@[expose] public section

namespace Cert.Hand

open Idealize.ShloMosaic

/-- Step `t` is before step `v`, a signed word. -/
def Before (t : ℕ) (v : BitVec 32) : Prop := (t : ℤ) < v.toInt

/-- The block of rows that step `t` works on: its own, but from the last step with rows on, that step's. -/
def stepBlock (t : ℕ) (v : BitVec 32) : ℕ :=
  (Scalar.minsi (BitVec.ofNat 32 t) (Scalar.maxsi (Scalar.subi v 1#32) 0#32)).toNat

theorem toInt_small {t : ℕ} (h : t < 64) : (BitVec.ofNat 32 t).toInt = t := by
  rw [BitVec.toInt_eq_toNat_cond, BitVec.toNat_ofNat]
  omega

theorem before_iff {t : ℕ} (h : t < 64) (v : BitVec 32) : Scalar.cmpi .slt (BitVec.ofNat 32 t) v = 1#1 ↔ Before t v := by
  show BitVec.ofBool ((BitVec.ofNat 32 t).slt v) = 1#1 ↔ _
  unfold Before
  rw [← toInt_small h, ← BitVec.slt_iff_toInt_lt]
  cases (BitVec.ofNat 32 t).slt v <;> decide

theorem stepBlock_eq {t : ℕ} (h : t < 64) (v : BitVec 32) :
    stepBlock t v = if (t : ℤ) < max (v - 1#32).toInt 0 then t else (max (v - 1#32).toInt 0).toNat := by
  show (if (BitVec.ofNat 32 t).slt (if (0#32).slt (v - 1#32) then v - 1#32 else 0#32) then BitVec.ofNat 32 t
    else (if (0#32).slt (v - 1#32) then v - 1#32 else 0#32)).toNat = _
  have h0 : (0#32).toInt = 0 := rfl
  have hn : ∀ x : BitVec 32, 0 < x.toInt → x.toNat = x.toInt.toNat := by
    intro x hx
    rw [BitVec.toInt_eq_toNat_cond] at hx ⊢
    split at hx <;> omega
  by_cases hp : (0#32).slt (v - 1#32)
  · have hp' := BitVec.slt_iff_toInt_lt.mp hp
    rw [h0] at hp'
    rw [if_pos hp, max_eq_left (le_of_lt hp')]
    by_cases hs : (BitVec.ofNat 32 t).slt (v - 1#32)
    · have hs' := BitVec.slt_iff_toInt_lt.mp hs
      rw [toInt_small h] at hs'
      rw [if_pos hs, if_pos hs', BitVec.toNat_ofNat]; omega
    · have hs' := fun h' => hs (BitVec.slt_iff_toInt_lt.mpr h')
      rw [toInt_small h] at hs'
      rw [if_neg hs, if_neg hs', hn _ hp']
  · have hp' := fun h' => hp (BitVec.slt_iff_toInt_lt.mpr h')
    rw [h0] at hp'
    rw [if_neg hp, max_eq_right (not_lt.mp hp')]
    have hs : ¬ (BitVec.ofNat 32 t).slt 0#32 = true := by
      intro hs
      have hs' := BitVec.slt_iff_toInt_lt.mp hs
      rw [toInt_small h, h0] at hs'
      omega
    rw [if_neg hs, if_neg (by omega)]; rfl

/-- One less than a word, unless it is the least. -/
theorem toInt_pred {v : BitVec 32} (h : 0 < v.toInt) : (v - 1#32).toInt = v.toInt - 1 := by
  have hv := v.toInt_lt
  rw [BitVec.toInt_sub]
  have h1 : (1#32).toInt = 1 := rfl
  rw [h1]
  rw [Int.bmod_eq_of_le] <;> simp at hv ⊢ <;> omega

theorem stepBlock_le {t : ℕ} (h : t < 64) (v : BitVec 32) : stepBlock t v ≤ t := by
  rw [stepBlock_eq h]; split <;> omega

theorem stepBlock_of_before {t : ℕ} (h : t < 64) {v : BitVec 32} (hb : Before t v) : stepBlock t v = t := by
  unfold Before at hb
  rw [stepBlock_eq h, toInt_pred (by omega)]; split <;> omega

/-- After the last step with rows the block stays. -/
theorem stepBlock_stays {t : ℕ} (h : t + 1 < 64) {v : BitVec 32} (hp : 0 < v.toInt) (hb : ¬ Before (t + 1) v) :
    stepBlock (t + 1) v = stepBlock t v := by
  unfold Before at hb
  rw [stepBlock_eq h, stepBlock_eq (by omega), toInt_pred hp]
  split <;> split <;> omega

/-- A step whose block is one with rows: if it has no rows itself, it is not the first, and the block is that of the step before. -/
theorem stepBlock_before {t : ℕ} (h : t < 64) {v : BitVec 32} (hb : Before (stepBlock t v) v) (hn : ¬ Before t v) :
    ∃ s, t = s + 1 ∧ stepBlock t v = stepBlock s v := by
  have hp : 0 < v.toInt := by unfold Before at hb; omega
  cases t with
  | zero => exact absurd (show Before 0 v by unfold Before; exact_mod_cast hp) hn
  | succ s => exact ⟨s, rfl, stepBlock_stays h hp hn⟩

/-- The last step with rows gives its block to every step after it. -/
theorem stepBlock_last {s t : ℕ} (hst : s ≤ t) (h : t < 64) {v : BitVec 32} (hb : Before s v) (hn : ¬ Before (s + 1) v) :
    stepBlock t v = s := by
  unfold Before at hb hn
  rw [stepBlock_eq h, toInt_pred (by omega)]
  split <;> omega

end Cert.Hand
-- ==== Proof.K.Launch.lean ====
/-
  The kernel's run on its grid: it terminates, its arguments end unchanged and every counter returns to zero.
-/
module

public import proofs.«01_k».proof.Proof.K.Tables
public import proofs.«01_k».proof.Proof.Gen.Kernel.Launch
public import Idealize.ShloMosaic.Lib.Pipeline.Frame
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The tables at launch, on the one device. -/
def tables : pre0.Contents (Elt F) := fun k => m (((0 : Dev nD) : Thread nD τ).loc (pre0.ref k))

variable (hr : InRange (tables m))

/-- The tables as contents the pipeline admits. -/
abbrev adm : (p : Fin 1) → (pcfgs (F := F) p).Adm := fun _ => ⟨tables m, ok_of_inRange _ hr⟩

abbrev cfgA := cfg0 (F := F) ⟨tables m, ok_of_inRange _ hr⟩

/-- What is kept between grid points: the scratch and the generator at anything, the tables at their contents. Nothing is
said of what a point leaves in the windows. -/
def rdat (c : Dev nD) : RDat τ (Elt F) Unit ℕ (UR sig nD τ) ℕ (cfgA m hr) c where
  A w := m ((c : Thread nD τ).loc (Pipeline.arrRef spec0 w))
  after _ _ _ _ := True
  Φ _ := iprop(Pipeline.ΦA spec0 c ∗ Pipeline.ΦT pre0 (tables m) c)
  q _ := fullShare
  owed _ := 0

section Body

variable {m hr}

/-- The staging buffer of window `w` at point `t`. -/
abbrev stg (w : Fin 6) (t : Fin (cfgA m hr).N) := ((cfgA m hr).win w).stage ((cfgA m hr).slots t w)

/-- The body's program at a grid point. -/
abbrev bodyAt (t : Fin (cfgA m hr).N) :=
  cc0_experts (F := F) (grid0.coords t) (Memref.whole main_arg0) (Memref.isWhole_whole _) (Memref.whole main_arg1) (Memref.isWhole_whole _) (Memref.whole main_arg2) (Memref.isWhole_whole _) (spec0_0.stage ((cfgA m hr).slots t 0)) (hstage0_0 (((cfgA m hr).slots t 0).cast nbuf0_0)) (spec0_1.stage ((cfgA m hr).slots t 1)) (hstage0_1 (((cfgA m hr).slots t 1).cast nbuf0_1)) (spec0_2.stage ((cfgA m hr).slots t 2)) (hstage0_2 (((cfgA m hr).slots t 2).cast nbuf0_2)) (spec0_3.stage ((cfgA m hr).slots t 3)) (hstage0_3 (((cfgA m hr).slots t 3).cast nbuf0_3)) (spec0_4.stage ((cfgA m hr).slots t 4)) (hstage0_4 (((cfgA m hr).slots t 4).cast nbuf0_4)) (spec0_5.stage ((cfgA m hr).slots t 5)) (hstage0_5 (((cfgA m hr).slots t 5).cast nbuf0_5)) (Memref.whole cc0_scratch0) (Memref.isWhole_whole _) (Memref.whole cc0_scratch1) (Memref.isWhole_whole _) (Memref.whole cc0_scratch2) (Memref.isWhole_whole _)

theorem row_eq (t : Fin (cfgA m hr).N) :
    defs₀ (F := F) .tc (cfgA m hr).body ((cfgA m hr).bodyArgs t ((cfgA m hr).slots t)) = bodyAt t := by
  unfold defs₀; rw [Defs.onTc_tc]

end Body
/-- The tables, one by one. -/
theorem tables_eq (c : Dev nD) : (Pipeline.ΦT pre0 (tables m) c : sProp 𝕄)
    = (iprop(owns (c : Thread nD τ) (Memref.whole main_arg0) fullShare.right (tables m 0)
      ∗ owns (c : Thread nD τ) (Memref.whole main_arg1) fullShare.right (tables m 1)
      ∗ owns (c : Thread nD τ) (Memref.whole main_arg2) fullShare.right (tables m 2)) : sProp 𝕄) := by
  unfold Pipeline.ΦT Pipeline.prefHeld
  exact (bigSep_univ_eq_bigSepL (M := 𝕄) [(0 : Fin 3), (1 : Fin 3), (2 : Fin 3)] (by decide) (by decide)
    fun k : Fin 3 => ((c.tc : Thread nD τ).loc (pre0.ref k)) ↦{fullShare.right} tables m k).trans
    (congrArg₂ BIBase.sep (owns_whole (c : Thread nD τ) main_arg0 fullShare.right (tables m 0)).symm
      (congrArg₂ BIBase.sep (owns_whole (c : Thread nD τ) main_arg1 fullShare.right (tables m 1)).symm
        (owns_whole (c : Thread nD τ) main_arg2 fullShare.right (tables m 2)).symm))

/-- The scratch, one by one. -/
theorem scratch_eq (c : Dev nD) : (Pipeline.ΦA (U := UR sig nD τ) (Val := Elt F) spec0 c : sProp 𝕄)
    = (iprop(((∃ f, owns (c : Thread nD τ) (Memref.whole cc0_scratch0) fullShare f)
      ∗ (∃ f, owns (c : Thread nD τ) (Memref.whole cc0_scratch1) fullShare f)
      ∗ (∃ f, owns (c : Thread nD τ) (Memref.whole cc0_scratch2) fullShare f)) ∗ ∃ r, prngReg c r) : sProp 𝕄) := by
  unfold Pipeline.ΦA
  rw [scopedRest0_eq]
  simp only [owns_whole]

/-- The body at every grid point. -/
theorem body_obligation (c : Dev nD) : (rdat m hr c).BodyObligation (defs₀ (F := F)) Variants.none () Set.univ := fun t Y _ => by
  rw [bigSep_W0, bigSep_W0, row_eq]
  have hn : blkWord (grid0.coords t) (Memref.whole main_arg1) (tables m 1) = nb ⟨(blocksOf (tables m) (stepOf (grid0.coords t))).toNat, hr.2 _⟩ := by
    rw [blkWord_eq]; simp [nb]
  have key : iprop((rdat m hr c).Φ t.castSucc ∗ (rdat m hr c).owesAt () t.castSucc
        ∗ owns (c : Thread nD τ) (stg 0 t) fullShare (Y 0) ∗ owns (c : Thread nD τ) (stg 1 t) fullShare (Y 1) ∗ owns (c : Thread nD τ) (stg 2 t) fullShare (Y 2) ∗ owns (c : Thread nD τ) (stg 3 t) fullShare (Y 3) ∗ owns (c : Thread nD τ) (stg 4 t) fullShare (Y 4) ∗ owns (c : Thread nD τ) (stg 5 t) fullShare (Y 5))
      ⊢ wp frame (wpE (defs₀ (F := F)) Variants.none (c : Thread nD τ) none) Set.univ (bodyAt t)
        (fun _ => iprop((rdat m hr c).Φ t.succ ∗ (rdat m hr c).owesAt () t.succ
        ∗ (∃ X, ⌜True⌝ ∗ owns (c : Thread nD τ) (stg 0 t) fullShare X) ∗ (∃ X, ⌜True⌝ ∗ owns (c : Thread nD τ) (stg 1 t) fullShare X) ∗ (∃ X, ⌜True⌝ ∗ owns (c : Thread nD τ) (stg 2 t) fullShare X) ∗ (∃ X, ⌜True⌝ ∗ owns (c : Thread nD τ) (stg 3 t) fullShare X) ∗ (∃ X, ⌜True⌝ ∗ owns (c : Thread nD τ) (stg 4 t) fullShare X) ∗ (∃ X, ⌜True⌝ ∗ owns (c : Thread nD τ) (stg 5 t) fullShare X))) := by
    have hΦ : ∀ u, (rdat m hr c).Φ u = iprop(Pipeline.ΦA spec0 c ∗ Pipeline.ΦT pre0 (tables m) c) := fun _ => rfl
    have hO : ∀ u, (rdat m hr c).owed u = 0 := fun _ => rfl
    rw [hΦ, hΦ, scratch_eq, tables_eq]
    unfold RDat.owesAt Pipeline.owesWithin owns
    rw [hO, hO]
    iintro ⟨⟨⟨⟨⟨%f10, %g10, %e10, H10⟩, ⟨%f11, %g11, %e11, H11⟩, ⟨%f12, %g12, %e12, H12⟩⟩, Hp⟩, ⟨%g1, %e1, H1⟩, ⟨%g2, %e2, H2⟩, ⟨%g3, %e3, H3⟩⟩, ⟨%W, %hW, HO⟩, ⟨%g4, %e4, H4⟩, ⟨%g5, %e5, H5⟩, ⟨%g6, %e6, H6⟩, ⟨%g7, %e7, H7⟩, ⟨%g8, %e8, H8⟩, ⟨%g9, %e9, H9⟩⟩
    have e1' : g1 = tables m 0 := e1
    have e2' : g2 = tables m 1 := e2
    have e3' : g3 = tables m 2 := e3
    subst e1' e2' e3'
    iapply wp_wand_r
    isplitl [H1 H2 H3 H4 H5 H6 H7 H8 H9 H10 H11 H12]
    · iapply (point Variants.none c none Set.univ (grid0.coords t) (Memref.whole main_arg0) (Memref.isWhole_whole _) (Memref.whole main_arg1) (Memref.isWhole_whole _) (Memref.whole main_arg2) (Memref.isWhole_whole _) (spec0_0.stage ((cfgA m hr).slots t 0)) (hstage0_0 (((cfgA m hr).slots t 0).cast nbuf0_0)) (spec0_1.stage ((cfgA m hr).slots t 1)) (hstage0_1 (((cfgA m hr).slots t 1).cast nbuf0_1)) (spec0_2.stage ((cfgA m hr).slots t 2)) (hstage0_2 (((cfgA m hr).slots t 2).cast nbuf0_2)) (spec0_3.stage ((cfgA m hr).slots t 3)) (hstage0_3 (((cfgA m hr).slots t 3).cast nbuf0_3)) (spec0_4.stage ((cfgA m hr).slots t 4)) (hstage0_4 (((cfgA m hr).slots t 4).cast nbuf0_4)) (spec0_5.stage ((cfgA m hr).slots t 5)) (hstage0_5 (((cfgA m hr).slots t 5).cast nbuf0_5)) (Memref.whole cc0_scratch0) (Memref.isWhole_whole _) (Memref.whole cc0_scratch1) (Memref.isWhole_whole _) (Memref.whole cc0_scratch2) (Memref.isWhole_whole _) (tables m 0) (tables m 1) (tables m 2) g4 g5 g6 g7 g8 g9 g10 g11 g12 _ hn)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro %_ ⟨H1, H2, H3, H4, H5, H6, H7, H8, ⟨%f9', %f10', %f11', %f12', H9, H10, H11, H12, %hf⟩⟩
    isplitl [H1 H2 H3 H10 H11 H12 Hp]
    · isplitl [H10 H11 H12 Hp]
      · isplitl [H10 H11 H12]
        · isplitl [H10]
          · iexists _; iexists _; isplitr; swap; · iexact H10
            ipureintro; rfl
          isplitl [H11]
          · iexists _; iexists _; isplitr; swap; · iexact H11
            ipureintro; rfl
          iexists _; iexists _; isplitr; swap; · iexact H12
          ipureintro; rfl
        iexact Hp
      isplitl [H1]
      · iexists _; isplitr; swap; · iexact H1
        ipureintro; rfl
      isplitl [H2]
      · iexists _; isplitr; swap; · iexact H2
        ipureintro; rfl
      iexists _; isplitr; swap; · iexact H3
      ipureintro; rfl
    isplitl [HO]
    · iexists W; isplitr; · ipureintro; exact fun _ _ => Or.inl trivial
      iexact HO
    isplitl [H4]
    · iexists _; isplitr; · ipureintro; trivial
      iexists _; isplitr; swap; · iexact H4
      ipureintro; rfl
    isplitl [H5]
    · iexists _; isplitr; · ipureintro; trivial
      iexists _; isplitr; swap; · iexact H5
      ipureintro; rfl
    isplitl [H6]
    · iexists _; isplitr; · ipureintro; trivial
      iexists _; isplitr; swap; · iexact H6
      ipureintro; rfl
    isplitl [H7]
    · iexists _; isplitr; · ipureintro; trivial
      iexists _; isplitr; swap; · iexact H7
      ipureintro; rfl
    isplitl [H8]
    · iexists _; isplitr; · ipureintro; trivial
      iexists _; isplitr; swap; · iexact H8
      ipureintro; rfl
    iexists _; isplitr; · ipureintro; trivial
    iexists _; isplitr; swap; · iexact H9
    ipureintro; rfl
  exact triple_restated key rfl .rfl fun _ => .rfl

/-- The arrays at launch. -/
abbrev entry (c : Dev nD) (b : Ref sig .tc) : Buf (Elt F) ((c : Thread nD τ).loc b) := m ((c : Thread nD τ).loc b)

theorem main_shape : Pipeline.HMainP (Ix := Unit) (Name := ℕ) (U := UR sig nD τ) (Lvl := ℕ) pcfgs 0 (defs₀ (F := F)) Variants.none m (main (F := F)) (entry m) :=
  Pipeline.hmainP_region pcfgs 0 defs₀ Variants.none m main fun c => (main_chain c).trans rfl

theorem tables_entry (c : Dev nD) (k : Fin 3) : entry m c (pre0.ref k) = tables m k := by
  obtain rfl : c = 0 := Subsingleton.elim c 0
  rfl

set_option backward.isDefEq.respectTransparency.types false in
/-- The program terminates; the buffers no window is carried back to are unchanged and every counter is zero. -/
theorem run_main : θ_run defs (onTc (τ := τ) (main (F := F))) ⟨m, fun _ => 0, ρ⟩
    (fun r => Pipeline.RDat.FramePost (cfgA m hr) (fun c => rdat m hr c) (entry m) r ∧ r.2.sem = fun _ => 0) :=
  Pipeline.RDat.θ_run_frameP_track (Q' := _) pcfgs (adm m hr) (0 : Fin 1) launch0 defs₀ Variants.none (fun c => rdat m hr c) m ρ main
    (hbody := fun c => body_obligation m hr c) (hshare := fun c w => by unfold RDat.share; exact ite_self _)
    (howed := fun _ _ => rfl) (V := entry m) (hmain := main_shape m) (hA := fun _ _ => rfl)
    (hpf := tables_entry m)
    (hin := fun _ => .rfl) (hout := fun c => by
      show iprop(Pipeline.ΦA spec0 c ∗ Pipeline.ΦT pre0 (tables m) c) ⊢ _
      iintro ⟨H, -⟩; iexact H)

include hr in
/-- The arguments end unchanged and every counter is zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨fun c =>
    ⟨(h.1 c).2 main_arg0 (Pipeline.mem_restRefs_of main_arg0 (by decide) (show ∀ w : Fin 6, (spec0 w).arr.view.ref ≠ main_arg0 by decide)),
     (h.1 c).2 main_arg1 (Pipeline.mem_restRefs_of main_arg1 (by decide) (show ∀ w : Fin 6, (spec0 w).arr.view.ref ≠ main_arg1 by decide)),
     (h.1 c).2 main_arg2 (Pipeline.mem_restRefs_of main_arg2 (by decide) (show ∀ w : Fin 6, (spec0 w).arr.view.ref ≠ main_arg2 by decide)),
     RDat.FramePost.arr_in h.1 c (0 : Fin 6) rfl, RDat.FramePost.arr_in h.1 c (1 : Fin 6) rfl, RDat.FramePost.arr_in h.1 c (2 : Fin 6) rfl,
     RDat.FramePost.arr_in h.1 c (3 : Fin 6) rfl, RDat.FramePost.arr_in h.1 c (4 : Fin 6) rfl⟩, h.2⟩) (run_main m ρ hr)

end Cert.Kernel.Hand

end
-- ==== Proof.KI.Geometry.lean ====
/-
  The rows the runs of a step touch: with `n` of a step's blocks in use (`n ≤ 8`), the loop makes `n / 4` trips of 1024 rows, the
  two single runs take 512 and 256 rows, and every access lies in its buffer.
-/
module

public import proofs.«01_k».proof.Proof.Gen.KernelIdeal.Skeleton
public import Idealize.ShloMosaic.Lib.Exec
public import Idealize.ShloMosaic.Lib.Tactic
public import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The number of blocks of a step, as the word the table holds. -/
abbrev nb (n : Fin 9) : BitVec 32 := BitVec.ofNat 32 n.val

theorem trips3 : ∀ n : Fin 9, (k0_t3_loop (nb n)).trips = n.val / 4 := by decide +kernel

theorem trips4 : ∀ n : Fin 9, (k0_t4_loop (nb n)).trips = 0 := by decide +kernel

theorem ok3 : ∀ n : Fin 9, (k0_t3_loop (nb n)).OK := by decide +kernel

theorem ok4 : ∀ n : Fin 9, (k0_t4_loop (nb n)).OK := by decide +kernel

theorem off8 : ∀ n : Fin 9, ∀ k : Fin (k0_t3_loop (nb n)).trips,
    k0_off8 (nb n) k = ![0, (1024 - 1024 * k.val), 0] := by decide +kernel

theorem off9 : ∀ n : Fin 9, ∀ k : Fin (k0_t3_loop (nb n)).trips,
    k0_off9 (nb n) k = ![1, (1024 - 1024 * k.val), 0] := by decide +kernel

theorem off10 : ∀ n : Fin 9, ∀ k : Fin (k0_t3_loop (nb n)).trips,
    k0_off10 (nb n) k = ![0, 2 * (1024 - 1024 * k.val), 0] := by decide +kernel

theorem off11 : ∀ n : Fin 9, ∀ k : Fin (k0_t3_loop (nb n)).trips,
    k0_off11 (nb n) k = ![1, 2 * (1024 - 1024 * k.val), 0] := by decide +kernel

theorem off16 : ∀ n : Fin 9, n.val / 2 % 2 = 1 →
    k0_off16 (nb n) = ![0, (2048 - 256 * n.val + 256 * (n.val % 2)), 0] := by decide +kernel

theorem off17 : ∀ n : Fin 9, n.val / 2 % 2 = 1 →
    k0_off17 (nb n) = ![1, (2048 - 256 * n.val + 256 * (n.val % 2)), 0] := by decide +kernel

theorem off18 : ∀ n : Fin 9, n.val / 2 % 2 = 1 →
    k0_off18 (nb n) = ![0, 2 * (2048 - 256 * n.val + 256 * (n.val % 2)), 0] := by decide +kernel

theorem off19 : ∀ n : Fin 9, n.val / 2 % 2 = 1 →
    k0_off19 (nb n) = ![1, 2 * (2048 - 256 * n.val + 256 * (n.val % 2)), 0] := by decide +kernel

theorem off20 : ∀ n : Fin 9, n.val % 2 = 1 →
    k0_off20 (nb n) = ![0, (2048 - 256 * n.val), 0] := by decide +kernel

theorem off21 : ∀ n : Fin 9, n.val % 2 = 1 →
    k0_off21 (nb n) = ![1, (2048 - 256 * n.val), 0] := by decide +kernel

theorem off22 : ∀ n : Fin 9, n.val % 2 = 1 →
    k0_off22 (nb n) = ![0, 2 * (2048 - 256 * n.val), 0] := by decide +kernel

theorem off23 : ∀ n : Fin 9, n.val % 2 = 1 →
    k0_off23 (nb n) = ![1, 2 * (2048 - 256 * n.val), 0] := by decide +kernel

theorem chk3 : ∀ n : Fin 9, ∀ k : Fin (k0_t3_loop (nb n)).trips, 256 ∣ (k0_mult3 (nb n) k).toNat
    ∧ (∀ a, (k0_off8 (nb n) k) a + S1x1024x256.size a ≤ S2x2048x256.size a)
    ∧ (∀ a, (k0_off9 (nb n) k) a + S1x1024x256.size a ≤ S2x2048x256.size a)
    ∧ (∀ a, (k0_off10 (nb n) k) a + S1x2048x256.size a ≤ S2x4096x256.size a)
    ∧ (∀ (hinb : ∀ a, (k0_off10 (nb n) k) a + S1x2048x256.size a ≤ S2x4096x256.size a), (Rect.unit (s := S2x4096x256) (k0_off10 (nb n) k) S1x2048x256.size hinb).PackedRows (EltTy.packing .bf16))
    ∧ (∀ a, (k0_off11 (nb n) k) a + S1x2048x256.size a ≤ S2x4096x256.size a)
    ∧ (∀ (hinb : ∀ a, (k0_off11 (nb n) k) a + S1x2048x256.size a ≤ S2x4096x256.size a), (Rect.unit (s := S2x4096x256) (k0_off11 (nb n) k) S1x2048x256.size hinb).PackedRows (EltTy.packing .bf16)) := by
  decide +kernel

theorem chk5 : ∀ n : Fin 9, n.val / 2 % 2 = 1 → 256 ∣ (k0_mult5 (nb n)).toNat
    ∧ (∀ a, (k0_off16 (nb n)) a + S1x512x256.size a ≤ S2x2048x256.size a)
    ∧ (∀ a, (k0_off17 (nb n)) a + S1x512x256.size a ≤ S2x2048x256.size a)
    ∧ (∀ a, (k0_off18 (nb n)) a + S1x1024x256.size a ≤ S2x4096x256.size a)
    ∧ (∀ (hinb : ∀ a, (k0_off18 (nb n)) a + S1x1024x256.size a ≤ S2x4096x256.size a), (Rect.unit (s := S2x4096x256) (k0_off18 (nb n)) S1x1024x256.size hinb).PackedRows (EltTy.packing .bf16))
    ∧ (∀ a, (k0_off19 (nb n)) a + S1x1024x256.size a ≤ S2x4096x256.size a)
    ∧ (∀ (hinb : ∀ a, (k0_off19 (nb n)) a + S1x1024x256.size a ≤ S2x4096x256.size a), (Rect.unit (s := S2x4096x256) (k0_off19 (nb n)) S1x1024x256.size hinb).PackedRows (EltTy.packing .bf16)) := by
  decide +kernel

theorem chk6 : ∀ n : Fin 9, n.val % 2 = 1 → 256 ∣ (k0_mult6 (nb n)).toNat
    ∧ (∀ a, (k0_off20 (nb n)) a + S1x256x256.size a ≤ S2x2048x256.size a)
    ∧ (∀ a, (k0_off21 (nb n)) a + S1x256x256.size a ≤ S2x2048x256.size a)
    ∧ (∀ a, (k0_off22 (nb n)) a + S1x512x256.size a ≤ S2x4096x256.size a)
    ∧ (∀ (hinb : ∀ a, (k0_off22 (nb n)) a + S1x512x256.size a ≤ S2x4096x256.size a), (Rect.unit (s := S2x4096x256) (k0_off22 (nb n)) S1x512x256.size hinb).PackedRows (EltTy.packing .bf16))
    ∧ (∀ a, (k0_off23 (nb n)) a + S1x512x256.size a ≤ S2x4096x256.size a)
    ∧ (∀ (hinb : ∀ a, (k0_off23 (nb n)) a + S1x512x256.size a ≤ S2x4096x256.size a), (Rect.unit (s := S2x4096x256) (k0_off23 (nb n)) S1x512x256.size hinb).PackedRows (EltTy.packing .bf16)) := by
  decide +kernel

/-- The loop of 1024-row runs is entered when the point is in use and has at least four blocks. -/
theorem cond2_iff (i : grid0.Coords) (v9 : BitVec 32) (n : Fin 9) :
    k0_cond2 i v9 (nb n) = 1#1 ↔ Scalar.cmpi .slt (BitVec.ofNat 32 (i 0).val) v9 = 1#1 ∧ 0 < n.val / 4 := by
  unfold k0_cond2
  dsimp only
  generalize Scalar.cmpi .slt (BitVec.ofNat 32 (i 0).val) v9 = b
  revert b n
  decide +kernel

/-- The 512-row run is taken when the point is in use and its number of blocks has bit 1 set. -/
theorem cond3_iff (i : grid0.Coords) (v9 : BitVec 32) (n : Fin 9) :
    k0_cond3 i v9 (nb n) = 1#1 ↔ Scalar.cmpi .slt (BitVec.ofNat 32 (i 0).val) v9 = 1#1 ∧ n.val / 2 % 2 = 1 := by
  unfold k0_cond3
  dsimp only
  generalize Scalar.cmpi .slt (BitVec.ofNat 32 (i 0).val) v9 = b
  revert b n
  decide +kernel

/-- The 256-row run is taken when the point is in use and its number of blocks is odd. -/
theorem cond4_iff (i : grid0.Coords) (v9 : BitVec 32) (n : Fin 9) :
    k0_cond4 i v9 (nb n) = 1#1 ↔ Scalar.cmpi .slt (BitVec.ofNat 32 (i 0).val) v9 = 1#1 ∧ n.val % 2 = 1 := by
  unfold k0_cond4
  dsimp only
  generalize Scalar.cmpi .slt (BitVec.ofNat 32 (i 0).val) v9 = b
  revert b n
  decide +kernel

/-- Every check of a step holds when at most eight of its blocks are in use. -/
theorem checks (i : grid0.Coords) (v9 : BitVec 32) (n : Fin 9) : k0_chk1 i v9 (nb n) := by
  have no4 : Fin (k0_t4_loop (nb n)).trips → False := fun k => Nat.not_lt_zero _ (Nat.lt_of_lt_of_eq k.isLt (trips4 n))
  have h3 : k0_cond3 i v9 (nb n) = 1#1 → n.val / 2 % 2 = 1 := fun h => ((cond3_iff i v9 n).1 h).2
  have h4 : k0_cond4 i v9 (nb n) = 1#1 → n.val % 2 = 1 := fun h => ((cond4_iff i v9 n).1 h).2
  exact ⟨fun _ => ok3 n, fun k _ => (chk3 n k).1, fun k _ => (chk3 n k).2.1, fun k _ => (chk3 n k).2.2.1,
    fun k _ => (chk3 n k).2.2.2.1, fun k _ => (chk3 n k).2.2.2.2.1, fun k _ => (chk3 n k).2.2.2.2.2.1,
    fun k _ => (chk3 n k).2.2.2.2.2.2, fun _ => ok4 n,
    fun k => (no4 k).elim, fun k => (no4 k).elim, fun k => (no4 k).elim, fun k => (no4 k).elim, fun k => (no4 k).elim, fun k => (no4 k).elim, fun k => (no4 k).elim,
    fun h => (chk5 n (h3 h)).1, fun h => (chk5 n (h3 h)).2.1, fun h => (chk5 n (h3 h)).2.2.1,
    fun h => (chk5 n (h3 h)).2.2.2.1, fun h => (chk5 n (h3 h)).2.2.2.2.1, fun h => (chk5 n (h3 h)).2.2.2.2.2.1,
    fun h => (chk5 n (h3 h)).2.2.2.2.2.2,
    fun h => (chk6 n (h4 h)).1, fun h => (chk6 n (h4 h)).2.1, fun h => (chk6 n (h4 h)).2.2.1,
    fun h => (chk6 n (h4 h)).2.2.2.1, fun h => (chk6 n (h4 h)).2.2.2.2.1, fun h => (chk6 n (h4 h)).2.2.2.2.2.1,
    fun h => (chk6 n (h4 h)).2.2.2.2.2.2⟩

end Cert.KernelIdeal.Hand

end
-- ==== Proof.KI.Spec.lean ====
/-
  What one expert makes of one row: the row's 1024 entries unpacked from its words, the gate and up products, the
  clipped SwiGLU, and the down product.
-/
module

public import proofs.«01_k».proof.Proof.Gen.KernelIdeal.Skeleton
public import Idealize.ShloMosaic.Lib.Pipeline.Kit
public import Idealize.ShloMosaic.Lib.Exec
public import Idealize.ShloMosaic.Lib.Tactic
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A row's 1024 entries from its 256 words of each of the two planes: the words' low halves (plane 0, then plane 1), then
their high halves. -/
def entry (w0 w1 : Fin 256 → BitVec 32) (d : Fin 1024) : EReal :=
  if h : d.val < 256 then Ideal.ofBits FTy.f32 (IntOp.shli ArithUnit.vector (w0 ⟨d.val, h⟩) 16#32)
  else if h : d.val - 256 < 256 then Ideal.ofBits FTy.f32 (IntOp.shli ArithUnit.vector (w1 ⟨d.val - 256, h⟩) 16#32)
  else if h : d.val - 256 - 256 < 256 then Ideal.ofBits FTy.f32 (IntOp.andi (w0 ⟨d.val - 256 - 256, h⟩) 4294901760#32)
  else Ideal.ofBits FTy.f32 (IntOp.andi (w1 ⟨d.val - 256 - 256 - 256, by omega⟩) 4294901760#32)

/-- The clipped SwiGLU of a gate and an up value. -/
def glu (g u : EReal) : EReal :=
  min g (Ideal.ofBits FTy.f32 1088421888#32)
      * Ideal.logistic (Ideal.ofBits FTy.f32 1071242019#32 * min g (Ideal.ofBits FTy.f32 1088421888#32))
    * (min (Ideal.ofBits FTy.f32 1088421888#32) (max (Ideal.ofBits FTy.f32 3235905536#32) u) + 1)

/-- Hidden unit `e` of a row: its gate is column `e`, its up value column `1024 + e` of the first product. -/
def hidden (x : Fin 1024 → EReal) (W : Fin 1024 → Fin 2048 → EReal) (B : Fin 2048 → EReal) (e : Fin 1024) : EReal :=
  glu (∑ d, x d * W d ⟨e.val, by omega⟩ + B ⟨e.val, by omega⟩) (∑ d, x d * W d ⟨1024 + e.val, by omega⟩ + B ⟨1024 + e.val, by omega⟩)

/-- Column `o` of the expert's result for a row. -/
def expert (x : Fin 1024 → EReal) (W : Fin 1024 → Fin 2048 → EReal) (B : Fin 2048 → EReal)
    (V : Fin 1024 → Fin 1024 → EReal) (D : Fin 1024 → EReal) (o : Fin 1024) : EReal :=
  ∑ e, hidden x W B e * V e o + D o

/-! ### A run of 1024 rows -/

theorem entry_1024 (v w : Vec Ideal S1x1024x256 .i32) (t : Fin 1024) (d : Fin 1024) :
    k0_pay3 v w (ix2 t d) = entry (fun j => v (ix3 0 t j)) (fun j => w (ix3 0 t j)) d := by
  pointwise [k0_pay3]
  rfl

theorem act0_1024 (v w : Vec Ideal S1x1024x256 .i32) (m0 m1 : Vec Ideal S1024x512 .bf16) (b0 b1 : Vec Ideal S1x1x1x512 .f32)
    (t : Fin 1024) (e : Fin 512) :
    k0_pay6 (k0_pay4 v w m0 b0) (k0_pay5 v w m1) b1 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay6, k0_pay4, k0_pay5]
  simp only [entry_1024]
  rfl

theorem act1_1024 (v w : Vec Ideal S1x1024x256 .i32) (m0 m1 : Vec Ideal S1024x512 .bf16) (b0 b1 : Vec Ideal S1x1x1x512 .f32)
    (t : Fin 1024) (e : Fin 512) :
    k0_pay10 (k0_pay7 (k0_pay3 v w) m0 b0) (k0_pay8 (k0_pay3 v w) m1 b1) k0_pay9 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay10, k0_pay7, k0_pay8, k0_pay9]
  simp only [entry_1024]
  rfl

theorem out0_1024 (a : Vec Ideal S1024x1024 .bf16) (m : Vec Ideal S1024x1024 .bf16) (b : Vec Ideal S1x1x1x1024 .f32)
    (t : Fin 1024) (h : Fin 2) (j : Fin 256) :
    k0_pay14 a m b (ix3 0 (⟨2 * t.val + h.val, by omega⟩ : Fin 2048) j)
      = ∑ e, a (ix2 t e) * m (ix2 e ⟨512 * h.val + j.val, by omega⟩) + b (ix4 0 0 0 ⟨512 * h.val + j.val, by omega⟩) := by
  pointwise [k0_pay14, k0_pay11, k0_pay12, k0_pay13]
  have ht : (⟨(2 * t.val + h.val) / 2, by omega⟩ : Fin 1024) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

theorem out1_1024 (a : Vec Ideal S1024x1024 .bf16) (m : Vec Ideal S1024x1024 .bf16) (b : Vec Ideal S1x1x1x1024 .f32)
    (t : Fin 1024) (h : Fin 2) (j : Fin 256) :
    k0_pay63 (k0_pay15 a m b) (k0_pay16 a m b) (ix3 0 (⟨2 * t.val + h.val, by omega⟩ : Fin 2048) j)
      = ∑ e, a (ix2 t e) * m (ix2 e ⟨512 * h.val + (256 + j.val), by omega⟩) + b (ix4 0 0 0 ⟨512 * h.val + (256 + j.val), by omega⟩) := by
  pointwise [k0_pay63, k0_pay15, k0_pay16, k0_pay11, k0_pay12, k0_pay13]
  have ht : (⟨(2 * t.val + h.val) / 2, by omega⟩ : Fin 1024) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

/-! ### A run of 512 rows -/

theorem entry_512 (v w : Vec Ideal S1x512x256 .i32) (t : Fin 512) (d : Fin 1024) :
    k0_pay31 v w (ix2 t d) = entry (fun j => v (ix3 0 t j)) (fun j => w (ix3 0 t j)) d := by
  pointwise [k0_pay31]
  rfl

theorem act0_512 (v w : Vec Ideal S1x512x256 .i32) (m0 m1 : Vec Ideal S1024x512 .bf16) (b0 b1 : Vec Ideal S1x1x1x512 .f32)
    (t : Fin 512) (e : Fin 512) :
    k0_pay34 (k0_pay32 v w m0 b0) (k0_pay33 v w m1) b1 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay34, k0_pay32, k0_pay33]
  simp only [entry_512]
  rfl

theorem act1_512 (v w : Vec Ideal S1x512x256 .i32) (m0 m1 : Vec Ideal S1024x512 .bf16) (b0 b1 : Vec Ideal S1x1x1x512 .f32)
    (t : Fin 512) (e : Fin 512) :
    k0_pay38 (k0_pay35 (k0_pay31 v w) m1 b1) (k0_pay36 (k0_pay31 v w) m0 b0) (Scalar.ofBits .f32 0x40E00000#32) k0_pay37 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay38, k0_pay35, k0_pay36, k0_pay37]
  simp only [entry_512]
  rfl

theorem out0_512 (a : Vec Ideal S512x1024 .bf16) (m : Vec Ideal S1024x1024 .bf16) (b : Vec Ideal S1x1x1x1024 .f32)
    (t : Fin 512) (h : Fin 2) (j : Fin 256) :
    k0_pay42 a m b (ix3 0 (⟨2 * t.val + h.val, by omega⟩ : Fin 1024) j)
      = ∑ e, a (ix2 t e) * m (ix2 e ⟨512 * h.val + j.val, by omega⟩) + b (ix4 0 0 0 ⟨512 * h.val + j.val, by omega⟩) := by
  pointwise [k0_pay42, k0_pay39, k0_pay40, k0_pay41]
  have ht : (⟨(2 * t.val + h.val) / 2, by omega⟩ : Fin 512) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

theorem out1_512 (a : Vec Ideal S512x1024 .bf16) (m : Vec Ideal S1024x1024 .bf16) (b : Vec Ideal S1x1x1x1024 .f32)
    (t : Fin 512) (h : Fin 2) (j : Fin 256) :
    k0_pay1 (k0_pay43 a m b) (k0_pay44 a m b) (ix3 0 (⟨2 * t.val + h.val, by omega⟩ : Fin 1024) j)
      = ∑ e, a (ix2 t e) * m (ix2 e ⟨512 * h.val + (256 + j.val), by omega⟩) + b (ix4 0 0 0 ⟨512 * h.val + (256 + j.val), by omega⟩) := by
  pointwise [k0_pay1, k0_pay43, k0_pay44, k0_pay39, k0_pay40, k0_pay41]
  have ht : (⟨(2 * t.val + h.val) / 2, by omega⟩ : Fin 512) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

/-! ### A run of 256 rows -/

theorem entry_256 (v w : Vec Ideal S1x256x256 .i32) (t : Fin 256) (d : Fin 1024) :
    k0_pay46 v w (ix2 t d) = entry (fun j => v (ix3 0 t j)) (fun j => w (ix3 0 t j)) d := by
  pointwise [k0_pay46]
  rfl

theorem act0_256 (v w : Vec Ideal S1x256x256 .i32) (m0 m1 : Vec Ideal S1024x512 .bf16) (b0 b1 : Vec Ideal S1x1x1x512 .f32)
    (t : Fin 256) (e : Fin 512) :
    k0_pay49 (k0_pay47 v w m0 b0) (k0_pay48 v w m1) b1 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay49, k0_pay47, k0_pay48]
  simp only [entry_256]
  rfl

theorem act1_256 (v w : Vec Ideal S1x256x256 .i32) (m0 m1 : Vec Ideal S1024x512 .bf16) (b0 b1 : Vec Ideal S1x1x1x512 .f32)
    (t : Fin 256) (e : Fin 512) :
    k0_pay53 (k0_pay50 (k0_pay46 v w) m1 b1) (k0_pay51 (k0_pay46 v w) m0 b0) (Scalar.ofBits .f32 0x40E00000#32) k0_pay52 (ix2 t e)
      = glu (∑ d, entry (fun j => v (ix3 0 t j)) (fun j => w (ix3 0 t j)) d * m0 (ix2 d e) + b0 (ix4 0 0 0 e))
          (∑ d, entry (fun j => v (ix3 0 t j)) (fun j => w (ix3 0 t j)) d * m1 (ix2 d e) + b1 (ix4 0 0 0 e)) := by
  pointwise [k0_pay53, k0_pay50, k0_pay51, k0_pay52]
  simp only [entry_256]
  rfl

theorem out0_256 (a : Vec Ideal S256x1024 .bf16) (m : Vec Ideal S1024x1024 .bf16) (b : Vec Ideal S1x1x1x1024 .f32)
    (t : Fin 256) (h : Fin 2) (j : Fin 256) :
    k0_pay57 a m b (ix3 0 (⟨2 * t.val + h.val, by omega⟩ : Fin 512) j)
      = ∑ e, a (ix2 t e) * m (ix2 e ⟨512 * h.val + j.val, by omega⟩) + b (ix4 0 0 0 ⟨512 * h.val + j.val, by omega⟩) := by
  pointwise [k0_pay57, k0_pay54, k0_pay55, k0_pay56]
  have ht : (⟨(2 * t.val + h.val) / 2, by omega⟩ : Fin 256) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

theorem out1_256 (a : Vec Ideal S256x1024 .bf16) (m : Vec Ideal S1024x1024 .bf16) (b : Vec Ideal S1x1x1x1024 .f32)
    (t : Fin 256) (h : Fin 2) (j : Fin 256) :
    k0_pay2 (k0_pay58 a m b) (k0_pay59 a m b) (ix3 0 (⟨2 * t.val + h.val, by omega⟩ : Fin 512) j)
      = ∑ e, a (ix2 t e) * m (ix2 e ⟨512 * h.val + (256 + j.val), by omega⟩) + b (ix4 0 0 0 ⟨512 * h.val + (256 + j.val), by omega⟩) := by
  pointwise [k0_pay2, k0_pay58, k0_pay59, k0_pay54, k0_pay55, k0_pay56]
  have ht : (⟨(2 * t.val + h.val) / 2, by omega⟩ : Fin 256) = t := Fin.ext (by show (2 * t.val + h.val) / 2 = t.val; omega)
  fin_cases h
  · rw [if_pos (by show (2 * t.val + 0) % 2 = 0; omega)]
    simp only [ht]
    simp
  · rw [if_neg (by show ¬ (2 * t.val + 1) % 2 = 0; omega)]
    simp only [ht]

end Cert.KernelIdeal.Hand

end
-- ==== Proof.KI.Rows.lean ====
/-
  What a run of rows leaves in the result window: each row it covers holds the expert's result for that row, its 1024
  columns spread over two planes and two consecutive rows.
-/
module

public import proofs.«01_k».proof.Proof.KI.Spec
public import proofs.«01_k».proof.Proof.Loads

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- From row `o` on, the result window holds `Y`: column `512 h + 256 p + j` of row `r` lies in plane `p`, row `2 r + h`,
column `j`. -/
def RowsOk (Y : Fin 2048 → Fin 1024 → EReal) (arg9 : Memref sig .tc .vmem S2x4096x256 .bf16) (o : ℕ)
    (f : BufTy.Contents (Elt Ideal) arg9.view.ty) : Prop :=
  ∀ (p : Fin 2) (r : Fin 2048) (h : Fin 2) (j : Fin 256), o ≤ r.val →
    arg9.view.read (Elt Ideal) f (ix3 p (⟨2 * r.val + h.val, by omega⟩ : Fin 4096) j)
      = Y r ⟨512 * h.val + (256 * p.val + j.val), by omega⟩

section
variable (arg4 : Memref sig .tc .vmem S2x2048x256 .i32) (arg6 : Memref sig .tc .vmem S1x1x1x2048 .f32)
  (arg8 : Memref sig .tc .vmem S1x1x1x1024 .f32) (arg9 : Memref sig .tc .vmem S2x4096x256 .bf16)
  (arg10 : Memref sig .tc .vmem S1024x2048 .bf16) (arg11 : Memref sig .tc .vmem S1024x1024 .bf16)
  (arg12 : Memref sig .tc .vmem S1024x1024 .bf16)
  (X4 : BufTy.Contents (Elt Ideal) arg4.view.ty) (X6 : BufTy.Contents (Elt Ideal) arg6.view.ty)
  (X8 : BufTy.Contents (Elt Ideal) arg8.view.ty) (X10 : BufTy.Contents (Elt Ideal) arg10.view.ty)
  (X11 : BufTy.Contents (Elt Ideal) arg11.view.ty)

/-- Row `r` of the token window, unpacked. -/
def rowIn (r : Fin 2048) : Fin 1024 → EReal :=
  entry (fun j => arg4.view.read (Elt Ideal) X4 (ix3 (0 : Fin 2) r j)) (fun j => arg4.view.read (Elt Ideal) X4 (ix3 (1 : Fin 2) r j))

/-- The first product's weights and bias, the second's weights and bias, as the buffers hold them. -/
def wGu (d : Fin 1024) (e : Fin 2048) : EReal := arg10.view.read (Elt Ideal) X10 (ix2 d e)
def bGu (e : Fin 2048) : EReal := arg6.view.read (Elt Ideal) X6 (ix4 (0 : Fin 1) (0 : Fin 1) (0 : Fin 1) e)
def wDn (e o : Fin 1024) : EReal := arg11.view.read (Elt Ideal) X11 (ix2 e o)
def bDn (o : Fin 1024) : EReal := arg8.view.read (Elt Ideal) X8 (ix4 (0 : Fin 1) (0 : Fin 1) (0 : Fin 1) o)

/-- What the expert in the buffers makes of row `r` of the token window. -/
def rowOut (r : Fin 2048) (o : Fin 1024) : EReal :=
  expert (rowIn arg4 X4 r) (wGu arg10 X10) (bGu arg6 X6) (wDn arg11 X11) (bDn arg8 X8) o

/-- Columns `o …` of the first product's weights, as a load finds them. -/
theorem load_gu {off : Fin 2 → ℕ} (inb : ∀ a, off a + S1024x512.size a ≤ S1024x2048.size a) {o : ℕ} (h : off = ![0, o])
    (d : Fin 1024) (e : Fin 512) (e' : Fin 2048) (he : e'.val = o + e.val) :
    View.readAt (Elt Ideal) arg10.view (Rect.unit (s := S1024x2048) off S1024x512.size inb).toLoadRect X10 (ix2 d e) = wGu arg10 X10 d e' :=
  Cert.Hand.readAt_unit_apply arg10.view X10 inb (ix2 d e) (ix2 d e') h
    (Fin.forall_fin_two.mpr ⟨(Nat.zero_add _).symm, he⟩)

theorem load_bgu {off : Fin 4 → ℕ} (inb : ∀ a, off a + S1x1x1x512.size a ≤ S1x1x1x2048.size a) {o : ℕ} (h : off = ![0, 0, 0, o])
    (e : Fin 512) (e' : Fin 2048) (he : e'.val = o + e.val) :
    View.readAt (Elt Ideal) arg6.view (Rect.unit (s := S1x1x1x2048) off S1x1x1x512.size inb).toLoadRect X6 (ix4 (0 : Fin 1) (0 : Fin 1) (0 : Fin 1) e)
      = bGu arg6 X6 e' :=
  Cert.Hand.readAt_unit_apply arg6.view X6 inb (ix4 (0 : Fin 1) (0 : Fin 1) (0 : Fin 1) e) (ix4 (0 : Fin 1) (0 : Fin 1) (0 : Fin 1) e') h
    (fun a => by fin_cases a; rfl; rfl; rfl; exact he)

theorem load_dn (e o : Fin 1024) :
    View.readAt (Elt Ideal) arg11.view (Rect.unit (s := S1024x1024) ![0, 0] S1024x1024.size inb_S1024x1024_S1024x1024_0_0).toLoadRect X11 (ix2 e o)
      = wDn arg11 X11 e o :=
  Cert.Hand.readAt_unit_apply arg11.view X11 inb_S1024x1024_S1024x1024_0_0 (ix2 e o) (ix2 e o) rfl
    (Fin.forall_fin_two.mpr ⟨(Nat.zero_add _).symm, (Nat.zero_add _).symm⟩)

theorem load_bdn (o : Fin 1024) :
    View.readAt (Elt Ideal) arg8.view (Rect.unit (s := S1x1x1x1024) ![0, 0, 0, 0] S1x1x1x1024.size inb_S1x1x1x1024_S1x1x1x1024_0_0_0_0).toLoadRect X8
        (ix4 (0 : Fin 1) (0 : Fin 1) (0 : Fin 1) o)
      = bDn arg8 X8 o :=
  Cert.Hand.readAt_unit_apply arg8.view X8 inb_S1x1x1x1024_S1x1x1x1024_0_0_0_0 (ix4 (0 : Fin 1) (0 : Fin 1) (0 : Fin 1) o)
    (ix4 (0 : Fin 1) (0 : Fin 1) (0 : Fin 1) o) rfl
    (fun a => by fin_cases a; rfl; rfl; rfl; exact (Nat.zero_add _).symm)

/-! ### A run of 1024 rows -/

/-- The two planes' words of row `o + t`, as the run's two loads find them. -/
theorem rowIn_1024 {offA offB : Fin 3 → ℕ} (iA : ∀ a, offA a + S1x1024x256.size a ≤ S2x2048x256.size a)
    (iB : ∀ a, offB a + S1x1024x256.size a ≤ S2x2048x256.size a) {o : ℕ} (hA : offA = ![0, o, 0]) (hB : offB = ![1, o, 0])
    (t : Fin 1024) (r : Fin 2048) (hr : r.val = o + t.val) :
    entry (fun j => (View.readAt (Elt Ideal) arg4.view (Rect.unit (s := S2x2048x256) offA S1x1024x256.size iA).toLoadRect X4) (ix3 (0 : Fin 1) t j)) (fun j => (View.readAt (Elt Ideal) arg4.view (Rect.unit (s := S2x2048x256) offB S1x1024x256.size iB).toLoadRect X4) (ix3 (0 : Fin 1) t j)) = rowIn arg4 X4 r := by
  have e0 : ∀ j : Fin 256, (View.readAt (Elt Ideal) arg4.view (Rect.unit (s := S2x2048x256) offA S1x1024x256.size iA).toLoadRect X4) (ix3 (0 : Fin 1) t j) = arg4.view.read (Elt Ideal) X4 (ix3 (0 : Fin 2) r j) := fun j =>
    Cert.Hand.readAt_unit_apply arg4.view X4 iA (ix3 (0 : Fin 1) t j) (ix3 (0 : Fin 2) r j) hA
      (fun a => by fin_cases a; rfl; exact hr; exact (Nat.zero_add _).symm)
  have e1 : ∀ j : Fin 256, (View.readAt (Elt Ideal) arg4.view (Rect.unit (s := S2x2048x256) offB S1x1024x256.size iB).toLoadRect X4) (ix3 (0 : Fin 1) t j) = arg4.view.read (Elt Ideal) X4 (ix3 (1 : Fin 2) r j) := fun j =>
    Cert.Hand.readAt_unit_apply arg4.view X4 iB (ix3 (0 : Fin 1) t j) (ix3 (1 : Fin 2) r j) hB
      (fun a => by fin_cases a; rfl; exact hr; exact (Nat.zero_add _).symm)
  unfold rowIn
  congr 1
  · exact funext e0
  · exact funext e1

/-- The hidden activations read back: the two halves the run stored, at row `t`. -/
theorem hidden_1024 {offA offB : Fin 3 → ℕ} (iA : ∀ a, offA a + S1x1024x256.size a ≤ S2x2048x256.size a)
    (iB : ∀ a, offB a + S1x1024x256.size a ≤ S2x2048x256.size a) {o : ℕ} (hA : offA = ![0, o, 0]) (hB : offB = ![1, o, 0])
    (L : List (View.Piece (Elt Ideal) S1024x1024 .bf16)) (t : Fin 1024) (r : Fin 2048) (hr : r.val = o + t.val) (e : Fin 1024) :
    (arg12.view.readCov (Val := Elt Ideal) (⟨Rect.unit (s := S1024x1024) ![0, 512] S1024x512.size inb_S1024x1024_S1024x512_0_512, k0_pay10 (k0_pay7 (k0_pay3 (View.readAt (Elt Ideal) arg4.view (Rect.unit (s := S2x2048x256) offA S1x1024x256.size iA).toLoadRect X4) (View.readAt (Elt Ideal) arg4.view (Rect.unit (s := S2x2048x256) offB S1x1024x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (k0_pay8 (k0_pay3 (View.readAt (Elt Ideal) arg4.view (Rect.unit (s := S2x2048x256) offA S1x1024x256.size iA).toLoadRect X4) (View.readAt (Elt Ideal) arg4.view (Rect.unit (s := S2x2048x256) offB S1x1024x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) k0_pay9⟩ :: ⟨Rect.unit (s := S1024x1024) ![0, 0] S1024x512.size inb_S1024x1024_S1024x512_0_0, k0_pay6 (k0_pay4 (View.readAt (Elt Ideal) arg4.view (Rect.unit (s := S2x2048x256) offA S1x1024x256.size iA).toLoadRect X4) (View.readAt (Elt Ideal) arg4.view (Rect.unit (s := S2x2048x256) offB S1x1024x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay5 (View.readAt (Elt Ideal) arg4.view (Rect.unit (s := S2x2048x256) offA S1x1024x256.size iA).toLoadRect X4) (View.readAt (Elt Ideal) arg4.view (Rect.unit (s := S2x2048x256) offB S1x1024x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩ :: L) (Rect.unit (s := S1024x1024) ![0, 0] S1024x1024.size inb_S1024x1024_S1024x1024_0_0).toLoadRect) (ix2 t e)
      = hidden (rowIn arg4 X4 r) (wGu arg10 X10) (bGu arg6 X6) e := by
  have hrow := rowIn_1024 arg4 X4 iA iB hA hB t r hr
  obtain ⟨a0, h0⟩ : ∃ a0 : Vec Ideal S1024x512 .bf16, a0 = k0_pay6 (k0_pay4 (View.readAt (Elt Ideal) arg4.view (Rect.unit (s := S2x2048x256) offA S1x1024x256.size iA).toLoadRect X4) (View.readAt (Elt Ideal) arg4.view (Rect.unit (s := S2x2048x256) offB S1x1024x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay5 (View.readAt (Elt Ideal) arg4.view (Rect.unit (s := S2x2048x256) offA S1x1024x256.size iA).toLoadRect X4) (View.readAt (Elt Ideal) arg4.view (Rect.unit (s := S2x2048x256) offB S1x1024x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6) := ⟨_, rfl⟩
  obtain ⟨a1, h1⟩ : ∃ a1 : Vec Ideal S1024x512 .bf16, a1 = k0_pay10 (k0_pay7 (k0_pay3 (View.readAt (Elt Ideal) arg4.view (Rect.unit (s := S2x2048x256) offA S1x1024x256.size iA).toLoadRect X4) (View.readAt (Elt Ideal) arg4.view (Rect.unit (s := S2x2048x256) offB S1x1024x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (k0_pay8 (k0_pay3 (View.readAt (Elt Ideal) arg4.view (Rect.unit (s := S2x2048x256) offA S1x1024x256.size iA).toLoadRect X4) (View.readAt (Elt Ideal) arg4.view (Rect.unit (s := S2x2048x256) offB S1x1024x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) k0_pay9 := ⟨_, rfl⟩
  rw [← h0, ← h1]
  have e0 := Cert.Hand.readAt_unit_apply arg12.view (arg12.view.writes (Elt Ideal) arg12.view.junk
      (⟨Rect.unit (s := S1024x1024) ![0, 512] S1024x512.size inb_S1024x1024_S1024x512_0_512, a1⟩ :: ⟨Rect.unit (s := S1024x1024) ![0, 0] S1024x512.size inb_S1024x1024_S1024x512_0_0, a0⟩ :: L))
    inb_S1024x1024_S1024x1024_0_0 (ix2 t e) (ix2 (⟨t.val, by omega⟩ : Fin 1024) e) rfl
    (Fin.forall_fin_two.mpr ⟨(Nat.zero_add _).symm, (Nat.zero_add _).symm⟩)
  refine Eq.trans e0 ?_
  by_cases he : e.val < 512
  · have e1 := View.read_writes_cons_unit_of_not_mem (s := S1024x1024) (size := S1024x512.size) arg12.view arg12.view.junk inb_S1024x1024_S1024x512_0_512 a1
      (⟨Rect.unit (s := S1024x1024) ![0, 0] S1024x512.size inb_S1024x1024_S1024x512_0_0, a0⟩ :: L) (ix2 (⟨t.val, by omega⟩ : Fin 1024) e) rfl 1
      (Or.inl he)
    have e2 := View.read_writes_cons_unit_of_mem (s := S1024x1024) (size := S1024x512.size) arg12.view arg12.view.junk inb_S1024x1024_S1024x512_0_0 a0
      L (ix2 (⟨t.val, by omega⟩ : Fin 1024) e) (ix2 t (⟨e.val, he⟩ : Fin 512)) rfl
      (Fin.forall_fin_two.mpr ⟨(Nat.zero_add _).symm, (Nat.zero_add _).symm⟩)
    rw [e1, e2, h0, act0_1024, hrow]
    unfold hidden
    exact congrArg₂ glu
      (congrArg₂ (· + ·) (Finset.sum_congr rfl fun d _ => congrArg (rowIn arg4 X4 r d * ·) (load_gu arg10 X10 inb_S1024x2048_S1024x512_0_0 rfl d ⟨e.val, he⟩ ⟨e.val, by omega⟩ (Nat.zero_add _).symm)) (load_bgu arg6 X6 inb_S1x1x1x2048_S1x1x1x512_0_0_0_0 rfl ⟨e.val, he⟩ ⟨e.val, by omega⟩ (Nat.zero_add _).symm))
      (congrArg₂ (· + ·) (Finset.sum_congr rfl fun d _ => congrArg (rowIn arg4 X4 r d * ·) (load_gu arg10 X10 inb_S1024x2048_S1024x512_0_1024 rfl d ⟨e.val, he⟩ ⟨1024 + e.val, by omega⟩ rfl)) (load_bgu arg6 X6 inb_S1x1x1x2048_S1x1x1x512_0_0_0_1024 rfl ⟨e.val, he⟩ ⟨1024 + e.val, by omega⟩ rfl))
  · have hlt : e.val - 512 < 512 := by omega
    have e1 := View.read_writes_cons_unit_of_mem (s := S1024x1024) (size := S1024x512.size) arg12.view arg12.view.junk inb_S1024x1024_S1024x512_0_512 a1
      (⟨Rect.unit (s := S1024x1024) ![0, 0] S1024x512.size inb_S1024x1024_S1024x512_0_0, a0⟩ :: L) (ix2 (⟨t.val, by omega⟩ : Fin 1024) e) (ix2 t (⟨e.val - 512, hlt⟩ : Fin 512)) rfl
      (Fin.forall_fin_two.mpr ⟨(Nat.zero_add _).symm, by show e.val = 512 + (e.val - 512); omega⟩)
    rw [e1, h1, act1_1024, hrow]
    unfold hidden
    exact congrArg₂ glu
      (congrArg₂ (· + ·) (Finset.sum_congr rfl fun d _ => congrArg (rowIn arg4 X4 r d * ·) (load_gu arg10 X10 inb_S1024x2048_S1024x512_0_512 rfl d ⟨e.val - 512, hlt⟩ ⟨e.val, by omega⟩ (by show e.val = 512 + (e.val - 512); omega))) (load_bgu arg6 X6 inb_S1x1x1x2048_S1x1x1x512_0_0_0_512 rfl ⟨e.val - 512, hlt⟩ ⟨e.val, by omega⟩ (by show e.val = 512 + (e.val - 512); omega)))
      (congrArg₂ (· + ·) (Finset.sum_congr rfl fun d _ => congrArg (rowIn arg4 X4 r d * ·) (load_gu arg10 X10 inb_S1024x2048_S1024x512_0_1536 rfl d ⟨e.val - 512, hlt⟩ ⟨1024 + e.val, by omega⟩ (by show 1024 + e.val = 1536 + (e.val - 512); omega))) (load_bgu arg6 X6 inb_S1x1x1x2048_S1x1x1x512_0_0_0_1536 rfl ⟨e.val - 512, hlt⟩ ⟨1024 + e.val, by omega⟩ (by show 1024 + e.val = 1536 + (e.val - 512); omega)))

/-- The run's two stores extend the finished rows down by 1024. -/
theorem rows_1024 {offC offD : Fin 3 → ℕ}
    (iC : ∀ a, offC a + S1x2048x256.size a ≤ S2x4096x256.size a) (iD : ∀ a, offD a + S1x2048x256.size a ≤ S2x4096x256.size a)
    {o : ℕ} (hC : offC = ![0, 2 * o, 0]) (hD : offD = ![1, 2 * o, 0]) (ho : o + 1024 ≤ 2048)
    (f9 : BufTy.Contents (Elt Ideal) arg9.view.ty) (L : List (View.Piece (Elt Ideal) S2x4096x256 .bf16))
    (hid : Vec Ideal S1024x1024 .bf16)
    (hhid : ∀ (t : Fin 1024) (r : Fin 2048) (hr : r.val = o + t.val) (e : Fin 1024), hid (ix2 t e) = hidden (rowIn arg4 X4 r) (wGu arg10 X10) (bGu arg6 X6) e)
    (hf : RowsOk (rowOut arg4 arg6 arg8 arg10 arg11 X4 X6 X8 X10 X11) arg9 (o + 1024) (arg9.view.writes (Elt Ideal) f9 L)) :
    RowsOk (rowOut arg4 arg6 arg8 arg10 arg11 X4 X6 X8 X10 X11) arg9 o
      (arg9.view.writes (Elt Ideal) f9
        (⟨Rect.unit (s := S2x4096x256) offD S1x2048x256.size iD, k0_pay63 (k0_pay15 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay16 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩
          :: ⟨Rect.unit (s := S2x4096x256) offC S1x2048x256.size iC, k0_pay14 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩ :: L)) := by
  intro p r h j hor
  obtain ⟨y0, h0⟩ : ∃ y0 : Vec Ideal S1x2048x256 .bf16, y0 = k0_pay14 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) := ⟨_, rfl⟩
  obtain ⟨y1, h1⟩ : ∃ y1 : Vec Ideal S1x2048x256 .bf16, y1 = k0_pay63 (k0_pay15 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay16 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) := ⟨_, rfl⟩
  rw [← h0, ← h1]
  obtain ⟨q, hq⟩ : ∃ q : Fin 4096, q = ⟨2 * r.val + h.val, by omega⟩ := ⟨_, rfl⟩
  have hqv : q.val = 2 * r.val + h.val := by rw [hq]
  rw [← hq]
  by_cases hin : o + 1024 ≤ r.val
  · have e1 := View.read_writes_cons_unit_of_not_mem (s := S2x4096x256) (size := S1x2048x256.size) arg9.view f9 iD y1
      (⟨Rect.unit (s := S2x4096x256) offC S1x2048x256.size iC, y0⟩ :: L) (ix3 p q j) hD 1
      (Or.inr (show 2 * o + 2048 ≤ q.val by omega))
    have e2 := View.read_writes_cons_unit_of_not_mem (s := S2x4096x256) (size := S1x2048x256.size) arg9.view f9 iC y0
      L (ix3 p q j) hC 1
      (Or.inr (show 2 * o + 2048 ≤ q.val by omega))
    rw [e1, e2, hq]
    exact hf p r h j hin
  · have ht : r.val - o < 1024 := by omega
    have hr : r.val = o + (⟨r.val - o, ht⟩ : Fin 1024).val := by show r.val = o + (r.val - o); omega
    have ex : ∀ e : Fin 1024, hid (ix2 (⟨r.val - o, ht⟩ : Fin 1024) e) = hidden (rowIn arg4 X4 r) (wGu arg10 X10) (bGu arg6 X6) e :=
      hhid ⟨r.val - o, ht⟩ r hr
    fin_cases p
    · have e1 := View.read_writes_cons_unit_of_not_mem (s := S2x4096x256) (size := S1x2048x256.size) arg9.view f9 iD y1
        (⟨Rect.unit (s := S2x4096x256) offC S1x2048x256.size iC, y0⟩ :: L) (ix3 (0 : Fin 2) q j) hD 0
        (Or.inl (show (0 : ℕ) < 1 by omega))
      have e2 := View.read_writes_cons_unit_of_mem (s := S2x4096x256) (size := S1x2048x256.size) arg9.view f9 iC y0
        L (ix3 (0 : Fin 2) q j) (ix3 (0 : Fin 1) (⟨2 * (r.val - o) + h.val, by omega⟩ : Fin 2048) j) hC
        (fun a => by fin_cases a; rfl; exact (show q.val = 2 * o + (2 * (r.val - o) + h.val) by omega); exact (Nat.zero_add _).symm)
      refine Eq.trans e1 (Eq.trans e2 ?_)
      rw [h0, out0_1024 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 1024) h j, load_bdn]
      have hcol : (⟨512 * h.val + j.val, by omega⟩ : Fin 1024) = ⟨512 * h.val + (256 * 0 + j.val), by omega⟩ := Fin.ext (by show 512 * h.val + j.val = 512 * h.val + (256 * 0 + j.val); omega)
      unfold rowOut expert
      rw [hcol]
      congr 1
      exact Finset.sum_congr rfl fun e _ => by rw [ex, load_dn]
    · have e2 := View.read_writes_cons_unit_of_mem (s := S2x4096x256) (size := S1x2048x256.size) arg9.view f9 iD y1
        (⟨Rect.unit (s := S2x4096x256) offC S1x2048x256.size iC, y0⟩ :: L) (ix3 (1 : Fin 2) q j) (ix3 (0 : Fin 1) (⟨2 * (r.val - o) + h.val, by omega⟩ : Fin 2048) j) hD
        (fun a => by fin_cases a; rfl; exact (show q.val = 2 * o + (2 * (r.val - o) + h.val) by omega); exact (Nat.zero_add _).symm)
      refine Eq.trans e2 ?_
      rw [h1, out1_1024 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 1024) h j, load_bdn]
      have hcol : (⟨512 * h.val + (256 + j.val), by omega⟩ : Fin 1024) = ⟨512 * h.val + (256 * 1 + j.val), by omega⟩ := Fin.ext (by show 512 * h.val + (256 + j.val) = 512 * h.val + (256 * 1 + j.val); omega)
      unfold rowOut expert
      rw [hcol]
      congr 1
      exact Finset.sum_congr rfl fun e _ => by rw [ex, load_dn]

/-! ### A run of 512 rows -/

/-- The two planes' words of row `o + t`, as the run's two loads find them. -/
theorem rowIn_512 {offA offB : Fin 3 → ℕ} (iA : ∀ a, offA a + S1x512x256.size a ≤ S2x2048x256.size a)
    (iB : ∀ a, offB a + S1x512x256.size a ≤ S2x2048x256.size a) {o : ℕ} (hA : offA = ![0, o, 0]) (hB : offB = ![1, o, 0])
    (t : Fin 512) (r : Fin 2048) (hr : r.val = o + t.val) :
    entry (fun j => (View.readAt (Elt Ideal) arg4.view (Rect.unit (s := S2x2048x256) offA S1x512x256.size iA).toLoadRect X4) (ix3 (0 : Fin 1) t j)) (fun j => (View.readAt (Elt Ideal) arg4.view (Rect.unit (s := S2x2048x256) offB S1x512x256.size iB).toLoadRect X4) (ix3 (0 : Fin 1) t j)) = rowIn arg4 X4 r := by
  have e0 : ∀ j : Fin 256, (View.readAt (Elt Ideal) arg4.view (Rect.unit (s := S2x2048x256) offA S1x512x256.size iA).toLoadRect X4) (ix3 (0 : Fin 1) t j) = arg4.view.read (Elt Ideal) X4 (ix3 (0 : Fin 2) r j) := fun j =>
    Cert.Hand.readAt_unit_apply arg4.view X4 iA (ix3 (0 : Fin 1) t j) (ix3 (0 : Fin 2) r j) hA
      (fun a => by fin_cases a; rfl; exact hr; exact (Nat.zero_add _).symm)
  have e1 : ∀ j : Fin 256, (View.readAt (Elt Ideal) arg4.view (Rect.unit (s := S2x2048x256) offB S1x512x256.size iB).toLoadRect X4) (ix3 (0 : Fin 1) t j) = arg4.view.read (Elt Ideal) X4 (ix3 (1 : Fin 2) r j) := fun j =>
    Cert.Hand.readAt_unit_apply arg4.view X4 iB (ix3 (0 : Fin 1) t j) (ix3 (1 : Fin 2) r j) hB
      (fun a => by fin_cases a; rfl; exact hr; exact (Nat.zero_add _).symm)
  unfold rowIn
  congr 1
  · exact funext e0
  · exact funext e1

/-- The hidden activations read back: the two halves the run stored, at row `t`. -/
theorem hidden_512 {offA offB : Fin 3 → ℕ} (iA : ∀ a, offA a + S1x512x256.size a ≤ S2x2048x256.size a)
    (iB : ∀ a, offB a + S1x512x256.size a ≤ S2x2048x256.size a) {o : ℕ} (hA : offA = ![0, o, 0]) (hB : offB = ![1, o, 0])
    (L : List (View.Piece (Elt Ideal) S1024x1024 .bf16)) (t : Fin 512) (r : Fin 2048) (hr : r.val = o + t.val) (e : Fin 1024) :
    (arg12.view.readCov (Val := Elt Ideal) (⟨Rect.unit (s := S1024x1024) ![0, 512] S512x512.size inb_S1024x1024_S512x512_0_512, k0_pay38 (k0_pay35 (k0_pay31 (View.readAt (Elt Ideal) arg4.view (Rect.unit (s := S2x2048x256) offA S1x512x256.size iA).toLoadRect X4) (View.readAt (Elt Ideal) arg4.view (Rect.unit (s := S2x2048x256) offB S1x512x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay36 (k0_pay31 (View.readAt (Elt Ideal) arg4.view (Rect.unit (s := S2x2048x256) offA S1x512x256.size iA).toLoadRect X4) (View.readAt (Elt Ideal) arg4.view (Rect.unit (s := S2x2048x256) offB S1x512x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay37⟩ :: ⟨Rect.unit (s := S1024x1024) ![0, 0] S512x512.size inb_S1024x1024_S512x512_0_0, k0_pay34 (k0_pay32 (View.readAt (Elt Ideal) arg4.view (Rect.unit (s := S2x2048x256) offA S1x512x256.size iA).toLoadRect X4) (View.readAt (Elt Ideal) arg4.view (Rect.unit (s := S2x2048x256) offB S1x512x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay33 (View.readAt (Elt Ideal) arg4.view (Rect.unit (s := S2x2048x256) offA S1x512x256.size iA).toLoadRect X4) (View.readAt (Elt Ideal) arg4.view (Rect.unit (s := S2x2048x256) offB S1x512x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩ :: L) (Rect.unit (s := S1024x1024) ![0, 0] S512x1024.size inb_S1024x1024_S512x1024_0_0).toLoadRect) (ix2 t e)
      = hidden (rowIn arg4 X4 r) (wGu arg10 X10) (bGu arg6 X6) e := by
  have hrow := rowIn_512 arg4 X4 iA iB hA hB t r hr
  obtain ⟨a0, h0⟩ : ∃ a0 : Vec Ideal S512x512 .bf16, a0 = k0_pay34 (k0_pay32 (View.readAt (Elt Ideal) arg4.view (Rect.unit (s := S2x2048x256) offA S1x512x256.size iA).toLoadRect X4) (View.readAt (Elt Ideal) arg4.view (Rect.unit (s := S2x2048x256) offB S1x512x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay33 (View.readAt (Elt Ideal) arg4.view (Rect.unit (s := S2x2048x256) offA S1x512x256.size iA).toLoadRect X4) (View.readAt (Elt Ideal) arg4.view (Rect.unit (s := S2x2048x256) offB S1x512x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6) := ⟨_, rfl⟩
  obtain ⟨a1, h1⟩ : ∃ a1 : Vec Ideal S512x512 .bf16, a1 = k0_pay38 (k0_pay35 (k0_pay31 (View.readAt (Elt Ideal) arg4.view (Rect.unit (s := S2x2048x256) offA S1x512x256.size iA).toLoadRect X4) (View.readAt (Elt Ideal) arg4.view (Rect.unit (s := S2x2048x256) offB S1x512x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay36 (k0_pay31 (View.readAt (Elt Ideal) arg4.view (Rect.unit (s := S2x2048x256) offA S1x512x256.size iA).toLoadRect X4) (View.readAt (Elt Ideal) arg4.view (Rect.unit (s := S2x2048x256) offB S1x512x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay37 := ⟨_, rfl⟩
  rw [← h0, ← h1]
  have e0 := Cert.Hand.readAt_unit_apply arg12.view (arg12.view.writes (Elt Ideal) arg12.view.junk
      (⟨Rect.unit (s := S1024x1024) ![0, 512] S512x512.size inb_S1024x1024_S512x512_0_512, a1⟩ :: ⟨Rect.unit (s := S1024x1024) ![0, 0] S512x512.size inb_S1024x1024_S512x512_0_0, a0⟩ :: L))
    inb_S1024x1024_S512x1024_0_0 (ix2 t e) (ix2 (⟨t.val, by omega⟩ : Fin 1024) e) rfl
    (Fin.forall_fin_two.mpr ⟨(Nat.zero_add _).symm, (Nat.zero_add _).symm⟩)
  refine Eq.trans e0 ?_
  by_cases he : e.val < 512
  · have e1 := View.read_writes_cons_unit_of_not_mem (s := S1024x1024) (size := S512x512.size) arg12.view arg12.view.junk inb_S1024x1024_S512x512_0_512 a1
      (⟨Rect.unit (s := S1024x1024) ![0, 0] S512x512.size inb_S1024x1024_S512x512_0_0, a0⟩ :: L) (ix2 (⟨t.val, by omega⟩ : Fin 1024) e) rfl 1
      (Or.inl he)
    have e2 := View.read_writes_cons_unit_of_mem (s := S1024x1024) (size := S512x512.size) arg12.view arg12.view.junk inb_S1024x1024_S512x512_0_0 a0
      L (ix2 (⟨t.val, by omega⟩ : Fin 1024) e) (ix2 t (⟨e.val, he⟩ : Fin 512)) rfl
      (Fin.forall_fin_two.mpr ⟨(Nat.zero_add _).symm, (Nat.zero_add _).symm⟩)
    rw [e1, e2, h0, act0_512, hrow]
    unfold hidden
    exact congrArg₂ glu
      (congrArg₂ (· + ·) (Finset.sum_congr rfl fun d _ => congrArg (rowIn arg4 X4 r d * ·) (load_gu arg10 X10 inb_S1024x2048_S1024x512_0_0 rfl d ⟨e.val, he⟩ ⟨e.val, by omega⟩ (Nat.zero_add _).symm)) (load_bgu arg6 X6 inb_S1x1x1x2048_S1x1x1x512_0_0_0_0 rfl ⟨e.val, he⟩ ⟨e.val, by omega⟩ (Nat.zero_add _).symm))
      (congrArg₂ (· + ·) (Finset.sum_congr rfl fun d _ => congrArg (rowIn arg4 X4 r d * ·) (load_gu arg10 X10 inb_S1024x2048_S1024x512_0_1024 rfl d ⟨e.val, he⟩ ⟨1024 + e.val, by omega⟩ rfl)) (load_bgu arg6 X6 inb_S1x1x1x2048_S1x1x1x512_0_0_0_1024 rfl ⟨e.val, he⟩ ⟨1024 + e.val, by omega⟩ rfl))
  · have hlt : e.val - 512 < 512 := by omega
    have e1 := View.read_writes_cons_unit_of_mem (s := S1024x1024) (size := S512x512.size) arg12.view arg12.view.junk inb_S1024x1024_S512x512_0_512 a1
      (⟨Rect.unit (s := S1024x1024) ![0, 0] S512x512.size inb_S1024x1024_S512x512_0_0, a0⟩ :: L) (ix2 (⟨t.val, by omega⟩ : Fin 1024) e) (ix2 t (⟨e.val - 512, hlt⟩ : Fin 512)) rfl
      (Fin.forall_fin_two.mpr ⟨(Nat.zero_add _).symm, by show e.val = 512 + (e.val - 512); omega⟩)
    rw [e1, h1, act1_512, hrow]
    unfold hidden
    exact congrArg₂ glu
      (congrArg₂ (· + ·) (Finset.sum_congr rfl fun d _ => congrArg (rowIn arg4 X4 r d * ·) (load_gu arg10 X10 inb_S1024x2048_S1024x512_0_512 rfl d ⟨e.val - 512, hlt⟩ ⟨e.val, by omega⟩ (by show e.val = 512 + (e.val - 512); omega))) (load_bgu arg6 X6 inb_S1x1x1x2048_S1x1x1x512_0_0_0_512 rfl ⟨e.val - 512, hlt⟩ ⟨e.val, by omega⟩ (by show e.val = 512 + (e.val - 512); omega)))
      (congrArg₂ (· + ·) (Finset.sum_congr rfl fun d _ => congrArg (rowIn arg4 X4 r d * ·) (load_gu arg10 X10 inb_S1024x2048_S1024x512_0_1536 rfl d ⟨e.val - 512, hlt⟩ ⟨1024 + e.val, by omega⟩ (by show 1024 + e.val = 1536 + (e.val - 512); omega))) (load_bgu arg6 X6 inb_S1x1x1x2048_S1x1x1x512_0_0_0_1536 rfl ⟨e.val - 512, hlt⟩ ⟨1024 + e.val, by omega⟩ (by show 1024 + e.val = 1536 + (e.val - 512); omega)))

/-- The run's two stores extend the finished rows down by 512. -/
theorem rows_512 {offC offD : Fin 3 → ℕ}
    (iC : ∀ a, offC a + S1x1024x256.size a ≤ S2x4096x256.size a) (iD : ∀ a, offD a + S1x1024x256.size a ≤ S2x4096x256.size a)
    {o : ℕ} (hC : offC = ![0, 2 * o, 0]) (hD : offD = ![1, 2 * o, 0]) (ho : o + 512 ≤ 2048)
    (f9 : BufTy.Contents (Elt Ideal) arg9.view.ty) (L : List (View.Piece (Elt Ideal) S2x4096x256 .bf16))
    (hid : Vec Ideal S512x1024 .bf16)
    (hhid : ∀ (t : Fin 512) (r : Fin 2048) (hr : r.val = o + t.val) (e : Fin 1024), hid (ix2 t e) = hidden (rowIn arg4 X4 r) (wGu arg10 X10) (bGu arg6 X6) e)
    (hf : RowsOk (rowOut arg4 arg6 arg8 arg10 arg11 X4 X6 X8 X10 X11) arg9 (o + 512) (arg9.view.writes (Elt Ideal) f9 L)) :
    RowsOk (rowOut arg4 arg6 arg8 arg10 arg11 X4 X6 X8 X10 X11) arg9 o
      (arg9.view.writes (Elt Ideal) f9
        (⟨Rect.unit (s := S2x4096x256) offD S1x1024x256.size iD, k0_pay1 (k0_pay43 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay44 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩
          :: ⟨Rect.unit (s := S2x4096x256) offC S1x1024x256.size iC, k0_pay42 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩ :: L)) := by
  intro p r h j hor
  obtain ⟨y0, h0⟩ : ∃ y0 : Vec Ideal S1x1024x256 .bf16, y0 = k0_pay42 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) := ⟨_, rfl⟩
  obtain ⟨y1, h1⟩ : ∃ y1 : Vec Ideal S1x1024x256 .bf16, y1 = k0_pay1 (k0_pay43 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay44 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) := ⟨_, rfl⟩
  rw [← h0, ← h1]
  obtain ⟨q, hq⟩ : ∃ q : Fin 4096, q = ⟨2 * r.val + h.val, by omega⟩ := ⟨_, rfl⟩
  have hqv : q.val = 2 * r.val + h.val := by rw [hq]
  rw [← hq]
  by_cases hin : o + 512 ≤ r.val
  · have e1 := View.read_writes_cons_unit_of_not_mem (s := S2x4096x256) (size := S1x1024x256.size) arg9.view f9 iD y1
      (⟨Rect.unit (s := S2x4096x256) offC S1x1024x256.size iC, y0⟩ :: L) (ix3 p q j) hD 1
      (Or.inr (show 2 * o + 1024 ≤ q.val by omega))
    have e2 := View.read_writes_cons_unit_of_not_mem (s := S2x4096x256) (size := S1x1024x256.size) arg9.view f9 iC y0
      L (ix3 p q j) hC 1
      (Or.inr (show 2 * o + 1024 ≤ q.val by omega))
    rw [e1, e2, hq]
    exact hf p r h j hin
  · have ht : r.val - o < 512 := by omega
    have hr : r.val = o + (⟨r.val - o, ht⟩ : Fin 512).val := by show r.val = o + (r.val - o); omega
    have ex : ∀ e : Fin 1024, hid (ix2 (⟨r.val - o, ht⟩ : Fin 512) e) = hidden (rowIn arg4 X4 r) (wGu arg10 X10) (bGu arg6 X6) e :=
      hhid ⟨r.val - o, ht⟩ r hr
    fin_cases p
    · have e1 := View.read_writes_cons_unit_of_not_mem (s := S2x4096x256) (size := S1x1024x256.size) arg9.view f9 iD y1
        (⟨Rect.unit (s := S2x4096x256) offC S1x1024x256.size iC, y0⟩ :: L) (ix3 (0 : Fin 2) q j) hD 0
        (Or.inl (show (0 : ℕ) < 1 by omega))
      have e2 := View.read_writes_cons_unit_of_mem (s := S2x4096x256) (size := S1x1024x256.size) arg9.view f9 iC y0
        L (ix3 (0 : Fin 2) q j) (ix3 (0 : Fin 1) (⟨2 * (r.val - o) + h.val, by omega⟩ : Fin 1024) j) hC
        (fun a => by fin_cases a; rfl; exact (show q.val = 2 * o + (2 * (r.val - o) + h.val) by omega); exact (Nat.zero_add _).symm)
      refine Eq.trans e1 (Eq.trans e2 ?_)
      rw [h0, out0_512 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 512) h j, load_bdn]
      have hcol : (⟨512 * h.val + j.val, by omega⟩ : Fin 1024) = ⟨512 * h.val + (256 * 0 + j.val), by omega⟩ := Fin.ext (by show 512 * h.val + j.val = 512 * h.val + (256 * 0 + j.val); omega)
      unfold rowOut expert
      rw [hcol]
      congr 1
      exact Finset.sum_congr rfl fun e _ => by rw [ex, load_dn]
    · have e2 := View.read_writes_cons_unit_of_mem (s := S2x4096x256) (size := S1x1024x256.size) arg9.view f9 iD y1
        (⟨Rect.unit (s := S2x4096x256) offC S1x1024x256.size iC, y0⟩ :: L) (ix3 (1 : Fin 2) q j) (ix3 (0 : Fin 1) (⟨2 * (r.val - o) + h.val, by omega⟩ : Fin 1024) j) hD
        (fun a => by fin_cases a; rfl; exact (show q.val = 2 * o + (2 * (r.val - o) + h.val) by omega); exact (Nat.zero_add _).symm)
      refine Eq.trans e2 ?_
      rw [h1, out1_512 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 512) h j, load_bdn]
      have hcol : (⟨512 * h.val + (256 + j.val), by omega⟩ : Fin 1024) = ⟨512 * h.val + (256 * 1 + j.val), by omega⟩ := Fin.ext (by show 512 * h.val + (256 + j.val) = 512 * h.val + (256 * 1 + j.val); omega)
      unfold rowOut expert
      rw [hcol]
      congr 1
      exact Finset.sum_congr rfl fun e _ => by rw [ex, load_dn]

/-! ### A run of 256 rows -/

/-- The two planes' words of row `o + t`, as the run's two loads find them. -/
theorem rowIn_256 {offA offB : Fin 3 → ℕ} (iA : ∀ a, offA a + S1x256x256.size a ≤ S2x2048x256.size a)
    (iB : ∀ a, offB a + S1x256x256.size a ≤ S2x2048x256.size a) {o : ℕ} (hA : offA = ![0, o, 0]) (hB : offB = ![1, o, 0])
    (t : Fin 256) (r : Fin 2048) (hr : r.val = o + t.val) :
    entry (fun j => (View.readAt (Elt Ideal) arg4.view (Rect.unit (s := S2x2048x256) offA S1x256x256.size iA).toLoadRect X4) (ix3 (0 : Fin 1) t j)) (fun j => (View.readAt (Elt Ideal) arg4.view (Rect.unit (s := S2x2048x256) offB S1x256x256.size iB).toLoadRect X4) (ix3 (0 : Fin 1) t j)) = rowIn arg4 X4 r := by
  have e0 : ∀ j : Fin 256, (View.readAt (Elt Ideal) arg4.view (Rect.unit (s := S2x2048x256) offA S1x256x256.size iA).toLoadRect X4) (ix3 (0 : Fin 1) t j) = arg4.view.read (Elt Ideal) X4 (ix3 (0 : Fin 2) r j) := fun j =>
    Cert.Hand.readAt_unit_apply arg4.view X4 iA (ix3 (0 : Fin 1) t j) (ix3 (0 : Fin 2) r j) hA
      (fun a => by fin_cases a; rfl; exact hr; exact (Nat.zero_add _).symm)
  have e1 : ∀ j : Fin 256, (View.readAt (Elt Ideal) arg4.view (Rect.unit (s := S2x2048x256) offB S1x256x256.size iB).toLoadRect X4) (ix3 (0 : Fin 1) t j) = arg4.view.read (Elt Ideal) X4 (ix3 (1 : Fin 2) r j) := fun j =>
    Cert.Hand.readAt_unit_apply arg4.view X4 iB (ix3 (0 : Fin 1) t j) (ix3 (1 : Fin 2) r j) hB
      (fun a => by fin_cases a; rfl; exact hr; exact (Nat.zero_add _).symm)
  unfold rowIn
  congr 1
  · exact funext e0
  · exact funext e1

/-- The hidden activations read back: the two halves the run stored, at row `t`. -/
theorem hidden_256 {offA offB : Fin 3 → ℕ} (iA : ∀ a, offA a + S1x256x256.size a ≤ S2x2048x256.size a)
    (iB : ∀ a, offB a + S1x256x256.size a ≤ S2x2048x256.size a) {o : ℕ} (hA : offA = ![0, o, 0]) (hB : offB = ![1, o, 0])
    (L : List (View.Piece (Elt Ideal) S1024x1024 .bf16)) (t : Fin 256) (r : Fin 2048) (hr : r.val = o + t.val) (e : Fin 1024) :
    (arg12.view.readCov (Val := Elt Ideal) (⟨Rect.unit (s := S1024x1024) ![0, 512] S256x512.size inb_S1024x1024_S256x512_0_512, k0_pay53 (k0_pay50 (k0_pay46 (View.readAt (Elt Ideal) arg4.view (Rect.unit (s := S2x2048x256) offA S1x256x256.size iA).toLoadRect X4) (View.readAt (Elt Ideal) arg4.view (Rect.unit (s := S2x2048x256) offB S1x256x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay51 (k0_pay46 (View.readAt (Elt Ideal) arg4.view (Rect.unit (s := S2x2048x256) offA S1x256x256.size iA).toLoadRect X4) (View.readAt (Elt Ideal) arg4.view (Rect.unit (s := S2x2048x256) offB S1x256x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay52⟩ :: ⟨Rect.unit (s := S1024x1024) ![0, 0] S256x512.size inb_S1024x1024_S256x512_0_0, k0_pay49 (k0_pay47 (View.readAt (Elt Ideal) arg4.view (Rect.unit (s := S2x2048x256) offA S1x256x256.size iA).toLoadRect X4) (View.readAt (Elt Ideal) arg4.view (Rect.unit (s := S2x2048x256) offB S1x256x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay48 (View.readAt (Elt Ideal) arg4.view (Rect.unit (s := S2x2048x256) offA S1x256x256.size iA).toLoadRect X4) (View.readAt (Elt Ideal) arg4.view (Rect.unit (s := S2x2048x256) offB S1x256x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩ :: L) (Rect.unit (s := S1024x1024) ![0, 0] S256x1024.size inb_S1024x1024_S256x1024_0_0).toLoadRect) (ix2 t e)
      = hidden (rowIn arg4 X4 r) (wGu arg10 X10) (bGu arg6 X6) e := by
  have hrow := rowIn_256 arg4 X4 iA iB hA hB t r hr
  obtain ⟨a0, h0⟩ : ∃ a0 : Vec Ideal S256x512 .bf16, a0 = k0_pay49 (k0_pay47 (View.readAt (Elt Ideal) arg4.view (Rect.unit (s := S2x2048x256) offA S1x256x256.size iA).toLoadRect X4) (View.readAt (Elt Ideal) arg4.view (Rect.unit (s := S2x2048x256) offB S1x256x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay48 (View.readAt (Elt Ideal) arg4.view (Rect.unit (s := S2x2048x256) offA S1x256x256.size iA).toLoadRect X4) (View.readAt (Elt Ideal) arg4.view (Rect.unit (s := S2x2048x256) offB S1x256x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6) := ⟨_, rfl⟩
  obtain ⟨a1, h1⟩ : ∃ a1 : Vec Ideal S256x512 .bf16, a1 = k0_pay53 (k0_pay50 (k0_pay46 (View.readAt (Elt Ideal) arg4.view (Rect.unit (s := S2x2048x256) offA S1x256x256.size iA).toLoadRect X4) (View.readAt (Elt Ideal) arg4.view (Rect.unit (s := S2x2048x256) offB S1x256x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay51 (k0_pay46 (View.readAt (Elt Ideal) arg4.view (Rect.unit (s := S2x2048x256) offA S1x256x256.size iA).toLoadRect X4) (View.readAt (Elt Ideal) arg4.view (Rect.unit (s := S2x2048x256) offB S1x256x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay52 := ⟨_, rfl⟩
  rw [← h0, ← h1]
  have e0 := Cert.Hand.readAt_unit_apply arg12.view (arg12.view.writes (Elt Ideal) arg12.view.junk
      (⟨Rect.unit (s := S1024x1024) ![0, 512] S256x512.size inb_S1024x1024_S256x512_0_512, a1⟩ :: ⟨Rect.unit (s := S1024x1024) ![0, 0] S256x512.size inb_S1024x1024_S256x512_0_0, a0⟩ :: L))
    inb_S1024x1024_S256x1024_0_0 (ix2 t e) (ix2 (⟨t.val, by omega⟩ : Fin 1024) e) rfl
    (Fin.forall_fin_two.mpr ⟨(Nat.zero_add _).symm, (Nat.zero_add _).symm⟩)
  refine Eq.trans e0 ?_
  by_cases he : e.val < 512
  · have e1 := View.read_writes_cons_unit_of_not_mem (s := S1024x1024) (size := S256x512.size) arg12.view arg12.view.junk inb_S1024x1024_S256x512_0_512 a1
      (⟨Rect.unit (s := S1024x1024) ![0, 0] S256x512.size inb_S1024x1024_S256x512_0_0, a0⟩ :: L) (ix2 (⟨t.val, by omega⟩ : Fin 1024) e) rfl 1
      (Or.inl he)
    have e2 := View.read_writes_cons_unit_of_mem (s := S1024x1024) (size := S256x512.size) arg12.view arg12.view.junk inb_S1024x1024_S256x512_0_0 a0
      L (ix2 (⟨t.val, by omega⟩ : Fin 1024) e) (ix2 t (⟨e.val, he⟩ : Fin 512)) rfl
      (Fin.forall_fin_two.mpr ⟨(Nat.zero_add _).symm, (Nat.zero_add _).symm⟩)
    rw [e1, e2, h0, act0_256, hrow]
    unfold hidden
    exact congrArg₂ glu
      (congrArg₂ (· + ·) (Finset.sum_congr rfl fun d _ => congrArg (rowIn arg4 X4 r d * ·) (load_gu arg10 X10 inb_S1024x2048_S1024x512_0_0 rfl d ⟨e.val, he⟩ ⟨e.val, by omega⟩ (Nat.zero_add _).symm)) (load_bgu arg6 X6 inb_S1x1x1x2048_S1x1x1x512_0_0_0_0 rfl ⟨e.val, he⟩ ⟨e.val, by omega⟩ (Nat.zero_add _).symm))
      (congrArg₂ (· + ·) (Finset.sum_congr rfl fun d _ => congrArg (rowIn arg4 X4 r d * ·) (load_gu arg10 X10 inb_S1024x2048_S1024x512_0_1024 rfl d ⟨e.val, he⟩ ⟨1024 + e.val, by omega⟩ rfl)) (load_bgu arg6 X6 inb_S1x1x1x2048_S1x1x1x512_0_0_0_1024 rfl ⟨e.val, he⟩ ⟨1024 + e.val, by omega⟩ rfl))
  · have hlt : e.val - 512 < 512 := by omega
    have e1 := View.read_writes_cons_unit_of_mem (s := S1024x1024) (size := S256x512.size) arg12.view arg12.view.junk inb_S1024x1024_S256x512_0_512 a1
      (⟨Rect.unit (s := S1024x1024) ![0, 0] S256x512.size inb_S1024x1024_S256x512_0_0, a0⟩ :: L) (ix2 (⟨t.val, by omega⟩ : Fin 1024) e) (ix2 t (⟨e.val - 512, hlt⟩ : Fin 512)) rfl
      (Fin.forall_fin_two.mpr ⟨(Nat.zero_add _).symm, by show e.val = 512 + (e.val - 512); omega⟩)
    rw [e1, h1, act1_256, hrow]
    unfold hidden
    exact congrArg₂ glu
      (congrArg₂ (· + ·) (Finset.sum_congr rfl fun d _ => congrArg (rowIn arg4 X4 r d * ·) (load_gu arg10 X10 inb_S1024x2048_S1024x512_0_512 rfl d ⟨e.val - 512, hlt⟩ ⟨e.val, by omega⟩ (by show e.val = 512 + (e.val - 512); omega))) (load_bgu arg6 X6 inb_S1x1x1x2048_S1x1x1x512_0_0_0_512 rfl ⟨e.val - 512, hlt⟩ ⟨e.val, by omega⟩ (by show e.val = 512 + (e.val - 512); omega)))
      (congrArg₂ (· + ·) (Finset.sum_congr rfl fun d _ => congrArg (rowIn arg4 X4 r d * ·) (load_gu arg10 X10 inb_S1024x2048_S1024x512_0_1536 rfl d ⟨e.val - 512, hlt⟩ ⟨1024 + e.val, by omega⟩ (by show 1024 + e.val = 1536 + (e.val - 512); omega))) (load_bgu arg6 X6 inb_S1x1x1x2048_S1x1x1x512_0_0_0_1536 rfl ⟨e.val - 512, hlt⟩ ⟨1024 + e.val, by omega⟩ (by show 1024 + e.val = 1536 + (e.val - 512); omega)))

/-- The run's two stores extend the finished rows down by 256. -/
theorem rows_256 {offC offD : Fin 3 → ℕ}
    (iC : ∀ a, offC a + S1x512x256.size a ≤ S2x4096x256.size a) (iD : ∀ a, offD a + S1x512x256.size a ≤ S2x4096x256.size a)
    {o : ℕ} (hC : offC = ![0, 2 * o, 0]) (hD : offD = ![1, 2 * o, 0]) (ho : o + 256 ≤ 2048)
    (f9 : BufTy.Contents (Elt Ideal) arg9.view.ty) (L : List (View.Piece (Elt Ideal) S2x4096x256 .bf16))
    (hid : Vec Ideal S256x1024 .bf16)
    (hhid : ∀ (t : Fin 256) (r : Fin 2048) (hr : r.val = o + t.val) (e : Fin 1024), hid (ix2 t e) = hidden (rowIn arg4 X4 r) (wGu arg10 X10) (bGu arg6 X6) e)
    (hf : RowsOk (rowOut arg4 arg6 arg8 arg10 arg11 X4 X6 X8 X10 X11) arg9 (o + 256) (arg9.view.writes (Elt Ideal) f9 L)) :
    RowsOk (rowOut arg4 arg6 arg8 arg10 arg11 X4 X6 X8 X10 X11) arg9 o
      (arg9.view.writes (Elt Ideal) f9
        (⟨Rect.unit (s := S2x4096x256) offD S1x512x256.size iD, k0_pay2 (k0_pay58 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay59 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩
          :: ⟨Rect.unit (s := S2x4096x256) offC S1x512x256.size iC, k0_pay57 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩ :: L)) := by
  intro p r h j hor
  obtain ⟨y0, h0⟩ : ∃ y0 : Vec Ideal S1x512x256 .bf16, y0 = k0_pay57 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) := ⟨_, rfl⟩
  obtain ⟨y1, h1⟩ : ∃ y1 : Vec Ideal S1x512x256 .bf16, y1 = k0_pay2 (k0_pay58 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay59 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) := ⟨_, rfl⟩
  rw [← h0, ← h1]
  obtain ⟨q, hq⟩ : ∃ q : Fin 4096, q = ⟨2 * r.val + h.val, by omega⟩ := ⟨_, rfl⟩
  have hqv : q.val = 2 * r.val + h.val := by rw [hq]
  rw [← hq]
  by_cases hin : o + 256 ≤ r.val
  · have e1 := View.read_writes_cons_unit_of_not_mem (s := S2x4096x256) (size := S1x512x256.size) arg9.view f9 iD y1
      (⟨Rect.unit (s := S2x4096x256) offC S1x512x256.size iC, y0⟩ :: L) (ix3 p q j) hD 1
      (Or.inr (show 2 * o + 512 ≤ q.val by omega))
    have e2 := View.read_writes_cons_unit_of_not_mem (s := S2x4096x256) (size := S1x512x256.size) arg9.view f9 iC y0
      L (ix3 p q j) hC 1
      (Or.inr (show 2 * o + 512 ≤ q.val by omega))
    rw [e1, e2, hq]
    exact hf p r h j hin
  · have ht : r.val - o < 256 := by omega
    have hr : r.val = o + (⟨r.val - o, ht⟩ : Fin 256).val := by show r.val = o + (r.val - o); omega
    have ex : ∀ e : Fin 1024, hid (ix2 (⟨r.val - o, ht⟩ : Fin 256) e) = hidden (rowIn arg4 X4 r) (wGu arg10 X10) (bGu arg6 X6) e :=
      hhid ⟨r.val - o, ht⟩ r hr
    fin_cases p
    · have e1 := View.read_writes_cons_unit_of_not_mem (s := S2x4096x256) (size := S1x512x256.size) arg9.view f9 iD y1
        (⟨Rect.unit (s := S2x4096x256) offC S1x512x256.size iC, y0⟩ :: L) (ix3 (0 : Fin 2) q j) hD 0
        (Or.inl (show (0 : ℕ) < 1 by omega))
      have e2 := View.read_writes_cons_unit_of_mem (s := S2x4096x256) (size := S1x512x256.size) arg9.view f9 iC y0
        L (ix3 (0 : Fin 2) q j) (ix3 (0 : Fin 1) (⟨2 * (r.val - o) + h.val, by omega⟩ : Fin 512) j) hC
        (fun a => by fin_cases a; rfl; exact (show q.val = 2 * o + (2 * (r.val - o) + h.val) by omega); exact (Nat.zero_add _).symm)
      refine Eq.trans e1 (Eq.trans e2 ?_)
      rw [h0, out0_256 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 256) h j, load_bdn]
      have hcol : (⟨512 * h.val + j.val, by omega⟩ : Fin 1024) = ⟨512 * h.val + (256 * 0 + j.val), by omega⟩ := Fin.ext (by show 512 * h.val + j.val = 512 * h.val + (256 * 0 + j.val); omega)
      unfold rowOut expert
      rw [hcol]
      congr 1
      exact Finset.sum_congr rfl fun e _ => by rw [ex, load_dn]
    · have e2 := View.read_writes_cons_unit_of_mem (s := S2x4096x256) (size := S1x512x256.size) arg9.view f9 iD y1
        (⟨Rect.unit (s := S2x4096x256) offC S1x512x256.size iC, y0⟩ :: L) (ix3 (1 : Fin 2) q j) (ix3 (0 : Fin 1) (⟨2 * (r.val - o) + h.val, by omega⟩ : Fin 512) j) hD
        (fun a => by fin_cases a; rfl; exact (show q.val = 2 * o + (2 * (r.val - o) + h.val) by omega); exact (Nat.zero_add _).symm)
      refine Eq.trans e2 ?_
      rw [h1, out1_256 hid (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8) (⟨r.val - o, ht⟩ : Fin 256) h j, load_bdn]
      have hcol : (⟨512 * h.val + (256 + j.val), by omega⟩ : Fin 1024) = ⟨512 * h.val + (256 * 1 + j.val), by omega⟩ := Fin.ext (by show 512 * h.val + (256 + j.val) = 512 * h.val + (256 * 1 + j.val); omega)
      unfold rowOut expert
      rw [hcol]
      congr 1
      exact Finset.sum_congr rfl fun e _ => by rw [ex, load_dn]

end

end Cert.KernelIdeal.Hand

end
-- ==== Proof.KI.Run3.lean ====
/-
  One trip of the loop of 1024-row runs.
-/
module

public import proofs.«01_k».proof.Proof.KI.Geometry
public import proofs.«01_k».proof.Proof.KI.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The rows after one trip of the 1024-row loop. -/
theorem tripRows3 (arg4 : Memref sig .tc .vmem S2x2048x256 .i32) (arg6 : Memref sig .tc .vmem S1x1x1x2048 .f32)
    (arg8 : Memref sig .tc .vmem S1x1x1x1024 .f32) (arg9 : Memref sig .tc .vmem S2x4096x256 .bf16)
    (arg10 : Memref sig .tc .vmem S1024x2048 .bf16) (arg11 : Memref sig .tc .vmem S1024x1024 .bf16)
    (arg12 : Memref sig .tc .vmem S1024x1024 .bf16)
    (X4 : BufTy.Contents (Elt Ideal) arg4.view.ty) (X6 : BufTy.Contents (Elt Ideal) arg6.view.ty)
    (X8 : BufTy.Contents (Elt Ideal) arg8.view.ty) (X10 : BufTy.Contents (Elt Ideal) arg10.view.ty)
    (X11 : BufTy.Contents (Elt Ideal) arg11.view.ty) (n : Fin 9) (k : Fin (k0_t3_loop (nb n)).trips)
    (f9 : BufTy.Contents (Elt Ideal) arg9.view.ty)
    (hf : RowsOk (rowOut arg4 arg6 arg8 arg10 arg11 X4 X6 X8 X10 X11) arg9 (2048 - 1024 * k.val) f9)
    (iA : ∀ a, k0_off8 (nb n) k a + S1x1024x256.size a ≤ S2x2048x256.size a) (iB : ∀ a, k0_off9 (nb n) k a + S1x1024x256.size a ≤ S2x2048x256.size a)
    (iC : ∀ a, k0_off10 (nb n) k a + S1x2048x256.size a ≤ S2x4096x256.size a) (iD : ∀ a, k0_off11 (nb n) k a + S1x2048x256.size a ≤ S2x4096x256.size a) :
    RowsOk (rowOut arg4 arg6 arg8 arg10 arg11 X4 X6 X8 X10 X11) arg9 (2048 - 1024 * (k.val + 1))
      (arg9.view.writes (Elt Ideal) f9
        [⟨Rect.unit (s := S2x4096x256) (k0_off11 (nb n) k) S1x2048x256.size iD, k0_pay63 (k0_pay15 (arg12.view.readCov (Val := Elt Ideal) [⟨Rect.unit (s := S1024x1024) ![0, 512] S1024x512.size inb_S1024x1024_S1024x512_0_512, k0_pay10 (k0_pay7 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (k0_pay8 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) k0_pay9⟩, ⟨Rect.unit (s := S1024x1024) ![0, 0] S1024x512.size inb_S1024x1024_S1024x512_0_0, k0_pay6 (k0_pay4 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay5 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S1024x1024.size inb_S1024x1024_S1024x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay16 (arg12.view.readCov (Val := Elt Ideal) [⟨Rect.unit (s := S1024x1024) ![0, 512] S1024x512.size inb_S1024x1024_S1024x512_0_512, k0_pay10 (k0_pay7 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (k0_pay8 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) k0_pay9⟩, ⟨Rect.unit (s := S1024x1024) ![0, 0] S1024x512.size inb_S1024x1024_S1024x512_0_0, k0_pay6 (k0_pay4 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay5 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S1024x1024.size inb_S1024x1024_S1024x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩,
          ⟨Rect.unit (s := S2x4096x256) (k0_off10 (nb n) k) S1x2048x256.size iC, k0_pay14 (arg12.view.readCov (Val := Elt Ideal) [⟨Rect.unit (s := S1024x1024) ![0, 512] S1024x512.size inb_S1024x1024_S1024x512_0_512, k0_pay10 (k0_pay7 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (k0_pay8 (k0_pay3 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) k0_pay9⟩, ⟨Rect.unit (s := S1024x1024) ![0, 0] S1024x512.size inb_S1024x1024_S1024x512_0_0, k0_pay6 (k0_pay4 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay5 (View.readAt (Elt Ideal) arg4.view (Rect.unit (s := S2x2048x256) (k0_off8 (nb n) k) S1x1024x256.size iA).toLoadRect X4) (View.readAt (Elt Ideal) arg4.view (Rect.unit (s := S2x2048x256) (k0_off9 (nb n) k) S1x1024x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S1024x1024.size inb_S1024x1024_S1024x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩]) := by
  have hk : k.val < 2 := by
    have h1 := k.isLt
    have h2 := trips3 n
    have h3 := n.isLt
    omega
  have ho : 2048 - 1024 * (k.val + 1) = 1024 - 1024 * k.val := by omega
  rw [ho]
  refine rows_1024 arg4 arg6 arg8 arg9 arg10 arg11 X4 X6 X8 X10 X11 iC iD (off10 n k) (off11 n k) (by omega) f9 [] _ ?_ ?_
  · exact fun t r hr e => hidden_1024 arg4 arg6 arg10 arg12 X4 X6 X10 iA iB (off8 n k) (off9 n k) [] t r hr e
  · rw [show 1024 - 1024 * k.val + 1024 = 2048 - 1024 * k.val by omega]
    exact hf

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- One trip: 1024 rows, the next ones up from the finished rows at the bottom. -/
theorem trip3 (X4 : BufTy.Contents (Elt Ideal) arg4.view.ty) (X6 : BufTy.Contents (Elt Ideal) arg6.view.ty) (X8 : BufTy.Contents (Elt Ideal) arg8.view.ty) (X10 : BufTy.Contents (Elt Ideal) arg10.view.ty) (X11 : BufTy.Contents (Elt Ideal) arg11.view.ty)
    (v9 : BitVec 32) (n : Fin 9) (hc : k0_chk1 i v9 (nb n)) (v17 : BitVec 32) (h2 : k0_cond2 i v9 (nb n) = 1#1) (k : Fin (k0_t3_loop (nb n)).trips) (acc : BitVec 32)
    (f9 : BufTy.Contents (Elt Ideal) arg9.view.ty) (f12 : BufTy.Contents (Elt Ideal) arg12.view.ty)
    (hf : RowsOk (rowOut arg4 arg6 arg8 arg10 arg11 X4 X6 X8 X10 X11) arg9 (2048 - 1024 * k.val) f9) :
    iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (arg9.view.loc (c : Thread nD τ) ↦[arg9.view.set]{fullShare} f9) ∗ (arg12.view.loc (c : Thread nD τ) ↦[arg12.view.set]{fullShare} f12))
      ⊢ wp frame (wpE (defs₀ (F := Ideal)) 𝒱 (c : Thread nD τ) bd) E (k0_t3_body (F := Ideal) i arg1 harg1 arg2 harg2 arg3 harg3 arg4 harg4 arg5 harg5 arg6 harg6 arg7 harg7 arg8 harg8 arg9 harg9 arg10 harg10 arg11 harg11 arg12 harg12 v9 (nb n) hc v17 h2 k acc)
          (fun _ => iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9', (arg9.view.loc (c : Thread nD τ) ↦[arg9.view.set]{fullShare} f9') ∗ ⌜RowsOk (rowOut arg4 arg6 arg8 arg10 arg11 X4 X6 X8 X10 X11) arg9 (2048 - 1024 * (k.val + 1)) f9'⌝) ∗ (∃ f12', (arg12.view.loc (c : Thread nD τ) ↦[arg12.view.set]{fullShare} f12')) : sProp 𝕄)) := by
  unfold k0_t3_body
  iintro ⟨H4, H6, H8, H10, H11, H9, H12⟩
  sl_exec
  sl_step
  isplitl [H4]; · iexact H4
  isplitl [H6]; · iexact H6
  isplitl [H8]; · iexact H8
  isplitl [H10]; · iexact H10
  isplitl [H11]; · iexact H11
  isplitl [H9]
  · iexists _; isplitl [H9]; · iexact H9
    ipureintro
    exact tripRows3 arg4 arg6 arg8 arg9 arg10 arg11 arg12 X4 X6 X8 X10 X11 n k f9 hf (k0_off8_inb i v9 (nb n) hc k h2) (k0_off9_inb i v9 (nb n) hc k h2) (k0_off10_inb i v9 (nb n) hc k h2) (k0_off11_inb i v9 (nb n) hc k h2)
  · iexists _; iexact H12

end Cert.KernelIdeal.Hand

end
-- ==== Proof.KI.Cast.lean ====
/-
  The two loops that recast the expert's weights: what one trip leaves, and the loops by their invariants.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.PointwiseCore
public import proofs.«01_k».proof.Proof.Loads

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- The rows below `128 * k` of the scratch hold the block's rows, recast. -/
def Cast1 (arg5 : Memref sig .tc .vmem S1x1x1024x2048 .f32) (arg10 : Memref sig .tc .vmem S1024x2048 .bf16)
    (X : BufTy.Contents (Elt F) arg5.view.ty) (k : ℕ) (f : BufTy.Contents (Elt F) arg10.view.ty) : Prop :=
  ∀ (r : Fin 1024) (j : Fin 2048), r.val < 128 * k →
    arg10.view.read (Elt F) f (ix2 r j) = FloatOps.truncf .bf16 bitsLt_bf16_f32 (arg5.view.read (Elt F) X (ix4 0 0 r j))

/-- Storing rows `[128 * k, 128 * k + 128)`, recast, extends the recast rows by 128. -/
theorem castStep1 (arg5 : Memref sig .tc .vmem S1x1x1024x2048 .f32) (arg10 : Memref sig .tc .vmem S1024x2048 .bf16)
    (X : BufTy.Contents (Elt F) arg5.view.ty) (k : Fin k0_t1_loop.trips)
    (f : BufTy.Contents (Elt F) arg10.view.ty) (hf : Cast1 arg5 arg10 X k.val f) :
    Cast1 arg5 arg10 X (k.val + 1) (arg10.view.writes (Elt F) f
      [⟨Rect.unit (s := S1024x2048) (k0_off4 k) S128x2048.size (k0_off4_inb k), k0_pay61 (F := F) (View.readAt (Elt F) arg5.view (Rect.unit (s := S1x1x1024x2048) (k0_off3 k) S1x1x128x2048.size (k0_off3_inb k)).toLoadRect X)⟩]) := by
  intro r j hr
  obtain ⟨w, hw⟩ : ∃ w, w = k0_pay61 (F := F) (View.readAt (Elt F) arg5.view (Rect.unit (s := S1x1x1024x2048) (k0_off3 k) S1x1x128x2048.size (k0_off3_inb k)).toLoadRect X) := ⟨_, rfl⟩
  rw [← hw]
  by_cases h : r.val < 128 * k.val
  · have e := View.read_writes_cons_unit_of_not_mem (s := S1024x2048) (size := S128x2048.size) arg10.view f (k0_off4_inb k) w []
      (ix2 r j) (k0_off4_eq k) (0 : Fin 2) (Or.inl h)
    exact e.trans (hf r j h)
  · have e := View.read_writes_cons_unit_of_mem (s := S1024x2048) (size := S128x2048.size) arg10.view f (k0_off4_inb k) w []
      (ix2 r j) (ix2 (⟨r.val - 128 * k.val, by omega⟩ : Fin 128) j) (k0_off4_eq k) (by
        intro a
        fin_cases a
        · show r.val = 128 * k.val + (r.val - 128 * k.val); omega
        · show j.val = 0 + j.val; omega)
    refine e.trans ?_
    subst hw
    pointwise [k0_pay61]
    have e' := Cert.Hand.readAt_unit_apply (s := S1x1x1024x2048) (size := S1x1x128x2048.size) arg5.view X (k0_off3_inb k)
      (ix4 0 0 (⟨r.val - 128 * k.val, by omega⟩ : Fin 128) j) (ix4 0 0 r j) (k0_off3_eq k) (by
        intro a
        fin_cases a
        · rfl
        · rfl
        · show r.val = 128 * k.val + (r.val - 128 * k.val); omega
        · show j.val = 0 + j.val; omega)
    exact congrArg _ e'

/-- One trip recasts the next 128 rows. -/
theorem trip1 (X : BufTy.Contents (Elt F) arg5.view.ty) (k : Fin k0_t1_loop.trips) (acc : Unit)
    (f : BufTy.Contents (Elt F) arg10.view.ty) (hf : Cast1 arg5 arg10 X k.val f) :
    iprop((arg5.view.loc (c : Thread nD τ) ↦[arg5.view.set]{fullShare} X) ∗ (arg10.view.loc (c : Thread nD τ) ↦[arg10.view.set]{fullShare} f))
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k acc)
          (fun _ => iprop((arg5.view.loc (c : Thread nD τ) ↦[arg5.view.set]{fullShare} X)
            ∗ (∃ f', (arg10.view.loc (c : Thread nD τ) ↦[arg10.view.set]{fullShare} f') ∗ ⌜Cast1 arg5 arg10 X (k.val + 1) f'⌝) : sProp 𝕄)) := by
  unfold k0_t1_body
  iintro ⟨HR, HW⟩
  sl_exec
  sl_step
  isplitl [HR]; · iexact HR
  iexists _; isplitl [HW]; · iexact HW
  ipureintro
  exact castStep1 arg5 arg10 X k f hf

/-- The rows below `128 * k` of the scratch hold the block's rows, recast. -/
def Cast2 (arg7 : Memref sig .tc .vmem S1x1x1024x1024 .f32) (arg11 : Memref sig .tc .vmem S1024x1024 .bf16)
    (X : BufTy.Contents (Elt F) arg7.view.ty) (k : ℕ) (f : BufTy.Contents (Elt F) arg11.view.ty) : Prop :=
  ∀ (r : Fin 1024) (j : Fin 1024), r.val < 128 * k →
    arg11.view.read (Elt F) f (ix2 r j) = FloatOps.truncf .bf16 bitsLt_bf16_f32 (arg7.view.read (Elt F) X (ix4 0 0 r j))

/-- Storing rows `[128 * k, 128 * k + 128)`, recast, extends the recast rows by 128. -/
theorem castStep2 (arg7 : Memref sig .tc .vmem S1x1x1024x1024 .f32) (arg11 : Memref sig .tc .vmem S1024x1024 .bf16)
    (X : BufTy.Contents (Elt F) arg7.view.ty) (k : Fin k0_t2_loop.trips)
    (f : BufTy.Contents (Elt F) arg11.view.ty) (hf : Cast2 arg7 arg11 X k.val f) :
    Cast2 arg7 arg11 X (k.val + 1) (arg11.view.writes (Elt F) f
      [⟨Rect.unit (s := S1024x1024) (k0_off6 k) S128x1024.size (k0_off6_inb k), k0_pay62 (F := F) (View.readAt (Elt F) arg7.view (Rect.unit (s := S1x1x1024x1024) (k0_off5 k) S1x1x128x1024.size (k0_off5_inb k)).toLoadRect X)⟩]) := by
  intro r j hr
  obtain ⟨w, hw⟩ : ∃ w, w = k0_pay62 (F := F) (View.readAt (Elt F) arg7.view (Rect.unit (s := S1x1x1024x1024) (k0_off5 k) S1x1x128x1024.size (k0_off5_inb k)).toLoadRect X) := ⟨_, rfl⟩
  rw [← hw]
  by_cases h : r.val < 128 * k.val
  · have e := View.read_writes_cons_unit_of_not_mem (s := S1024x1024) (size := S128x1024.size) arg11.view f (k0_off6_inb k) w []
      (ix2 r j) (k0_off6_eq k) (0 : Fin 2) (Or.inl h)
    exact e.trans (hf r j h)
  · have e := View.read_writes_cons_unit_of_mem (s := S1024x1024) (size := S128x1024.size) arg11.view f (k0_off6_inb k) w []
      (ix2 r j) (ix2 (⟨r.val - 128 * k.val, by omega⟩ : Fin 128) j) (k0_off6_eq k) (by
        intro a
        fin_cases a
        · show r.val = 128 * k.val + (r.val - 128 * k.val); omega
        · show j.val = 0 + j.val; omega)
    refine e.trans ?_
    subst hw
    pointwise [k0_pay62]
    have e' := Cert.Hand.readAt_unit_apply (s := S1x1x1024x1024) (size := S1x1x128x1024.size) arg7.view X (k0_off5_inb k)
      (ix4 0 0 (⟨r.val - 128 * k.val, by omega⟩ : Fin 128) j) (ix4 0 0 r j) (k0_off5_eq k) (by
        intro a
        fin_cases a
        · rfl
        · rfl
        · show r.val = 128 * k.val + (r.val - 128 * k.val); omega
        · show j.val = 0 + j.val; omega)
    exact congrArg _ e'

/-- One trip recasts the next 128 rows. -/
theorem trip2 (X : BufTy.Contents (Elt F) arg7.view.ty) (k : Fin k0_t2_loop.trips) (acc : Unit)
    (f : BufTy.Contents (Elt F) arg11.view.ty) (hf : Cast2 arg7 arg11 X k.val f) :
    iprop((arg7.view.loc (c : Thread nD τ) ↦[arg7.view.set]{fullShare} X) ∗ (arg11.view.loc (c : Thread nD τ) ↦[arg11.view.set]{fullShare} f))
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k acc)
          (fun _ => iprop((arg7.view.loc (c : Thread nD τ) ↦[arg7.view.set]{fullShare} X)
            ∗ (∃ f', (arg11.view.loc (c : Thread nD τ) ↦[arg11.view.set]{fullShare} f') ∗ ⌜Cast2 arg7 arg11 X (k.val + 1) f'⌝) : sProp 𝕄)) := by
  unfold k0_t2_body
  iintro ⟨HR, HW⟩
  sl_exec
  sl_step
  isplitl [HR]; · iexact HR
  iexists _; isplitl [HW]; · iexact HW
  ipureintro
  exact castStep2 arg7 arg11 X k f hf

end Cert.KernelIdeal.Hand

end
-- ==== Proof.KI.Runs.lean ====
/-
  The loops of one grid point: the two that recast the expert's weights, the one over 1024-row runs, and the loop left over
  after it, which has no trips.
-/
module

public import proofs.«01_k».proof.Proof.KI.Run3
public import proofs.«01_k».proof.Proof.KI.Cast

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

set_option warn.classDefReducibility false in
/-- The recast loop over arg5: before trip `k` the trips so far have recast their rows. -/
@[sl_loop] def recastLoop1 (X : BufTy.Contents (Elt Ideal) arg5.view.ty) :
    Idealize.ShloMosaic.LoopInv (M := 𝕄) Idealize.ShloMosaic.frame (wpE (defs₀ (F := Ideal)) 𝒱 (c : Thread nD τ) bd) E k0_t1_loop.lb k0_t1_loop.ub k0_t1_loop.st k0_t1_ok () (k0_t1_body (F := Ideal) i arg1 harg1 arg2 harg2 arg3 harg3 arg4 harg4 arg5 harg5 arg6 harg6 arg7 harg7 arg8 harg8 arg9 harg9 arg10 harg10 arg11 harg11 arg12 harg12) where
  inv k _ := iprop((arg5.view.loc (c : Thread nD τ) ↦[arg5.view.set]{fullShare} X) ∗ (∃ f, (arg10.view.loc (c : Thread nD τ) ↦[arg10.view.set]{fullShare} f) ∗ ⌜Cast1 arg5 arg10 X k f⌝))
  step k acc := by
    iintro ⟨HR, ⟨%f, HW, %hf⟩⟩
    iapply (wp_wand_r Idealize.ShloMosaic.frame (wpE (defs₀ (F := Ideal)) 𝒱 (c : Thread nD τ) bd) E)
    isplitl [HR HW]
    · iapply (trip1 (F := Ideal) 𝒱 c bd E i arg1 harg1 arg2 harg2 arg3 harg3 arg4 harg4 arg5 harg5 arg6 harg6 arg7 harg7 arg8 harg8 arg9 harg9 arg10 harg10 arg11 harg11 arg12 harg12 X k acc f hf)
      isplitl [HR]; · iexact HR
      iexact HW
    · iintro %_ H
      iexact H

set_option warn.classDefReducibility false in
/-- The recast loop over arg7: before trip `k` the trips so far have recast their rows. -/
@[sl_loop] def recastLoop2 (X : BufTy.Contents (Elt Ideal) arg7.view.ty) :
    Idealize.ShloMosaic.LoopInv (M := 𝕄) Idealize.ShloMosaic.frame (wpE (defs₀ (F := Ideal)) 𝒱 (c : Thread nD τ) bd) E k0_t2_loop.lb k0_t2_loop.ub k0_t2_loop.st k0_t2_ok () (k0_t2_body (F := Ideal) i arg1 harg1 arg2 harg2 arg3 harg3 arg4 harg4 arg5 harg5 arg6 harg6 arg7 harg7 arg8 harg8 arg9 harg9 arg10 harg10 arg11 harg11 arg12 harg12) where
  inv k _ := iprop((arg7.view.loc (c : Thread nD τ) ↦[arg7.view.set]{fullShare} X) ∗ (∃ f, (arg11.view.loc (c : Thread nD τ) ↦[arg11.view.set]{fullShare} f) ∗ ⌜Cast2 arg7 arg11 X k f⌝))
  step k acc := by
    iintro ⟨HR, ⟨%f, HW, %hf⟩⟩
    iapply (wp_wand_r Idealize.ShloMosaic.frame (wpE (defs₀ (F := Ideal)) 𝒱 (c : Thread nD τ) bd) E)
    isplitl [HR HW]
    · iapply (trip2 (F := Ideal) 𝒱 c bd E i arg1 harg1 arg2 harg2 arg3 harg3 arg4 harg4 arg5 harg5 arg6 harg6 arg7 harg7 arg8 harg8 arg9 harg9 arg10 harg10 arg11 harg11 arg12 harg12 X k acc f hf)
      isplitl [HR]; · iexact HR
      iexact HW
    · iintro %_ H
      iexact H

set_option warn.classDefReducibility false in
/-- The loop over 1024-row runs: before trip `k` the last `1024 * k` rows are finished. -/
@[sl_loop] def runLoop (X4 : BufTy.Contents (Elt Ideal) arg4.view.ty) (X6 : BufTy.Contents (Elt Ideal) arg6.view.ty) (X8 : BufTy.Contents (Elt Ideal) arg8.view.ty) (X10 : BufTy.Contents (Elt Ideal) arg10.view.ty) (X11 : BufTy.Contents (Elt Ideal) arg11.view.ty) (v9 : BitVec 32) (n : Fin 9) (hc : k0_chk1 i v9 (nb n)) (v17 : BitVec 32) (h2 : k0_cond2 i v9 (nb n) = 1#1) (init : BitVec 32) :
    Idealize.ShloMosaic.LoopInv (M := 𝕄) Idealize.ShloMosaic.frame (wpE (defs₀ (F := Ideal)) 𝒱 (c : Thread nD τ) bd) E (k0_t3_loop (nb n)).lb (k0_t3_loop (nb n)).ub (k0_t3_loop (nb n)).st (k0_t3_ok i v9 (nb n) hc h2) init (k0_t3_body (F := Ideal) i arg1 harg1 arg2 harg2 arg3 harg3 arg4 harg4 arg5 harg5 arg6 harg6 arg7 harg7 arg8 harg8 arg9 harg9 arg10 harg10 arg11 harg11 arg12 harg12 v9 (nb n) hc v17 h2) where
  inv k _ := iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9, (arg9.view.loc (c : Thread nD τ) ↦[arg9.view.set]{fullShare} f9) ∗ ⌜RowsOk (rowOut arg4 arg6 arg8 arg10 arg11 X4 X6 X8 X10 X11) arg9 (2048 - 1024 * k) f9⌝) ∗ (∃ f12, (arg12.view.loc (c : Thread nD τ) ↦[arg12.view.set]{fullShare} f12)))
  step k acc := by
    iintro ⟨H4, H6, H8, H10, H11, ⟨%f9, H9, %hf⟩, ⟨%f12, H12⟩⟩
    iapply (wp_wand_r Idealize.ShloMosaic.frame (wpE (defs₀ (F := Ideal)) 𝒱 (c : Thread nD τ) bd) E)
    isplitl [H4 H6 H8 H10 H11 H9 H12]
    · iapply (trip3 𝒱 c bd E i arg1 harg1 arg2 harg2 arg3 harg3 arg4 harg4 arg5 harg5 arg6 harg6 arg7 harg7 arg8 harg8 arg9 harg9 arg10 harg10 arg11 harg11 arg12 harg12 X4 X6 X8 X10 X11 v9 n hc v17 h2 k acc f9 f12 hf)
      isplitl [H4]; · iexact H4
      isplitl [H6]; · iexact H6
      isplitl [H8]; · iexact H8
      isplitl [H10]; · iexact H10
      isplitl [H11]; · iexact H11
      isplitl [H9]; · iexact H9
      iexact H12
    · iintro %_ H
      iexact H

set_option warn.classDefReducibility false in
/-- The loop left over has no trips: whatever holds before it holds after it. -/
@[sl_loop] def leftLoop (X4 : BufTy.Contents (Elt Ideal) arg4.view.ty) (X6 : BufTy.Contents (Elt Ideal) arg6.view.ty) (X8 : BufTy.Contents (Elt Ideal) arg8.view.ty) (X10 : BufTy.Contents (Elt Ideal) arg10.view.ty) (X11 : BufTy.Contents (Elt Ideal) arg11.view.ty) (v9 : BitVec 32) (n : Fin 9) (hc : k0_chk1 i v9 (nb n)) (v17 : BitVec 32) (h2 : k0_cond2 i v9 (nb n) = 1#1) (v53 : BitVec 32) (init : BitVec 32) :
    Idealize.ShloMosaic.LoopInv (M := 𝕄) Idealize.ShloMosaic.frame (wpE (defs₀ (F := Ideal)) 𝒱 (c : Thread nD τ) bd) E (k0_t4_loop (nb n)).lb (k0_t4_loop (nb n)).ub (k0_t4_loop (nb n)).st (k0_t4_ok i v9 (nb n) hc h2) init (k0_t4_body (F := Ideal) i arg1 harg1 arg2 harg2 arg3 harg3 arg4 harg4 arg5 harg5 arg6 harg6 arg7 harg7 arg8 harg8 arg9 harg9 arg10 harg10 arg11 harg11 arg12 harg12 v9 (nb n) hc v17 h2 v53) where
  inv k _ := iprop((arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11) ∗ (∃ f9, (arg9.view.loc (c : Thread nD τ) ↦[arg9.view.set]{fullShare} f9) ∗ ⌜RowsOk (rowOut arg4 arg6 arg8 arg10 arg11 X4 X6 X8 X10 X11) arg9 (2048 - 1024 * Scf.trips (k0_t3_loop (nb n)).lb (k0_t3_loop (nb n)).ub (k0_t3_loop (nb n)).st) f9⌝) ∗ (∃ f12, (arg12.view.loc (c : Thread nD τ) ↦[arg12.view.set]{fullShare} f12)))
  step k acc := (Nat.not_lt_zero _ (Nat.lt_of_lt_of_eq k.isLt (trips4 n))).elim

end Cert.KernelIdeal.Hand

end
-- ==== Proof.KI.Part13.lean ====
/-
  The first part of a grid point: recast the expert's weights if they are new, then the runs of 1024 rows.
-/
module

public import proofs.«01_k».proof.Proof.KI.Runs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The expert of point `i`, the expert of the point before it, its number of 256-row blocks, and the number of points that
have any rows: words of the three tables. -/
def curWord (i : grid0.Coords) (arg1 : Memref sig .tc .smem S64 .i32) (X : BufTy.Contents (Elt Ideal) arg1.view.ty) : BitVec 32 :=
  View.readAt (Elt Ideal) arg1.view (Rect.unit (s := S64) (k0_off1 i) S1.size (k0_off1_inb i)).toLoadRect X (Shape.Idx.first (numel1_S1.symm ▸ Nat.one_pos))
def prevWord (i : grid0.Coords) (arg1 : Memref sig .tc .smem S64 .i32) (X : BufTy.Contents (Elt Ideal) arg1.view.ty) : BitVec 32 :=
  View.readAt (Elt Ideal) arg1.view (Rect.unit (s := S64) (k0_off2 i) S1.size (k0_off2_inb i)).toLoadRect X (Shape.Idx.first (numel1_S1.symm ▸ Nat.one_pos))
def blkWord (i : grid0.Coords) (arg2 : Memref sig .tc .smem S64 .i32) (X : BufTy.Contents (Elt Ideal) arg2.view.ty) : BitVec 32 :=
  View.readAt (Elt Ideal) arg2.view (Rect.unit (s := S64) (k0_off7 i) S1.size (k0_off7_inb i)).toLoadRect X (Shape.Idx.first (numel1_S1.symm ▸ Nat.one_pos))
def limWord (arg3 : Memref sig .tc .smem S1 .i32) (X : BufTy.Contents (Elt Ideal) arg3.view.ty) : BitVec 32 :=
  View.readAt (Elt Ideal) arg3.view (Rect.unit (s := S1) ![0] S1.size inb_S1_S1_0).toLoadRect X (Shape.Idx.first (numel1_S1.symm ▸ Nat.one_pos))

/-- The point has rows. -/
def live (i : grid0.Coords) (v9 : BitVec 32) : BitVec 1 := Scalar.cmpi .slt (BitVec.ofNat 32 (i 0).val) v9

/-- The point has rows and its expert is not the one before. -/
def fresh (i : grid0.Coords) (v9 cur prev : BitVec 32) : BitVec 1 :=
  Scalar.cmpi .ne (Scalar.extui (Scalar.andi (live i v9) (Scalar.ori (Scalar.cmpi .eq (BitVec.ofNat 32 (i 0).val) 0#32) (Scalar.cmpi .ne cur prev)))) 0#32
/-- Nothing is asked above the window's last row. -/
theorem rowsTop (Y : Fin 2048 → Fin 1024 → EReal) (arg9 : Memref sig .tc .vmem S2x4096x256 .bf16) (o : ℕ) (ho : 2048 ≤ o)
    (f : BufTy.Contents (Elt Ideal) arg9.view.ty) : RowsOk Y arg9 o f :=
  fun p r h j hor => absurd (Nat.le_trans ho hor) (Nat.not_le.mpr r.isLt)

theorem live_of_fresh (i : grid0.Coords) (v9 cur prev : BitVec 32) (h : fresh i v9 cur prev = 1#1) : live i v9 = 1#1 := by
  unfold fresh at h
  by_contra hl
  have hz : live i v9 = 0#1 := by
    rcases BitVec.eq_zero_or_eq_one (live i v9) with h0 | h1
    · exact h0
    · exact absurd h1 hl
  rw [hz] at h
  revert h
  generalize Scalar.ori (Scalar.cmpi .eq (BitVec.ofNat 32 (i 0).val) 0#32) (Scalar.cmpi .ne cur prev) = b
  revert b
  decide

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

theorem part13FreshRuns (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11)
    (hrc : fresh i (limWord arg3 X3) (curWord i arg1 X1) (prevWord i arg1 X1) = 1#1) (h2 : k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (k0_part13 (F := Ideal) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 1024 * (n.val / 4)) f9')
                ∧ (¬ live i (limWord arg3 X3) = 1#1 → f9' = f9 ∧ f10' = f10 ∧ f11' = f11)⌝) : sProp 𝕄)) := by
  rw [k0_part13_eq_skeleton]; unfold k0_part13_skel
  iintro ⟨H1, H2, H3, H4, H5, H6, H7, H8, H9, H10, H11, H12⟩
  have hl : live i (limWord arg3 X3) = 1#1 := live_of_fresh _ _ _ _ hrc
  have hC1 : Cast1 arg5 arg10 X5 0 f10 := fun r j h => absurd h (Nat.not_lt_zero _)
  have hC2 : Cast2 arg7 arg11 X7 0 f11 := fun r j h => absurd h (Nat.not_lt_zero _)
  sl_exec
  have hn' : part13FreshRuns.sl.r_3 i arg2 X2 = nb n := hn
  have hl' : part13FreshRuns.sl.r_2 arg3 X3 = limWord arg3 X3 := rfl
  rw [hn', hl']
  have hchk := checks i (limWord arg3 X3) n
  have hR : RowsOk (rowOut arg4 arg6 arg8 arg10 arg11 X4 X6 X8 fL0 fL1) arg9 (2048 - 1024 * 0) f9 := rowsTop _ _ _ (by omega) _
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  exact ⟨fun hl => ⟨(by assumption), (by assumption), (by first | (rw [← trips3 n]; assumption))⟩, fun h => absurd hl h⟩

theorem part13FreshNone (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11)
    (hrc : fresh i (limWord arg3 X3) (curWord i arg1 X1) (prevWord i arg1 X1) = 1#1) (h2 : ¬ k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (k0_part13 (F := Ideal) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 1024 * (n.val / 4)) f9')
                ∧ (¬ live i (limWord arg3 X3) = 1#1 → f9' = f9 ∧ f10' = f10 ∧ f11' = f11)⌝) : sProp 𝕄)) := by
  rw [k0_part13_eq_skeleton]; unfold k0_part13_skel
  iintro ⟨H1, H2, H3, H4, H5, H6, H7, H8, H9, H10, H11, H12⟩
  have hl : live i (limWord arg3 X3) = 1#1 := live_of_fresh _ _ _ _ hrc
  have hC1 : Cast1 arg5 arg10 X5 0 f10 := fun r j h => absurd h (Nat.not_lt_zero _)
  have hC2 : Cast2 arg7 arg11 X7 0 f11 := fun r j h => absurd h (Nat.not_lt_zero _)
  sl_exec
  have hn' : part13FreshNone.sl.r_3 i arg2 X2 = nb n := hn
  have hl' : part13FreshNone.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  have hz : live i (limWord arg3 X3) = 1#1 → n.val / 4 = 0 := fun hl => Nat.eq_zero_of_not_pos fun hp => h2 ((cond2_iff i (limWord arg3 X3) n).mpr ⟨hl, hp⟩)
  exact ⟨fun hl => ⟨(by assumption), (by assumption), (rowsTop _ _ _ (by have := hz hl; omega) _)⟩, fun h => absurd hl h⟩

theorem part13KeptRuns (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11)
    (hrc : ¬ fresh i (limWord arg3 X3) (curWord i arg1 X1) (prevWord i arg1 X1) = 1#1) (h2 : k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (k0_part13 (F := Ideal) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 1024 * (n.val / 4)) f9')
                ∧ (¬ live i (limWord arg3 X3) = 1#1 → f9' = f9 ∧ f10' = f10 ∧ f11' = f11)⌝) : sProp 𝕄)) := by
  rw [k0_part13_eq_skeleton]; unfold k0_part13_skel
  iintro ⟨H1, H2, H3, H4, H5, H6, H7, H8, H9, H10, H11, H12⟩
  sl_exec
  have hn' : part13KeptRuns.sl.r_3 i arg2 X2 = nb n := hn
  have hl' : part13KeptRuns.sl.r_2 arg3 X3 = limWord arg3 X3 := rfl
  rw [hn', hl']
  have hchk := checks i (limWord arg3 X3) n
  have hR : RowsOk (rowOut arg4 arg6 arg8 arg10 arg11 X4 X6 X8 f10 f11) arg9 (2048 - 1024 * 0) f9 := rowsTop _ _ _ (by omega) _
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  have hl : live i (limWord arg3 X3) = 1#1 := ((cond2_iff i (limWord arg3 X3) n).mp h2).1
  exact ⟨fun hl => ⟨(hinv hl hrc).1, (hinv hl hrc).2, (by first | (rw [← trips3 n]; assumption))⟩, fun h => absurd hl h⟩

theorem part13KeptNone (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11)
    (hrc : ¬ fresh i (limWord arg3 X3) (curWord i arg1 X1) (prevWord i arg1 X1) = 1#1) (h2 : ¬ k0_cond2 i (limWord arg3 X3) (nb n) = 1#1) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (k0_part13 (F := Ideal) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 1024 * (n.val / 4)) f9')
                ∧ (¬ live i (limWord arg3 X3) = 1#1 → f9' = f9 ∧ f10' = f10 ∧ f11' = f11)⌝) : sProp 𝕄)) := by
  rw [k0_part13_eq_skeleton]; unfold k0_part13_skel
  iintro ⟨H1, H2, H3, H4, H5, H6, H7, H8, H9, H10, H11, H12⟩
  sl_exec
  have hn' : part13KeptNone.sl.r_3 i arg2 X2 = nb n := hn
  have hl' : part13KeptNone.sl.r_2 arg3 X3 = limWord arg3 X3 := rfl
  rw [hn', hl']
  have hchk := checks i (limWord arg3 X3) n
  sl_exec
  sl_step
  isplitr; · ipureintro; rfl
  isplitr; · ipureintro; rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexists _; iexists _; iexists _
  isplitl [H9]; · iexact H9
  isplitl [H10]; · iexact H10
  isplitl [H11]; · iexact H11
  isplitl [H12]; · iexact H12
  ipureintro
  have hz : live i (limWord arg3 X3) = 1#1 → n.val / 4 = 0 := fun hl => Nat.eq_zero_of_not_pos fun hp => h2 ((cond2_iff i (limWord arg3 X3) n).mpr ⟨hl, hp⟩)
  exact ⟨fun hl => ⟨(hinv hl hrc).1, (hinv hl hrc).2, (rowsTop _ _ _ (by have := hz hl; omega) _)⟩, fun _ => ⟨rfl, rfl, rfl⟩⟩

/-- The first part, whatever the tables say. -/
theorem part13 (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (k0_part13 (F := Ideal) i arg1 harg1 arg2 harg2 arg3 harg3 arg4 harg4 arg5 harg5 arg6 harg6 arg7 harg7 arg8 harg8 arg9 harg9 arg10 harg10 arg11 harg11 arg12 harg12)
          (fun r => iprop(⌜r.1 = (limWord arg3 X3)⌝ ∗ ⌜r.2.2.1 = nb n⌝ ∗ (arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 1024 * (n.val / 4)) f9')
                ∧ (¬ live i (limWord arg3 X3) = 1#1 → f9' = f9 ∧ f10' = f10 ∧ f11' = f11)⌝) : sProp 𝕄)) := by
  by_cases hrc : fresh i (limWord arg3 X3) (curWord i arg1 X1) (prevWord i arg1 X1) = 1#1
  · by_cases h2 : k0_cond2 i (limWord arg3 X3) (nb n) = 1#1
    · exact part13FreshRuns 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hinv hrc h2
    · exact part13FreshNone 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hinv hrc h2
  · by_cases h2 : k0_cond2 i (limWord arg3 X3) (nb n) = 1#1
    · exact part13KeptRuns 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hinv hrc h2
    · exact part13KeptNone 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hinv hrc h2

end Cert.KernelIdeal.Hand

end
-- ==== Proof.KI.Tail.lean ====
/-
  The rows after the run of 512 rows and after the run of 256 rows.
-/
module

public import proofs.«01_k».proof.Proof.KI.Rows
public import proofs.«01_k».proof.Proof.KI.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The rows after the run of 512 rows. -/
theorem rowsMid (arg4 : Memref sig .tc .vmem S2x2048x256 .i32) (arg6 : Memref sig .tc .vmem S1x1x1x2048 .f32)
    (arg8 : Memref sig .tc .vmem S1x1x1x1024 .f32) (arg9 : Memref sig .tc .vmem S2x4096x256 .bf16)
    (arg10 : Memref sig .tc .vmem S1024x2048 .bf16) (arg11 : Memref sig .tc .vmem S1024x1024 .bf16)
    (arg12 : Memref sig .tc .vmem S1024x1024 .bf16)
    (X4 : BufTy.Contents (Elt Ideal) arg4.view.ty) (X6 : BufTy.Contents (Elt Ideal) arg6.view.ty)
    (X8 : BufTy.Contents (Elt Ideal) arg8.view.ty) (X10 : BufTy.Contents (Elt Ideal) arg10.view.ty)
    (X11 : BufTy.Contents (Elt Ideal) arg11.view.ty) (n : Fin 9) (h : n.val / 2 % 2 = 1)
    (f9 : BufTy.Contents (Elt Ideal) arg9.view.ty)
    (hf : RowsOk (rowOut arg4 arg6 arg8 arg10 arg11 X4 X6 X8 X10 X11) arg9 (2048 - 1024 * (n.val / 4)) f9)
    (iA : ∀ a, k0_off16 (nb n) a + S1x512x256.size a ≤ S2x2048x256.size a) (iB : ∀ a, k0_off17 (nb n) a + S1x512x256.size a ≤ S2x2048x256.size a)
    (iC : ∀ a, k0_off18 (nb n) a + S1x1024x256.size a ≤ S2x4096x256.size a) (iD : ∀ a, k0_off19 (nb n) a + S1x1024x256.size a ≤ S2x4096x256.size a) :
    RowsOk (rowOut arg4 arg6 arg8 arg10 arg11 X4 X6 X8 X10 X11) arg9 (2048 - 256 * n.val + 256 * (n.val % 2))
      (arg9.view.writes (Elt Ideal) f9
        [⟨Rect.unit (s := S2x4096x256) (k0_off19 (nb n)) S1x1024x256.size iD, k0_pay1 (k0_pay43 (arg12.view.readCov (Val := Elt Ideal) [⟨Rect.unit (s := S1024x1024) ![0, 512] S512x512.size inb_S1024x1024_S512x512_0_512, k0_pay38 (k0_pay35 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay36 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay37⟩, ⟨Rect.unit (s := S1024x1024) ![0, 0] S512x512.size inb_S1024x1024_S512x512_0_0, k0_pay34 (k0_pay32 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay33 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S512x1024.size inb_S1024x1024_S512x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay44 (arg12.view.readCov (Val := Elt Ideal) [⟨Rect.unit (s := S1024x1024) ![0, 512] S512x512.size inb_S1024x1024_S512x512_0_512, k0_pay38 (k0_pay35 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay36 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay37⟩, ⟨Rect.unit (s := S1024x1024) ![0, 0] S512x512.size inb_S1024x1024_S512x512_0_0, k0_pay34 (k0_pay32 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay33 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S512x1024.size inb_S1024x1024_S512x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩,
          ⟨Rect.unit (s := S2x4096x256) (k0_off18 (nb n)) S1x1024x256.size iC, k0_pay42 (arg12.view.readCov (Val := Elt Ideal) [⟨Rect.unit (s := S1024x1024) ![0, 512] S512x512.size inb_S1024x1024_S512x512_0_512, k0_pay38 (k0_pay35 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay36 (k0_pay31 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay37⟩, ⟨Rect.unit (s := S1024x1024) ![0, 0] S512x512.size inb_S1024x1024_S512x512_0_0, k0_pay34 (k0_pay32 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay33 (View.readAt (Elt Ideal) arg4.view (Rect.unit (s := S2x2048x256) (k0_off16 (nb n)) S1x512x256.size iA).toLoadRect X4) (View.readAt (Elt Ideal) arg4.view (Rect.unit (s := S2x2048x256) (k0_off17 (nb n)) S1x512x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S512x1024.size inb_S1024x1024_S512x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩]) := by
  have hn := n.isLt
  refine rows_512 arg4 arg6 arg8 arg9 arg10 arg11 X4 X6 X8 X10 X11 iC iD (off18 n h) (off19 n h) (by omega) f9 [] _ ?_ ?_
  · exact fun t r hr e => hidden_512 arg4 arg6 arg10 arg12 X4 X6 X10 iA iB (off16 n h) (off17 n h) [] t r hr e
  · rw [show 2048 - 256 * n.val + 256 * (n.val % 2) + 512 = 2048 - 1024 * (n.val / 4) by omega]
    exact hf

/-- The rows after the run of 256 rows. -/
theorem rowsLast (arg4 : Memref sig .tc .vmem S2x2048x256 .i32) (arg6 : Memref sig .tc .vmem S1x1x1x2048 .f32)
    (arg8 : Memref sig .tc .vmem S1x1x1x1024 .f32) (arg9 : Memref sig .tc .vmem S2x4096x256 .bf16)
    (arg10 : Memref sig .tc .vmem S1024x2048 .bf16) (arg11 : Memref sig .tc .vmem S1024x1024 .bf16)
    (arg12 : Memref sig .tc .vmem S1024x1024 .bf16)
    (X4 : BufTy.Contents (Elt Ideal) arg4.view.ty) (X6 : BufTy.Contents (Elt Ideal) arg6.view.ty)
    (X8 : BufTy.Contents (Elt Ideal) arg8.view.ty) (X10 : BufTy.Contents (Elt Ideal) arg10.view.ty)
    (X11 : BufTy.Contents (Elt Ideal) arg11.view.ty) (n : Fin 9) (h : n.val % 2 = 1)
    (f9 : BufTy.Contents (Elt Ideal) arg9.view.ty)
    (hf : RowsOk (rowOut arg4 arg6 arg8 arg10 arg11 X4 X6 X8 X10 X11) arg9 (2048 - 256 * n.val + 256 * (n.val % 2)) f9)
    (iA : ∀ a, k0_off20 (nb n) a + S1x256x256.size a ≤ S2x2048x256.size a) (iB : ∀ a, k0_off21 (nb n) a + S1x256x256.size a ≤ S2x2048x256.size a)
    (iC : ∀ a, k0_off22 (nb n) a + S1x512x256.size a ≤ S2x4096x256.size a) (iD : ∀ a, k0_off23 (nb n) a + S1x512x256.size a ≤ S2x4096x256.size a) :
    RowsOk (rowOut arg4 arg6 arg8 arg10 arg11 X4 X6 X8 X10 X11) arg9 (2048 - 256 * n.val)
      (arg9.view.writes (Elt Ideal) f9
        [⟨Rect.unit (s := S2x4096x256) (k0_off23 (nb n)) S1x512x256.size iD, k0_pay2 (k0_pay58 (arg12.view.readCov (Val := Elt Ideal) [⟨Rect.unit (s := S1024x1024) ![0, 512] S256x512.size inb_S1024x1024_S256x512_0_512, k0_pay53 (k0_pay50 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay51 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay52⟩, ⟨Rect.unit (s := S1024x1024) ![0, 0] S256x512.size inb_S1024x1024_S256x512_0_0, k0_pay49 (k0_pay47 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay48 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S256x1024.size inb_S1024x1024_S256x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)) (k0_pay59 (arg12.view.readCov (Val := Elt Ideal) [⟨Rect.unit (s := S1024x1024) ![0, 512] S256x512.size inb_S1024x1024_S256x512_0_512, k0_pay53 (k0_pay50 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay51 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay52⟩, ⟨Rect.unit (s := S1024x1024) ![0, 0] S256x512.size inb_S1024x1024_S256x512_0_0, k0_pay49 (k0_pay47 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay48 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S256x1024.size inb_S1024x1024_S256x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8))⟩,
          ⟨Rect.unit (s := S2x4096x256) (k0_off22 (nb n)) S1x512x256.size iC, k0_pay57 (arg12.view.readCov (Val := Elt Ideal) [⟨Rect.unit (s := S1024x1024) ![0, 512] S256x512.size inb_S1024x1024_S256x512_0_512, k0_pay53 (k0_pay50 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 1536] S1024x512.size inb_S1024x2048_S1024x512_0_1536).toLoadRect X10) (View.readAt (Elt Ideal) arg6.view (Rect.unit (s := S1x1x1x2048) ![0, 0, 0, 1536] S1x1x1x512.size inb_S1x1x1x2048_S1x1x1x512_0_0_0_1536).toLoadRect X6)) (k0_pay51 (k0_pay46 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4)) (View.readAt (Elt Ideal) arg10.view (Rect.unit (s := S1024x2048) ![0, 512] S1024x512.size inb_S1024x2048_S1024x512_0_512).toLoadRect X10) (View.readAt (Elt Ideal) arg6.view (Rect.unit (s := S1x1x1x2048) ![0, 0, 0, 512] S1x1x1x512.size inb_S1x1x1x2048_S1x1x1x512_0_0_0_512).toLoadRect X6)) (Scalar.ofBits .f32 0x40E00000#32) k0_pay52⟩, ⟨Rect.unit (s := S1024x1024) ![0, 0] S256x512.size inb_S1024x1024_S256x512_0_0, k0_pay49 (k0_pay47 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 0] S1024x512.size inb_S1024x2048_S1024x512_0_0).toLoadRect X10) (View.readAt (Elt Ideal) arg6.view (Rect.unit (s := S1x1x1x2048) ![0, 0, 0, 0] S1x1x1x512.size inb_S1x1x1x2048_S1x1x1x512_0_0_0_0).toLoadRect X6)) (k0_pay48 (View.readAt (Elt Ideal) arg4.view (Rect.unit (s := S2x2048x256) (k0_off20 (nb n)) S1x256x256.size iA).toLoadRect X4) (View.readAt (Elt Ideal) arg4.view (Rect.unit (s := S2x2048x256) (k0_off21 (nb n)) S1x256x256.size iB).toLoadRect X4) (View.readAt (Elt Ideal) arg10.view (Rect.unit (s := S1024x2048) ![0, 1024] S1024x512.size inb_S1024x2048_S1024x512_0_1024).toLoadRect X10)) (View.readAt (Elt Ideal) arg6.view (Rect.unit (s := S1x1x1x2048) ![0, 0, 0, 1024] S1x1x1x512.size inb_S1x1x1x2048_S1x1x1x512_0_0_0_1024).toLoadRect X6)⟩] (Rect.unit (s := S1024x1024) ![0, 0] S256x1024.size inb_S1024x1024_S256x1024_0_0).toLoadRect) (View.readAt (Elt Ideal) arg11.view (Rect.unit (s := S1024x1024) ![0, 0] S1024x1024.size inb_S1024x1024_S1024x1024_0_0).toLoadRect X11) (View.readAt (Elt Ideal) arg8.view (Rect.unit (s := S1x1x1x1024) ![0, 0, 0, 0] S1x1x1x1024.size inb_S1x1x1x1024_S1x1x1x1024_0_0_0_0).toLoadRect X8)⟩]) := by
  have hn := n.isLt
  refine rows_256 arg4 arg6 arg8 arg9 arg10 arg11 X4 X6 X8 X10 X11 iC iD (off22 n h) (off23 n h) (by omega) f9 [] _ ?_ ?_
  · exact fun t r hr e => hidden_256 arg4 arg6 arg10 arg12 X4 X6 X10 iA iB (off20 n h) (off21 n h) [] t r hr e
  · rw [show 2048 - 256 * n.val + 256 = 2048 - 256 * n.val + 256 * (n.val % 2) by omega]
    exact hf

end Cert.KernelIdeal.Hand

end
-- ==== Proof.KI.Point.lean ====
/-
  The first part of a grid point: recast the expert's weights if they are new, then the runs of 1024 rows.
-/
module

public import proofs.«01_k».proof.Proof.KI.Part13
public import proofs.«01_k».proof.Proof.KI.Tail

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱 : Variants) (c : Dev nD) (bd : Option 𝒱.V) (E : Set ℕ) (i : grid0.Coords) (arg1 : Memref sig .tc .smem S64 .i32) (harg1 : arg1.IsWhole) (arg2 : Memref sig .tc .smem S64 .i32) (harg2 : arg2.IsWhole) (arg3 : Memref sig .tc .smem S1 .i32) (harg3 : arg3.IsWhole) (arg4 : Memref sig .tc .vmem S2x2048x256 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S2x4096x256 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S1024x1024 .bf16) (harg12 : arg12.IsWhole)

/-- One grid point: the buffers it reads are unchanged; at a point with rows the scratch holds the expert's weights, recast,
and the result window's rows from \`2048 - 256 n\` on hold the expert's results; at a point without rows nothing changes. -/
theorem point (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (n : Fin 9)
    (hn : (blkWord i arg2 X2) = nb n)
    (hinv : live i (limWord arg3 X3) = 1#1 → ¬ fresh i (limWord arg3 X3) (curWord i arg1 X1) (prevWord i arg1 X1) = 1#1 → Cast1 arg5 arg10 X5 8 f10 ∧ Cast2 arg7 arg11 X7 8 f11) :
    iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp frame (wpE (defs₀ (F := Ideal)) 𝒱 (c : Thread nD τ) bd) E (cc0_experts (F := Ideal) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{fullShare.right} X1) ∗ (arg2.view.loc (c : Thread nD τ) ↦[arg2.view.set]{fullShare.right} X2) ∗ (arg3.view.loc (c : Thread nD τ) ↦[arg3.view.set]{fullShare.right} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
              ∗ (∃ f9' f10' f11' f12', (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ ⌜(live i (limWord arg3 X3) = 1#1 → Cast1 arg5 arg10 X5 8 f10' ∧ Cast2 arg7 arg11 X7 8 f11'
                  ∧ RowsOk (rowOut arg4 arg6 arg8 arg10 arg11 X4 X6 X8 f10' f11') arg9 (2048 - 256 * n.val) f9')
                ∧ (¬ live i (limWord arg3 X3) = 1#1 → f9' = f9 ∧ f10' = f10 ∧ f11' = f11)⌝) : sProp 𝕄)) := by
  rw [cc0_experts_eq_skeleton]; unfold cc0_experts_skel
  iintro ⟨H1, H2, H3, H4, H5, H6, H7, H8, H9, H10, H11, H12⟩
  have hcut := part13 𝒱 c bd E i arg1 harg1 arg2 harg2 arg3 harg3 arg4 harg4 arg5 harg5 arg6 harg6 arg7 harg7 arg8 harg8 arg9 harg9 arg10 harg10 arg11 harg11 arg12 harg12 X1 X2 X3 X4 X5 X6 X7 X8 f9 f10 f11 f12 n hn hinv
  sl_exec
  sl_step
  have e9 : v9 = limWord arg3 X3 := hk0_part13_0
  have e15 : v15 = nb n := hk0_part13_1
  isplitl [Hk0_part13_2]; · iexact Hk0_part13_2
  isplitl [Hk0_part13_3]; · iexact Hk0_part13_3
  isplitl [Hk0_part13_4]; · iexact Hk0_part13_4
  isplitl [Hk0_part13_5]; · iexact Hk0_part13_5
  isplitl [Hk0_part13_6]; · iexact Hk0_part13_6
  isplitl [Hk0_part13_7]; · iexact Hk0_part13_7
  isplitl [Hk0_part13_8]; · iexact Hk0_part13_8
  isplitl [Hk0_part13_9]; · iexact Hk0_part13_9
  iexists _; iexists _; iexists _; iexists _
  isplitl [Hk0_part13_10]; · iexact Hk0_part13_10
  isplitl [Hk0_part13_11]; · iexact Hk0_part13_11
  isplitl [Hk0_part13_12]; · iexact Hk0_part13_12
  isplitl [Hk0_part13_13]; · iexact Hk0_part13_13
  ipureintro
  subst e9 e15
  obtain ⟨hL, hD⟩ := hk0_part13_14
  have hno3 : ¬ live i (limWord arg3 X3) = 1#1 → ¬ k0_cond3 i (limWord arg3 X3) (nb n) = 1#1 := fun h h3 => h ((cond3_iff i (limWord arg3 X3) n).mp h3).1
  have hno4 : ¬ live i (limWord arg3 X3) = 1#1 → ¬ k0_cond4 i (limWord arg3 X3) (nb n) = 1#1 := fun h h4 => h ((cond4_iff i (limWord arg3 X3) n).mp h4).1
  refine ⟨fun hl => ⟨(hL hl).1, (hL hl).2.1, ?_⟩, fun hl => ⟨?_, (hD hl).2⟩⟩
  · have h0 := (hL hl).2.2
    have hn := n.isLt
    split
    · rename_i h4
      refine rowsLast arg4 arg6 arg8 arg9 arg10 arg11 arg12 X4 X6 X8 _ _ n ((cond4_iff i _ n).mp h4).2 _ ?_ _ _ _ _
      split
      · rename_i h3
        exact rowsMid arg4 arg6 arg8 arg9 arg10 arg11 arg12 X4 X6 X8 _ _ n ((cond3_iff i _ n).mp h3).2 _ h0 _ _ _ _
      · rename_i h3
        have hb : ¬ n.val / 2 % 2 = 1 := fun hb => h3 ((cond3_iff i _ n).mpr ⟨hl, hb⟩)
        rw [show 2048 - 256 * n.val + 256 * (n.val % 2) = 2048 - 1024 * (n.val / 4) by omega]
        exact h0
    · rename_i h4
      have hb4 : ¬ n.val % 2 = 1 := fun hb => h4 ((cond4_iff i _ n).mpr ⟨hl, hb⟩)
      rw [show 2048 - 256 * n.val = 2048 - 256 * n.val + 256 * (n.val % 2) by omega]
      split
      · rename_i h3
        exact rowsMid arg4 arg6 arg8 arg9 arg10 arg11 arg12 X4 X6 X8 _ _ n ((cond3_iff i _ n).mp h3).2 _ h0 _ _ _ _
      · rename_i h3
        have hb : ¬ n.val / 2 % 2 = 1 := fun hb => h3 ((cond3_iff i _ n).mpr ⟨hl, hb⟩)
        rw [show 2048 - 256 * n.val + 256 * (n.val % 2) = 2048 - 1024 * (n.val / 4) by omega]
        exact h0
  · rw [dif_neg (hno4 hl), dif_neg (hno3 hl)]
    exact (hD hl).1

end Cert.KernelIdeal.Hand

end
-- ==== Proof.KI.Tables.lean ====
/-
  The three tables: what the kernel and its index maps read of them.
-/
module

public import proofs.«01_k».proof.Proof.KI.Point
public import proofs.«01_k».proof.Proof.Loads
public import proofs.«01_k».proof.Proof.Steps
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Hand

/-- The tables: each step's expert, its number of 256-row blocks, and the number of steps with rows. -/
def expertOf (pf : pre0.Contents (Elt Ideal)) (k : Fin 64) : BitVec 32 := pf 0 (ix1 k)
def blocksOf (pf : pre0.Contents (Elt Ideal)) (k : Fin 64) : BitVec 32 := pf 1 (ix1 k)
def stepsOf (pf : pre0.Contents (Elt Ideal)) : BitVec 32 := pf 2 (ix1 (0 : Fin 1))

/-- Every expert is one of the 32, and every step has at most eight blocks. -/
def InRange (pf : pre0.Contents (Elt Ideal)) : Prop :=
  (∀ k, (expertOf pf k).toNat < 32) ∧ ∀ k, (blocksOf pf k).toNat < 9

/-- The step of a grid point. -/
def stepOf (i : grid0.Coords) : Fin 64 := ⟨(i 0).val, (i 0).isLt⟩

variable (pf : pre0.Contents (Elt Ideal)) (i : grid0.Coords)

theorem curWord_eq : curWord i (Memref.whole main_arg0) (pf 0) = expertOf pf (stepOf i) :=
  readAt_unit_apply (s := S64) (size := S1.size) (Memref.whole main_arg0).view (pf 0) (k0_off1_inb i) _ (ix1 (stepOf i))
    (k0_off1_eq i) (by intro a; fin_cases a; rfl)

theorem off2_eq : ∀ i : grid0.Coords, k0_off2 i = ![(i 0).val - 1] := by decide +kernel

theorem prevWord_eq (k : Fin 64) (hk : k.val = (i 0).val - 1) :
    prevWord i (Memref.whole main_arg0) (pf 0) = expertOf pf k :=
  readAt_unit_apply (s := S64) (size := S1.size) (Memref.whole main_arg0).view (pf 0) (k0_off2_inb i) _ (ix1 k)
    (off2_eq i) (by intro a; fin_cases a; exact hk)

theorem blkWord_eq : blkWord i (Memref.whole main_arg1) (pf 1) = blocksOf pf (stepOf i) :=
  readAt_unit_apply (s := S64) (size := S1.size) (Memref.whole main_arg1).view (pf 1) (k0_off7_inb i) _ (ix1 (stepOf i))
    (k0_off7_eq i) (by intro a; fin_cases a; rfl)

theorem limWord_eq : limWord (Memref.whole main_arg2) (pf 2) = stepsOf pf :=
  readAt_unit_apply (s := S1) (size := S1.size) (Memref.whole main_arg2).view (pf 2) inb_S1_S1_0 _ (ix1 (0 : Fin 1))
    rfl (by intro a; fin_cases a; rfl)

theorem live_iff (v : BitVec 32) : live i v = 1#1 ↔ Before (i 0).val v := before_iff (i 0).isLt v

/-- A step with rows whose weights are not recast follows a step of the same expert. -/
theorem same_of_not_fresh {v cur prev : BitVec 32} (hl : live i v = 1#1) (hf : ¬ fresh i v cur prev = 1#1) :
    (i 0).val ≠ 0 ∧ cur = prev := by
  unfold fresh at hf
  rw [hl] at hf
  constructor
  · intro h0
    apply hf
    rw [h0]
    generalize Scalar.cmpi .ne cur prev = b
    revert b; decide
  · by_contra hne
    apply hf
    have e : Scalar.cmpi .ne cur prev = 1#1 := by
      show BitVec.ofBool (cur != prev) = 1#1
      rw [bne_iff_ne.mpr hne]; rfl
    rw [e]
    generalize Scalar.cmpi .eq (BitVec.ofNat 32 (i 0).val) 0#32 = b
    revert b; decide

/-! ### The index maps -/

theorem at_step : pf.at 0 (Rect.unit (s := S64) ![(Scalar.indexCast (BitVec.ofNat 32 (i 0).val)).toNat] S1.size (k0_off1_inb i)) numel1_S1 = expertOf pf (stepOf i) :=
  curWord_eq pf i

theorem index0 : cc0_transform_0 inb_S1_S1_0 numel1_S1 pf i = ![0, stepBlock (i 0).val (stepsOf pf), 0] := by
  have e := limWord_eq pf
  rw [← e]; rfl

theorem index1 : cc0_transform_1 k0_off1_inb numel1_S1 pf i = ![0, (expertOf pf (stepOf i)).toNat, 0, 0] := by
  rw [← at_step pf i]; rfl

theorem index2 : cc0_transform_2 k0_off1_inb numel1_S1 pf i = ![0, (expertOf pf (stepOf i)).toNat, 0, 0] := by
  rw [← at_step pf i]; rfl

theorem index3 : cc0_transform_3 k0_off1_inb numel1_S1 pf i = ![0, (expertOf pf (stepOf i)).toNat, 0, 0] := by
  rw [← at_step pf i]; rfl

theorem index4 : cc0_transform_4 k0_off1_inb numel1_S1 pf i = ![0, (expertOf pf (stepOf i)).toNat, 0, 0] := by
  rw [← at_step pf i]; rfl

theorem index5 : cc0_transform_5 inb_S1_S1_0 numel1_S1 pf i = ![0, stepBlock (i 0).val (stepsOf pf), 0] := by
  have e := limWord_eq pf
  rw [← e]; rfl

/-- At tables in range every block lies inside its array, on whole words. -/
theorem ok_of_inRange (h : InRange pf) : ok0 pf := by
  have hb : ∀ i : grid0.Coords, stepBlock (i 0).val (stepsOf pf) < 64 := fun i =>
    lt_of_le_of_lt (stepBlock_le (i 0).isLt _) (i 0).isLt
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inr ?_⟩⟩
  · rw [index0]; have := hb i; intro a; fin_cases a
    · show (0 + 1) * 2 ≤ 2; omega
    · show (stepBlock (i 0).val (stepsOf pf) + 1) * 2048 ≤ 131072; omega
    · show (0 + 1) * 256 ≤ 256; omega
  · rw [index1]; have := h.1 (stepOf i); intro a; fin_cases a
    · show (0 + 1) * 1 ≤ 2; omega
    · show ((expertOf pf (stepOf i)).toNat + 1) * 1 ≤ 32; omega
    · show (0 + 1) * 1024 ≤ 1024; omega
    · show (0 + 1) * 2048 ≤ 2048; omega
  · rw [index2]; have := h.1 (stepOf i); intro a; fin_cases a
    · show (0 + 1) * 1 ≤ 2; omega
    · show ((expertOf pf (stepOf i)).toNat + 1) * 1 ≤ 32; omega
    · show (0 + 1) * 1 ≤ 1; omega
    · show (0 + 1) * 2048 ≤ 2048; omega
  · rw [index3]; have := h.1 (stepOf i); intro a; fin_cases a
    · show (0 + 1) * 1 ≤ 2; omega
    · show ((expertOf pf (stepOf i)).toNat + 1) * 1 ≤ 32; omega
    · show (0 + 1) * 1024 ≤ 1024; omega
    · show (0 + 1) * 1024 ≤ 1024; omega
  · rw [index4]; have := h.1 (stepOf i); intro a; fin_cases a
    · show (0 + 1) * 1 ≤ 2; omega
    · show ((expertOf pf (stepOf i)).toNat + 1) * 1 ≤ 32; omega
    · show (0 + 1) * 1 ≤ 1; omega
    · show (0 + 1) * 1024 ≤ 1024; omega
  · rw [index5]; have := hb i; intro a; fin_cases a
    · show (0 + 1) * 2 ≤ 2; omega
    · show (stepBlock (i 0).val (stepsOf pf) + 1) * 4096 ≤ 262144; omega
    · show (0 + 1) * 256 ≤ 256; omega
  · refine Rect.PackedRows.wholeWords (.inr ⟨by decide, rfl, .inl ⟨?_, ?_⟩⟩)
    · show 2 ∣ cc0_transform_5 inb_S1_S1_0 numel1_S1 pf i 1 * 4096
      exact Dvd.dvd.mul_left (by decide) _
    · show 2 ∣ 4096
      decide

end Cert.KernelIdeal.Hand

end
-- ==== Proof.KI.Expect.lean ====
/-
  What the result holds, from the program's arrays: each row of a step is what the step's expert makes of that row.
-/
module

public import proofs.«01_k».proof.Proof.KI.Tables

@[expose] public section

noncomputable section

namespace Cert.KernelIdeal.Hand

open Cert.KernelIdeal Cert.KernelIdeal.Gen
open Idealize.ShloMosaic Idealize.ShloMosaic.TcCoe Idealize.ShloMosaic.Tactic

/-- The arrays the windows read, on one device. -/
structure Arrays where
  tok : Vec Ideal S2x131072x256 .i32
  gu : Vec Ideal S2x32x1024x2048 .f32
  guBias : Vec Ideal S2x32x1x2048 .f32
  dn : Vec Ideal S2x32x1024x1024 .f32
  dnBias : Vec Ideal S2x32x1x1024 .f32

namespace Arrays
variable (A : Arrays)

/-- Row `r` of step `s`: its words of plane `p`. -/
def words (p : Fin 2) (s : Fin 64) (r : Fin 2048) (j : Fin 256) : BitVec 32 :=
  A.tok (ix3 p (⟨2048 * s.val + r.val, by omega⟩ : Fin 131072) j)

/-- Expert `e`'s weights and biases. -/
def wGu (e : Fin 32) (d : Fin 1024) (o : Fin 2048) : EReal := A.gu (ix4 (0 : Fin 2) e d o)
def bGu (e : Fin 32) (o : Fin 2048) : EReal := A.guBias (ix4 (0 : Fin 2) e (0 : Fin 1) o)
def wDn (e : Fin 32) (d o : Fin 1024) : EReal := A.dn (ix4 (0 : Fin 2) e d o)
def bDn (e : Fin 32) (o : Fin 1024) : EReal := A.dnBias (ix4 (0 : Fin 2) e (0 : Fin 1) o)

/-- Column `o` of what expert `e` makes of row `r` of step `s`. -/
def row (e : Fin 32) (s : Fin 64) (r : Fin 2048) (o : Fin 1024) : EReal :=
  expert (entry (A.words 0 s r) (A.words 1 s r)) (A.wGu e) (A.bGu e) (A.wDn e) (A.bDn e) o

/-- From row `o` on, a window's block `X` holds what expert `e` makes of step `s`. -/
def Holds (e : Fin 32) (s : Fin 64) (o : ℕ) (X : Vec Ideal S2x4096x256 .bf16) : Prop :=
  ∀ (p : Fin 2) (r : Fin 2048) (h : Fin 2) (j : Fin 256), o ≤ r.val →
    X (ix3 p (⟨2 * r.val + h.val, by omega⟩ : Fin 4096) j) = A.row e s r ⟨512 * h.val + (256 * p.val + j.val), by omega⟩

end Arrays

end Cert.KernelIdeal.Hand

end
-- ==== Proof.KI.Keep.lean ====
/-
  What the kernel's run keeps from one grid point to the next, and what its windows hold.
-/
module

public import proofs.«01_k».proof.Proof.KI.Expect
public import proofs.«01_k».proof.Proof.Gen.KernelIdeal.Launch
public import Idealize.ShloMosaic.Lib.Pipeline.Frame
public import Idealize.ShloMosaic.Lib.Pipeline.ArrRel
public import Idealize.ShloMosaic.Lib.Pipeline.Value

@[expose] public section

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

instance : ∀ e, Nonempty (Elt Ideal e) := fun e => by cases e <;> infer_instance

local notation "𝕄" => MT nD τ sig Unit (Elt Ideal) ℕ (UR sig nD τ) ℕ

variable (m : (ℓ : Loc nD τ sig) → Buf (Elt Ideal) ℓ) (ρ : Dev nD → PrngReg)

/-- The tables at launch, on the one device. -/
def tables : pre0.Contents (Elt Ideal) := fun k => m (((0 : Dev nD) : Thread nD τ).loc (pre0.ref k))

variable (hr : InRange (tables m))

/-- The tables as contents the pipeline admits. -/
abbrev adm : (p : Fin 1) → (pcfgs (F := Ideal) p).Adm := fun _ => ⟨tables m, ok_of_inRange _ hr⟩

abbrev cfgA := cfg0 (F := Ideal) ⟨tables m, ok_of_inRange _ hr⟩

/-- The arrays at launch. -/
def arrays (c : Dev nD) : Arrays where
  tok := m ((c : Thread nD τ).loc main_arg3)
  gu := m ((c : Thread nD τ).loc main_arg4)
  guBias := m ((c : Thread nD τ).loc main_arg5)
  dn := m ((c : Thread nD τ).loc main_arg6)
  dnBias := m ((c : Thread nD τ).loc main_arg7)

/-- Step `s`'s expert and number of blocks. -/
def exp {pf : pre0.Contents (Elt Ideal)} (hr : InRange pf) (s : Fin 64) : Fin 32 := ⟨(expertOf pf s).toNat, hr.1 s⟩
def blk {pf : pre0.Contents (Elt Ideal)} (hr : InRange pf) (s : Fin 64) : Fin 9 := ⟨(blocksOf pf s).toNat, hr.2 s⟩

/-- The step of a grid point, by its number. -/
def at' (t : Fin (cfgA m hr).N) : Fin 64 := ⟨t.val, lt_of_lt_of_eq t.isLt N_0⟩

theorem coords_val : ∀ t : Fin grid0.N, (grid0.coords t 0).val = t.val := by decide +kernel

theorem stepOf_coords (t : Fin (cfgA m hr).N) : stepOf (grid0.coords t) = at' m hr t := Fin.ext (coords_val t)

/-- After a step with rows the scratch holds its expert's weights. -/
def Cached (c : Dev nD) (n : ℕ) (f10 : Vec Ideal S1024x2048 .bf16) (f11 : Vec Ideal S1024x1024 .bf16) : Prop :=
  ∀ s : Fin 64, s.val + 1 = n → Before s.val (stepsOf (tables m)) →
    (∀ d o, f10 (ix2 d o) = (arrays m c).wGu (exp hr s) d o) ∧ ∀ d o, f11 (ix2 d o) = (arrays m c).wDn (exp hr s) d o

/-- What a point leaves in the result window: at a step with rows its masked rows, else what it found. -/
def Left (c : Dev nD) (t : Fin (cfgA m hr).N) (Y X : Vec Ideal S2x4096x256 .bf16) : Prop :=
  (Before t.val (stepsOf (tables m)) → (arrays m c).Holds (exp hr (at' m hr t)) (at' m hr t) (2048 - 256 * (blk hr (at' m hr t)).val) X)
    ∧ (¬ Before t.val (stepsOf (tables m)) → X = Y)

def after (c : Dev nD) : (w : Fin 6) → (t : Fin (cfgA m hr).N) → (Y X : ((cfgA m hr).win w).block.Idx → Elt Ideal ((cfgA m hr).win w).elt) → Prop
  | 0, _, Y, X => X = Y
  | 1, _, Y, X => X = Y
  | 2, _, Y, X => X = Y
  | 3, _, Y, X => X = Y
  | 4, _, Y, X => X = Y
  | 5, t, Y, X => Left m hr c t Y X

/-- What is kept between grid points. -/
def kept (c : Dev nD) (n : ℕ) : sProp 𝕄 :=
  iprop(∃ f10 f11, ⌜Cached m hr c n f10 f11⌝ ∗ owns (c : Thread nD τ) (Memref.whole cc0_scratch0) fullShare f10
    ∗ owns (c : Thread nD τ) (Memref.whole cc0_scratch1) fullShare f11
    ∗ (∃ f12, owns (c : Thread nD τ) (Memref.whole cc0_scratch2) fullShare f12)
    ∗ (∃ r, prngReg c r) ∗ owns (c : Thread nD τ) (Memref.whole main_arg0) fullShare.right (tables m 0)
    ∗ owns (c : Thread nD τ) (Memref.whole main_arg1) fullShare.right (tables m 1)
    ∗ owns (c : Thread nD τ) (Memref.whole main_arg2) fullShare.right (tables m 2))

def rdat (c : Dev nD) : RDat τ (Elt Ideal) Unit ℕ (UR sig nD τ) ℕ (cfgA m hr) c where
  A w := m ((c : Thread nD τ).loc (Pipeline.arrRef spec0 w))
  after w t Y X := after m hr c w t Y X
  Φ t := kept m hr c t.val
  q _ := fullShare
  owed _ := 0

/-! ### The input windows -/

theorem after_in (c : Dev nD) (w : Fin 6) (hw : w.val < 5) (t : Fin (cfgA m hr).N) (Y X) (h : after m hr c w t Y X) : X = Y := by
  fin_cases w
  · exact h
  · exact h
  · exact h
  · exact h
  · exact h
  · exact absurd hw (by decide)

theorem isOut_eq : ∀ w : Fin 6, ((cfgA m hr).win w).isOut = decide (w.val = 5)
  | 0 => rfl | 1 => rfl | 2 => rfl | 3 => rfl | 4 => rfl | 5 => rfl

theorem clip_eq : ∀ (w : Fin 6) (i j : grid0.Coords), ((cfgA m hr).win w).clip i = ((cfgA m hr).win w).clip j
  | 0, _, _ => rfl | 1, _, _ => rfl | 2, _, _ => rfl | 3, _, _ => rfl | 4, _, _ => rfl | 5, _, _ => rfl

/-- An input window holds its array's block at every point. -/
theorem finds_in (c : Dev nD) (w : Fin 6) (hw : w.val < 5) (n : ℕ) : ∀ (t : Fin (cfgA m hr).N), t.val = n → ∀ X, (rdat m hr c).Finds w t X →
    ∃ d, X = (rdat m hr c).fetched w t d := by
  have hin : ((cfgA m hr).win w).isOut = false := (isOut_eq m hr w).trans (by simp; omega)
  induction n with
  | zero =>
    intro t ht X hX
    have hf : ((cfgA m hr).win w).fetch t = true := by unfold Pipeline.Window.fetch; rw [hin]; simp [ht]
    exact ((rdat m hr c).finds_of_fetch hf X).mp hX
  | succ n ih =>
    intro t ht X hX
    by_cases hf : ((cfgA m hr).win w).fetch t = true
    · exact ((rdat m hr c).finds_of_fetch hf X).mp hX
    have hf' : ((cfgA m hr).win w).fetch t = false := by simpa using hf
    have hs : t.val - 1 < (cfgA m hr).N := Nat.lt_of_le_of_lt (Nat.sub_le _ _) t.isLt
    have hix : ((cfgA m hr).win w).index t = ((cfgA m hr).win w).index ⟨t.val - 1, hs⟩ := by
      by_contra hne
      apply hf
      unfold Pipeline.Window.fetch
      rw [hin]
      simp only [Bool.not_false, Bool.true_and, Bool.or_eq_true, decide_eq_true_eq]
      exact Or.inr ⟨by omega, hne⟩
    rcases ((rdat m hr c).finds_of_pos hf' (by omega) X).mp hX with h | ⟨Y, hY, hA⟩
    · unfold Pipeline.Window.flush at h
      rw [hin] at h
      exact absurd h (by simp)
    · obtain ⟨d, hd⟩ := ih ⟨t.val - 1, hs⟩ (by show t.val - 1 = n; omega) Y hY
      have hXY : X = Y := after_in m hr c w hw _ Y X hA
      exact ⟨d, by rw [hXY, hd]; exact ((rdat m hr c).fetched_congr w hix (clip_eq m hr w _ _) d).symm⟩

end Cert.KernelIdeal.Hand

end
-- ==== Proof.KI.Blocks.lean ====
/-
  What the kernel's input windows hold, element by element.
-/
module

public import proofs.«01_k».proof.Proof.KI.Keep
public import proofs.«01_k».proof.Proof.Gen.KernelIdeal.Launch
public import Idealize.ShloMosaic.Lib.Pipeline.Frame
public import Idealize.ShloMosaic.Lib.Pipeline.ArrRel
public import Idealize.ShloMosaic.Lib.Pipeline.Value

@[expose] public section

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

local notation "𝕄" => MT nD τ sig Unit (Elt Ideal) ℕ (UR sig nD τ) ℕ

variable {m : (ℓ : Loc nD τ sig) → Buf (Elt Ideal) ℓ} {hr : InRange (tables m)}

theorem win_index0 (t : Fin (cfgA m hr).N) : ((cfgA m hr).win 0).index t = ![0, stepBlock t.val (stepsOf (tables m)), 0] := by
  rw [← coords_val t]; exact index0 (tables m) (grid0.coords t)

theorem win_index1 (t : Fin (cfgA m hr).N) : ((cfgA m hr).win 1).index t = ![0, (exp hr (at' m hr t)).val, 0, 0] := by
  rw [← stepOf_coords m hr t]; exact index1 (tables m) (grid0.coords t)

theorem win_index2 (t : Fin (cfgA m hr).N) : ((cfgA m hr).win 2).index t = ![0, (exp hr (at' m hr t)).val, 0, 0] := by
  rw [← stepOf_coords m hr t]; exact index2 (tables m) (grid0.coords t)

theorem win_index3 (t : Fin (cfgA m hr).N) : ((cfgA m hr).win 3).index t = ![0, (exp hr (at' m hr t)).val, 0, 0] := by
  rw [← stepOf_coords m hr t]; exact index3 (tables m) (grid0.coords t)

theorem win_index4 (t : Fin (cfgA m hr).N) : ((cfgA m hr).win 4).index t = ![0, (exp hr (at' m hr t)).val, 0, 0] := by
  rw [← stepOf_coords m hr t]; exact index4 (tables m) (grid0.coords t)

theorem win_index5 (t : Fin (cfgA m hr).N) : ((cfgA m hr).win 5).index t = ![0, stepBlock t.val (stepsOf (tables m)), 0] := by
  rw [← coords_val t]; exact index5 (tables m) (grid0.coords t)

/-- At a step with rows the first window holds that step's words. -/
theorem found0 (c : Dev nD) (t : Fin (cfgA m hr).N) (hb : Before t.val (stepsOf (tables m))) (X) (hX : (rdat m hr c).Finds 0 t X)
    (p : Fin 2) (r : Fin 2048) (j : Fin 256) : X (ix3 p r j) = (arrays m c).words p (at' m hr t) r j := by
  obtain ⟨d, rfl⟩ := finds_in m hr c 0 (by decide) _ t rfl X hX
  have hs : stepBlock t.val (stepsOf (tables m)) = t.val := stepBlock_of_before (at' m hr t).isLt hb
  have hi := win_index0 t
  rw [hs] at hi
  refine congrArg (m ((c : Thread nD τ).loc main_arg3)) (funext fun a => Fin.ext ?_)
  refine (Pipeline.Window.rect_emb_val ((cfgA m hr).win 0) t (ix3 p r j) a).trans ?_
  rw [hi]
  fin_cases a
  · show 0 * 2 + p.val = p.val; omega
  · show t.val * 2048 + r.val = 2048 * t.val + r.val; omega
  · show 0 * 256 + j.val = j.val; omega

theorem found1 (c : Dev nD) (t : Fin (cfgA m hr).N) (X) (hX : (rdat m hr c).Finds 1 t X)
    (d : Fin 1024) (o : Fin 2048) : X (ix4 (0 : Fin 1) (0 : Fin 1) d o) = (arrays m c).wGu (exp hr (at' m hr t)) d o := by
  obtain ⟨d', rfl⟩ := finds_in m hr c 1 (by decide) _ t rfl X hX
  refine congrArg (m ((c : Thread nD τ).loc main_arg4)) (funext fun a => Fin.ext ?_)
  refine (Pipeline.Window.rect_emb_val ((cfgA m hr).win 1) t (ix4 (0 : Fin 1) (0 : Fin 1) d o) a).trans ?_
  rw [win_index1 t]
  fin_cases a
  · show 0 * 1 + 0 = 0; omega
  · show (exp hr (at' m hr t)).val * 1 + 0 = (exp hr (at' m hr t)).val; omega
  · show 0 * 1024 + d.val = d.val; omega
  · show 0 * 2048 + o.val = o.val; omega

theorem found2 (c : Dev nD) (t : Fin (cfgA m hr).N) (X) (hX : (rdat m hr c).Finds 2 t X)
    (o : Fin 2048) : X (ix4 (0 : Fin 1) (0 : Fin 1) (0 : Fin 1) o) = (arrays m c).bGu (exp hr (at' m hr t)) o := by
  obtain ⟨d', rfl⟩ := finds_in m hr c 2 (by decide) _ t rfl X hX
  refine congrArg (m ((c : Thread nD τ).loc main_arg5)) (funext fun a => Fin.ext ?_)
  refine (Pipeline.Window.rect_emb_val ((cfgA m hr).win 2) t (ix4 (0 : Fin 1) (0 : Fin 1) (0 : Fin 1) o) a).trans ?_
  rw [win_index2 t]
  fin_cases a
  · show 0 * 1 + 0 = 0; omega
  · show (exp hr (at' m hr t)).val * 1 + 0 = (exp hr (at' m hr t)).val; omega
  · show 0 * 1 + 0 = 0; omega
  · show 0 * 2048 + o.val = o.val; omega

theorem found3 (c : Dev nD) (t : Fin (cfgA m hr).N) (X) (hX : (rdat m hr c).Finds 3 t X)
    (d o : Fin 1024) : X (ix4 (0 : Fin 1) (0 : Fin 1) d o) = (arrays m c).wDn (exp hr (at' m hr t)) d o := by
  obtain ⟨d', rfl⟩ := finds_in m hr c 3 (by decide) _ t rfl X hX
  refine congrArg (m ((c : Thread nD τ).loc main_arg6)) (funext fun a => Fin.ext ?_)
  refine (Pipeline.Window.rect_emb_val ((cfgA m hr).win 3) t (ix4 (0 : Fin 1) (0 : Fin 1) d o) a).trans ?_
  rw [win_index3 t]
  fin_cases a
  · show 0 * 1 + 0 = 0; omega
  · show (exp hr (at' m hr t)).val * 1 + 0 = (exp hr (at' m hr t)).val; omega
  · show 0 * 1024 + d.val = d.val; omega
  · show 0 * 1024 + o.val = o.val; omega

theorem found4 (c : Dev nD) (t : Fin (cfgA m hr).N) (X) (hX : (rdat m hr c).Finds 4 t X)
    (o : Fin 1024) : X (ix4 (0 : Fin 1) (0 : Fin 1) (0 : Fin 1) o) = (arrays m c).bDn (exp hr (at' m hr t)) o := by
  obtain ⟨d', rfl⟩ := finds_in m hr c 4 (by decide) _ t rfl X hX
  refine congrArg (m ((c : Thread nD τ).loc main_arg7)) (funext fun a => Fin.ext ?_)
  refine (Pipeline.Window.rect_emb_val ((cfgA m hr).win 4) t (ix4 (0 : Fin 1) (0 : Fin 1) (0 : Fin 1) o) a).trans ?_
  rw [win_index4 t]
  fin_cases a
  · show 0 * 1 + 0 = 0; omega
  · show (exp hr (at' m hr t)).val * 1 + 0 = (exp hr (at' m hr t)).val; omega
  · show 0 * 1 + 0 = 0; omega
  · show 0 * 1024 + o.val = o.val; omega

end Cert.KernelIdeal.Hand

end
-- ==== Proof.KI.Body.lean ====
/-
  The kernel's body at every point of its grid: what it leaves in the windows and keeps in the scratch.
-/
module

public import proofs.«01_k».proof.Proof.KI.Blocks
public import proofs.«01_k».proof.Proof.Gen.KernelIdeal.Launch
public import Idealize.ShloMosaic.Lib.Pipeline.Frame
public import Idealize.ShloMosaic.Lib.Pipeline.ArrRel
public import Idealize.ShloMosaic.Lib.Pipeline.Value

@[expose] public section

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

local notation "𝕄" => MT nD τ sig Unit (Elt Ideal) ℕ (UR sig nD τ) ℕ

variable {m : (ℓ : Loc nD τ sig) → Buf (Elt Ideal) ℓ} {hr : InRange (tables m)}

/-- The staging buffer of window `w` at point `t`. -/
abbrev stg (w : Fin 6) (t : Fin (cfgA m hr).N) := ((cfgA m hr).win w).stage ((cfgA m hr).slots t w)

/-- The body's program at a grid point. -/
abbrev bodyAt (t : Fin (cfgA m hr).N) :=
  cc0_experts (F := Ideal) (grid0.coords t) (Memref.whole main_arg0) (Memref.isWhole_whole _) (Memref.whole main_arg1) (Memref.isWhole_whole _) (Memref.whole main_arg2) (Memref.isWhole_whole _) (spec0_0.stage ((cfgA m hr).slots t 0)) (hstage0_0 (((cfgA m hr).slots t 0).cast nbuf0_0)) (spec0_1.stage ((cfgA m hr).slots t 1)) (hstage0_1 (((cfgA m hr).slots t 1).cast nbuf0_1)) (spec0_2.stage ((cfgA m hr).slots t 2)) (hstage0_2 (((cfgA m hr).slots t 2).cast nbuf0_2)) (spec0_3.stage ((cfgA m hr).slots t 3)) (hstage0_3 (((cfgA m hr).slots t 3).cast nbuf0_3)) (spec0_4.stage ((cfgA m hr).slots t 4)) (hstage0_4 (((cfgA m hr).slots t 4).cast nbuf0_4)) (spec0_5.stage ((cfgA m hr).slots t 5)) (hstage0_5 (((cfgA m hr).slots t 5).cast nbuf0_5)) (Memref.whole cc0_scratch0) (Memref.isWhole_whole _) (Memref.whole cc0_scratch1) (Memref.isWhole_whole _) (Memref.whole cc0_scratch2) (Memref.isWhole_whole _)

theorem row_eq (t : Fin (cfgA m hr).N) :
    defs₀ (F := Ideal) .tc (cfgA m hr).body ((cfgA m hr).bodyArgs t ((cfgA m hr).slots t)) = bodyAt t := by
  unfold defs₀; rw [Defs.onTc_tc]

/-! ### What the launch gives the body and keeps of it -/

section Pure
variable (c : Dev nD) (t : Fin (cfgA m hr).N)
  {Y : (w : Fin 6) → ((cfgA m hr).win w).block.Idx → Elt Ideal ((cfgA m hr).win w).elt} (hY : ∀ w, (rdat m hr c).Finds w t (Y w))
  {g4 : BufTy.Contents (Elt Ideal) (stg 0 t).view.ty} {g5 : BufTy.Contents (Elt Ideal) (stg 1 t).view.ty} {g6 : BufTy.Contents (Elt Ideal) (stg 2 t).view.ty}
  {g7 : BufTy.Contents (Elt Ideal) (stg 3 t).view.ty} {g8 : BufTy.Contents (Elt Ideal) (stg 4 t).view.ty}
  (e4 : (stg 0 t).view.read (Elt Ideal) g4 = Y 0) (e5 : (stg 1 t).view.read (Elt Ideal) g5 = Y 1) (e6 : (stg 2 t).view.read (Elt Ideal) g6 = Y 2)
  (e7 : (stg 3 t).view.read (Elt Ideal) g7 = Y 3) (e8 : (stg 4 t).view.read (Elt Ideal) g8 = Y 4)

theorem live_before : live (grid0.coords t) (limWord (Memref.whole main_arg2) (tables m 2)) = 1#1 ↔ Before t.val (stepsOf (tables m)) := by
  rw [live_iff, coords_val, limWord_eq]

/-- A step that casts no weights finds those of the step before, which are its own. -/
theorem cached_found {f10 : Vec Ideal S1024x2048 .bf16} {f11 : Vec Ideal S1024x1024 .bf16} (hC : Cached m hr c t.val f10 f11)
    (hl : live (grid0.coords t) (limWord (Memref.whole main_arg2) (tables m 2)) = 1#1)
    (hf : ¬ fresh (grid0.coords t) (limWord (Memref.whole main_arg2) (tables m 2)) (curWord (grid0.coords t) (Memref.whole main_arg0) (tables m 0)) (prevWord (grid0.coords t) (Memref.whole main_arg0) (tables m 0)) = 1#1) :
    (∀ d o, f10 (ix2 d o) = (arrays m c).wGu (exp hr (at' m hr t)) d o) ∧ ∀ d o, f11 (ix2 d o) = (arrays m c).wDn (exp hr (at' m hr t)) d o := by
  obtain ⟨h0, hcp⟩ := same_of_not_fresh _ hl hf
  have hb := (live_before t).mp hl
  rw [coords_val] at h0
  let s : Fin 64 := ⟨t.val - 1, by have := (at' m hr t).isLt; show t.val - 1 < 64; have e : (at' m hr t).val = t.val := rfl; omega⟩
  have hbs : Before s.val (stepsOf (tables m)) := by
    unfold Before at hb ⊢; show ((t.val - 1 : ℕ) : ℤ) < _; omega
  have he : exp hr s = exp hr (at' m hr t) := by
    rw [curWord_eq, prevWord_eq (tables m) (grid0.coords t) s (by rw [coords_val]), stepOf_coords] at hcp
    refine Fin.ext ?_
    show (expertOf (tables m) s).toNat = (expertOf (tables m) (at' m hr t)).toNat
    rw [hcp]
  have := hC s (by show t.val - 1 + 1 = t.val; omega) hbs
  rwa [he] at this

include hY e5 e7 in
/-- The invariant as the body takes it. -/
theorem casts_of_cached {f10 : Vec Ideal S1024x2048 .bf16} {f11 : Vec Ideal S1024x1024 .bf16} (hC : Cached m hr c t.val f10 f11)
    (hl : live (grid0.coords t) (limWord (Memref.whole main_arg2) (tables m 2)) = 1#1)
    (hf : ¬ fresh (grid0.coords t) (limWord (Memref.whole main_arg2) (tables m 2)) (curWord (grid0.coords t) (Memref.whole main_arg0) (tables m 0)) (prevWord (grid0.coords t) (Memref.whole main_arg0) (tables m 0)) = 1#1) :
    Cast1 (stg 1 t) (Memref.whole cc0_scratch0) g5 8 f10 ∧ Cast2 (stg 3 t) (Memref.whole cc0_scratch1) g7 8 f11 := by
  obtain ⟨h1, h2⟩ := cached_found c t hC hl hf
  refine ⟨fun r j _ => ?_, fun r j _ => ?_⟩
  · refine (h1 r j).trans ?_
    have := found1 c t (Y 1) (hY 1) r j
    rw [← e5] at this
    exact this.symm
  · refine (h2 r j).trans ?_
    have := found3 c t (Y 3) (hY 3) r j
    rw [← e7] at this
    exact this.symm

include hY e5 e7 in
/-- The invariant as the body leaves it. -/
theorem cached_of_casts {f10 : Vec Ideal S1024x2048 .bf16} {f11 : Vec Ideal S1024x1024 .bf16}
    (h : live (grid0.coords t) (limWord (Memref.whole main_arg2) (tables m 2)) = 1#1 →
      Cast1 (stg 1 t) (Memref.whole cc0_scratch0) g5 8 f10 ∧ Cast2 (stg 3 t) (Memref.whole cc0_scratch1) g7 8 f11) :
    Cached m hr c (t.val + 1) f10 f11 := by
  intro s hs hb
  obtain rfl : s = at' m hr t := Fin.ext (by show s.val = t.val; omega)
  obtain ⟨h1, h2⟩ := h ((live_before t).mpr hb)
  refine ⟨fun d o => ?_, fun d o => ?_⟩
  · have := found1 c t (Y 1) (hY 1) d o
    rw [← e5] at this
    exact (h1 d o (by omega)).trans this
  · have := found3 c t (Y 3) (hY 3) d o
    rw [← e7] at this
    exact (h2 d o (by omega)).trans this

include hY e4 e6 e8 in
/-- The rows a step writes are the expert's. -/
theorem left_of_rows {g9 g9' : BufTy.Contents (Elt Ideal) (stg 5 t).view.ty} (e9 : (stg 5 t).view.read (Elt Ideal) g9 = Y 5)
    {f10 : Vec Ideal S1024x2048 .bf16} {f11 : Vec Ideal S1024x1024 .bf16} (hC : Cached m hr c (t.val + 1) f10 f11)
    (hL : live (grid0.coords t) (limWord (Memref.whole main_arg2) (tables m 2)) = 1#1 →
      RowsOk (rowOut (stg 0 t) (stg 2 t) (stg 4 t) (Memref.whole cc0_scratch0) (Memref.whole cc0_scratch1) g4 g6 g8 f10 f11) (stg 5 t)
        (2048 - 256 * (blk hr (stepOf (grid0.coords t))).val) g9')
    (hD : ¬ live (grid0.coords t) (limWord (Memref.whole main_arg2) (tables m 2)) = 1#1 → g9' = g9) :
    Left m hr c t (Y 5) ((stg 5 t).view.read (Elt Ideal) g9') := by
  refine ⟨fun hb p r h j ho => ?_, fun hb => ?_⟩
  · rw [stepOf_coords] at hL
    refine (hL ((live_before t).mpr hb) p r h j ho).trans ?_
    obtain ⟨h1, h2⟩ := hC (at' m hr t) rfl hb
    unfold rowOut Arrays.row
    have k0 : ∀ p : Fin 2, (fun j => (stg 0 t).view.read (Elt Ideal) g4 (ix3 p r j)) = (arrays m c).words p (at' m hr t) r := fun p =>
      funext fun j => (congrFun e4 (ix3 p r j)).trans (found0 c t hb (Y 0) (hY 0) p r j)
    have k1 : Hand.wGu (Memref.whole cc0_scratch0) f10 = (arrays m c).wGu (exp hr (at' m hr t)) := funext fun d => funext fun o => h1 d o
    have k2 : Hand.wDn (Memref.whole cc0_scratch1) f11 = (arrays m c).wDn (exp hr (at' m hr t)) := funext fun d => funext fun o => h2 d o
    have k3 : Hand.bGu (stg 2 t) g6 = (arrays m c).bGu (exp hr (at' m hr t)) := funext fun o =>
      (congrFun e6 (ix4 (0 : Fin 1) (0 : Fin 1) (0 : Fin 1) o)).trans (found2 c t (Y 2) (hY 2) o)
    have k4 : Hand.bDn (stg 4 t) g8 = (arrays m c).bDn (exp hr (at' m hr t)) := funext fun o =>
      (congrFun e8 (ix4 (0 : Fin 1) (0 : Fin 1) (0 : Fin 1) o)).trans (found4 c t (Y 4) (hY 4) o)
    unfold rowIn
    rw [k0 0, k0 1, k1, k2, k3, k4]
  · rw [hD (fun hl => hb ((live_before t).mp hl))]
    exact e9

end Pure

variable (m hr)

/-- The tables, one by one. -/
theorem tables_eq (c : Dev nD) : (Pipeline.ΦT pre0 (tables m) c : sProp 𝕄)
    = (iprop(owns (c : Thread nD τ) (Memref.whole main_arg0) fullShare.right (tables m 0)
      ∗ owns (c : Thread nD τ) (Memref.whole main_arg1) fullShare.right (tables m 1)
      ∗ owns (c : Thread nD τ) (Memref.whole main_arg2) fullShare.right (tables m 2)) : sProp 𝕄) := by
  unfold Pipeline.ΦT Pipeline.prefHeld
  exact (bigSep_univ_eq_bigSepL (M := 𝕄) [(0 : Fin 3), (1 : Fin 3), (2 : Fin 3)] (by decide) (by decide)
    fun k : Fin 3 => ((c.tc : Thread nD τ).loc (pre0.ref k)) ↦{fullShare.right} tables m k).trans
    (congrArg₂ BIBase.sep (owns_whole (c : Thread nD τ) main_arg0 fullShare.right (tables m 0)).symm
      (congrArg₂ BIBase.sep (owns_whole (c : Thread nD τ) main_arg1 fullShare.right (tables m 1)).symm
        (owns_whole (c : Thread nD τ) main_arg2 fullShare.right (tables m 2)).symm))

/-- The scratch, one by one. -/
theorem scratch_eq (c : Dev nD) : (Pipeline.ΦA (U := UR sig nD τ) (Val := Elt Ideal) spec0 c : sProp 𝕄)
    = (iprop(((∃ f, owns (c : Thread nD τ) (Memref.whole cc0_scratch0) fullShare f)
      ∗ (∃ f, owns (c : Thread nD τ) (Memref.whole cc0_scratch1) fullShare f)
      ∗ (∃ f, owns (c : Thread nD τ) (Memref.whole cc0_scratch2) fullShare f)) ∗ ∃ r, prngReg c r) : sProp 𝕄) := by
  unfold Pipeline.ΦA
  rw [scopedRest0_eq]
  simp only [owns_whole]

/-- The body at every grid point. -/
theorem body_obligation (c : Dev nD) : (rdat m hr c).BodyObligation (defs₀ (F := Ideal)) Variants.none () Set.univ := fun t Y hY => by
  rw [bigSep_W0, bigSep_W0, row_eq]
  have hn : blkWord (grid0.coords t) (Memref.whole main_arg1) (tables m 1) = nb ⟨(blocksOf (tables m) (stepOf (grid0.coords t))).toNat, hr.2 _⟩ := by
    rw [blkWord_eq]; simp [nb]
  have key : iprop((rdat m hr c).Φ t.castSucc ∗ (rdat m hr c).owesAt () t.castSucc
        ∗ owns (c : Thread nD τ) (stg 0 t) fullShare (Y 0) ∗ owns (c : Thread nD τ) (stg 1 t) fullShare (Y 1) ∗ owns (c : Thread nD τ) (stg 2 t) fullShare (Y 2) ∗ owns (c : Thread nD τ) (stg 3 t) fullShare (Y 3) ∗ owns (c : Thread nD τ) (stg 4 t) fullShare (Y 4) ∗ owns (c : Thread nD τ) (stg 5 t) fullShare (Y 5))
      ⊢ wp frame (wpE (defs₀ (F := Ideal)) Variants.none (c : Thread nD τ) none) Set.univ (bodyAt t)
        (fun _ => iprop((rdat m hr c).Φ t.succ ∗ (rdat m hr c).owesAt () t.succ
        ∗ (∃ X, ⌜X = Y 0⌝ ∗ owns (c : Thread nD τ) (stg 0 t) fullShare X) ∗ (∃ X, ⌜X = Y 1⌝ ∗ owns (c : Thread nD τ) (stg 1 t) fullShare X) ∗ (∃ X, ⌜X = Y 2⌝ ∗ owns (c : Thread nD τ) (stg 2 t) fullShare X) ∗ (∃ X, ⌜X = Y 3⌝ ∗ owns (c : Thread nD τ) (stg 3 t) fullShare X) ∗ (∃ X, ⌜X = Y 4⌝ ∗ owns (c : Thread nD τ) (stg 4 t) fullShare X) ∗ (∃ X, ⌜Left m hr c t (Y 5) X⌝ ∗ owns (c : Thread nD τ) (stg 5 t) fullShare X))) := by
    have hΦ : ∀ u : Fin ((cfgA m hr).N + 1), (rdat m hr c).Φ u = kept m hr c u.val := fun _ => rfl
    have hO : ∀ u, (rdat m hr c).owed u = 0 := fun _ => rfl
    rw [hΦ, hΦ]
    unfold kept RDat.owesAt Pipeline.owesWithin owns
    rw [hO, hO]
    iintro ⟨⟨%f10, %f11, %hC, ⟨%g10, %e10, H10⟩, ⟨%g11, %e11, H11⟩, ⟨%f12, %g12, %e12, H12⟩, Hp, ⟨%g1, %e1, H1⟩, ⟨%g2, %e2, H2⟩, ⟨%g3, %e3, H3⟩⟩, ⟨%W, %hW, HO⟩, ⟨%g4, %e4, H4⟩, ⟨%g5, %e5, H5⟩, ⟨%g6, %e6, H6⟩, ⟨%g7, %e7, H7⟩, ⟨%g8, %e8, H8⟩, ⟨%g9, %e9, H9⟩⟩
    have e1' : g1 = tables m 0 := e1
    have e2' : g2 = tables m 1 := e2
    have e3' : g3 = tables m 2 := e3
    have e10' : g10 = f10 := e10
    have e11' : g11 = f11 := e11
    subst e1' e2' e3' e10' e11'
    iapply wp_wand_r
    isplitl [H1 H2 H3 H4 H5 H6 H7 H8 H9 H10 H11 H12]
    · iapply (point Variants.none c none Set.univ (grid0.coords t) (Memref.whole main_arg0) (Memref.isWhole_whole _) (Memref.whole main_arg1) (Memref.isWhole_whole _) (Memref.whole main_arg2) (Memref.isWhole_whole _) (spec0_0.stage ((cfgA m hr).slots t 0)) (hstage0_0 (((cfgA m hr).slots t 0).cast nbuf0_0)) (spec0_1.stage ((cfgA m hr).slots t 1)) (hstage0_1 (((cfgA m hr).slots t 1).cast nbuf0_1)) (spec0_2.stage ((cfgA m hr).slots t 2)) (hstage0_2 (((cfgA m hr).slots t 2).cast nbuf0_2)) (spec0_3.stage ((cfgA m hr).slots t 3)) (hstage0_3 (((cfgA m hr).slots t 3).cast nbuf0_3)) (spec0_4.stage ((cfgA m hr).slots t 4)) (hstage0_4 (((cfgA m hr).slots t 4).cast nbuf0_4)) (spec0_5.stage ((cfgA m hr).slots t 5)) (hstage0_5 (((cfgA m hr).slots t 5).cast nbuf0_5)) (Memref.whole cc0_scratch0) (Memref.isWhole_whole _) (Memref.whole cc0_scratch1) (Memref.isWhole_whole _) (Memref.whole cc0_scratch2) (Memref.isWhole_whole _) (tables m 0) (tables m 1) (tables m 2) g4 g5 g6 g7 g8 g9 g10 g11 g12 _ hn (fun hl hf => casts_of_cached c t hY e5 e7 hC hl hf))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iintro %_ ⟨H1, H2, H3, H4, H5, H6, H7, H8, ⟨%f9', %f10', %f11', %f12', H9, H10, H11, H12, %hf⟩⟩
    have hC' := cached_of_casts c t hY e5 e7 (fun hl => ⟨(hf.1 hl).1, (hf.1 hl).2.1⟩)
    have hX := left_of_rows c t hY e4 e6 e8 e9 hC' (fun hl => (hf.1 hl).2.2) (fun hl => (hf.2 hl).1)
    isplitl [H1 H2 H3 H10 H11 H12 Hp]
    · iexists _; iexists _; isplitr; · ipureintro; exact hC'
      isplitl [H10]
      · iexists _; isplitr; swap; · iexact H10
        ipureintro; rfl
      isplitl [H11]
      · iexists _; isplitr; swap; · iexact H11
        ipureintro; rfl
      isplitl [H12]
      · iexists _; iexists _; isplitr; swap; · iexact H12
        ipureintro; rfl
      isplitl [Hp]; · iexact Hp
      isplitl [H1]
      · iexists _; isplitr; swap; · iexact H1
        ipureintro; rfl
      isplitl [H2]
      · iexists _; isplitr; swap; · iexact H2
        ipureintro; rfl
      iexists _; isplitr; swap; · iexact H3
      ipureintro; rfl
    isplitl [HO]
    · iexists W; isplitr; · ipureintro; exact fun _ _ => Or.inl trivial
      iexact HO
    isplitl [H4]
    · iexists _; isplitr; · ipureintro; exact e4
      iexists _; isplitr; swap; · iexact H4
      ipureintro; rfl
    isplitl [H5]
    · iexists _; isplitr; · ipureintro; exact e5
      iexists _; isplitr; swap; · iexact H5
      ipureintro; rfl
    isplitl [H6]
    · iexists _; isplitr; · ipureintro; exact e6
      iexists _; isplitr; swap; · iexact H6
      ipureintro; rfl
    isplitl [H7]
    · iexists _; isplitr; · ipureintro; exact e7
      iexists _; isplitr; swap; · iexact H7
      ipureintro; rfl
    isplitl [H8]
    · iexists _; isplitr; · ipureintro; exact e8
      iexists _; isplitr; swap; · iexact H8
      ipureintro; rfl
    iexists _; isplitr; · ipureintro; exact hX
    iexists _; isplitr; swap; · iexact H9
    ipureintro; rfl
  exact triple_restated key rfl .rfl fun _ => .rfl

end Cert.KernelIdeal.Hand

end
-- ==== Proof.KI.Launch.lean ====
/-
  The kernel's run on its grid: it terminates, its arguments end unchanged and every counter returns to zero.
-/
module

public import proofs.«01_k».proof.Proof.KI.Body
public import proofs.«01_k».proof.Proof.Gen.KernelIdeal.Launch
public import Idealize.ShloMosaic.Lib.Pipeline.Frame
public import Idealize.ShloMosaic.Lib.Pipeline.ArrRel
public import Idealize.ShloMosaic.Lib.Pipeline.Value

@[expose] public section

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg) (hr : InRange (tables m))

/-- The buffers at launch. -/
abbrev buffers (c : Dev nD) (b : Ref sig .tc) : Buf (Elt Ideal) ((c : Thread nD τ).loc b) := m ((c : Thread nD τ).loc b)

theorem main_shape : Pipeline.HMainP (Ix := Unit) (Name := ℕ) (U := UR sig nD τ) (Lvl := ℕ) pcfgs 0 (defs₀ (F := Ideal)) Variants.none m (main (F := Ideal)) (buffers m) :=
  Pipeline.hmainP_region pcfgs 0 defs₀ Variants.none m main fun c => (main_chain c).trans rfl

theorem tables_buffers (c : Dev nD) (k : Fin 3) : buffers m c (pre0.ref k) = tables m k := by
  obtain rfl : c = 0 := Subsingleton.elim c 0
  rfl

set_option backward.isDefEq.respectTransparency.types false in
/-- The program terminates; the buffers no window is carried back to are unchanged and every counter is zero. -/
theorem run_main : θ_run defs (onTc (τ := τ) (main (F := Ideal))) ⟨m, fun _ => 0, ρ⟩
    (fun r => Pipeline.RDat.FramePost (cfgA m hr) (fun c => rdat m hr c) (buffers m) r ∧ r.2.sem = fun _ => 0) :=
  Pipeline.RDat.θ_run_frameP_track (Q' := _) pcfgs (adm m hr) (0 : Fin 1) launch0 defs₀ Variants.none (fun c => rdat m hr c) m ρ main
    (hbody := fun c => body_obligation m hr c) (hshare := fun c w => by unfold RDat.share; exact ite_self _)
    (howed := fun _ _ => rfl) (V := buffers m) (hmain := main_shape m) (hA := fun _ _ => rfl)
    (hpf := tables_buffers m)
    (hin := fun c => by
      show iprop(Pipeline.ΦA spec0 c ∗ Pipeline.ΦT pre0 (tables m) c) ⊢ kept m hr c 0
      rw [scratch_eq, tables_eq]
      unfold kept
      iintro ⟨⟨⟨⟨%f10, H10⟩, ⟨%f11, H11⟩, H12⟩, Hp⟩, HT⟩
      iexists f10; iexists f11; isplitr; · ipureintro; exact fun s hs => absurd hs (Nat.succ_ne_zero _)
      isplitl [H10]; · iexact H10
      isplitl [H11]; · iexact H11
      isplitl [H12]; · iexact H12
      isplitl [Hp]; · iexact Hp
      iexact HT)
    (hout := fun c => by
      show kept m hr c _ ⊢ Pipeline.ΦA spec0 c
      rw [scratch_eq]
      unfold kept
      iintro ⟨%f10, %f11, -, H10, H11, H12, Hp, -⟩
      isplitl [H10 H11 H12]
      · isplitl [H10]; · iexists _; iexact H10
        isplitl [H11]; · iexists _; iexact H11
        iexact H12
      iexact Hp)

/-- The arguments end unchanged. -/
theorem args_kept (r : _) (H : Pipeline.RDat.FramePost (cfgA m hr) (fun c => rdat m hr c) (buffers m) r) (c : Dev nD) :
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
    ⟨(H c).2 main_arg0 (Pipeline.mem_restRefs_of main_arg0 (by decide) (show ∀ w : Fin 6, (spec0 w).arr.view.ref ≠ main_arg0 by decide)),
     (H c).2 main_arg1 (Pipeline.mem_restRefs_of main_arg1 (by decide) (show ∀ w : Fin 6, (spec0 w).arr.view.ref ≠ main_arg1 by decide)),
     (H c).2 main_arg2 (Pipeline.mem_restRefs_of main_arg2 (by decide) (show ∀ w : Fin 6, (spec0 w).arr.view.ref ≠ main_arg2 by decide)),
     RDat.FramePost.arr_in H c (0 : Fin 6) rfl, RDat.FramePost.arr_in H c (1 : Fin 6) rfl, RDat.FramePost.arr_in H c (2 : Fin 6) rfl,
     RDat.FramePost.arr_in H c (3 : Fin 6) rfl, RDat.FramePost.arr_in H c (4 : Fin 6) rfl⟩

include hr in
/-- The arguments end unchanged and every counter is zero. -/
theorem frame : θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨fun c => args_kept m hr r h.1 c, h.2⟩) (run_main m ρ hr)

end Cert.KernelIdeal.Hand

end
-- ==== Proof.KI.Result.lean ====
/-
  What the result array holds after the run: at every step with rows, the rows that hold tokens are the step's expert's.
-/
module

public import proofs.«01_k».proof.Proof.KI.Launch
public import proofs.«01_k».proof.Proof.Gen.KernelIdeal.Launch
public import Idealize.ShloMosaic.Lib.Pipeline.Frame
public import Idealize.ShloMosaic.Lib.Pipeline.ArrRel
public import Idealize.ShloMosaic.Lib.Pipeline.Value

@[expose] public section

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg) (hr : InRange (tables m))

/-- What the result window may be left with follows its block's step. -/
theorem holds_of_leaves (c : Dev nD) (n : ℕ) : ∀ (t : Fin (cfgA m hr).N), t.val = n → ∀ X : Vec Ideal S2x4096x256 .bf16, (rdat m hr c).Leaves 5 t X →
    ∀ s : Fin 64, s.val = stepBlock t.val (stepsOf (tables m)) → Before s.val (stepsOf (tables m)) →
      (arrays m c).Holds (exp hr s) s (2048 - 256 * (blk hr s).val) X := by
  induction n with
  | zero =>
    intro t ht X hX s hs hb
    obtain ⟨Y, -, hA⟩ := hX
    have h0 : s.val = 0 := by have := stepBlock_le (at' m hr t).isLt (stepsOf (tables m)); have e : (at' m hr t).val = t.val := rfl; rw [e] at this; omega
    obtain rfl : s = at' m hr t := Fin.ext (by show s.val = t.val; omega)
    exact hA.1 hb
  | succ n ih =>
    intro t ht X hX s hs hb
    obtain ⟨Y, hY, hA⟩ := hX
    have h64 : t.val < 64 := (at' m hr t).isLt
    by_cases ht' : Before t.val (stepsOf (tables m))
    · rw [stepBlock_of_before h64 ht'] at hs
      obtain rfl : s = at' m hr t := Fin.ext hs
      exact hA.1 hb
    · have hXY : X = Y := hA.2 ht'
      obtain ⟨k, hk, hst⟩ := stepBlock_before h64 (by rwa [hs] at hb) ht'
      have hkn : k < (cfgA m hr).N := by have := t.isLt; omega
      have hu : t.val - 1 = k := by omega
      have hix : ((cfgA m hr).win 5).index t = ((cfgA m hr).win 5).index ⟨k, hkn⟩ := by
        rw [win_index5, win_index5, hst]
      have hf : ((cfgA m hr).win 5).fetch t = false := rfl
      rcases ((rdat m hr c).finds_of_pos hf (by omega) Y).mp hY with h | h
      · exfalso
        have hlt : t.val - 1 < (cfgA m hr).N := by omega
        have e : (⟨t.val - 1, hlt⟩ : Fin (cfgA m hr).N) = ⟨k, hkn⟩ := Fin.ext hu
        rw [e] at h
        unfold Pipeline.Window.flush at h
        simp only [Bool.and_eq_true, Bool.or_eq_true, decide_eq_true_eq] at h
        rcases h.2 with h | ⟨h1, h2⟩
        · have := t.isLt; have e : k + 1 = (cfgA m hr).N := h; omega
        · exact h2 (by rw [← hix]; congr 1; exact Fin.ext hk.symm)
      · have hlt : t.val - 1 < (cfgA m hr).N := by omega
        have e : (⟨t.val - 1, hlt⟩ : Fin (cfgA m hr).N) = ⟨k, hkn⟩ := Fin.ext hu
        have h' : (rdat m hr c).Leaves 5 ⟨k, hkn⟩ Y := e ▸ h
        rw [hXY]
        exact ih ⟨k, hkn⟩ (by show k = n; omega) Y h' s (hs.trans hst) hb

/-- The element of the result array under an element of the block at a point. -/
def under (t : Fin (cfgA m hr).N) (y : S2x4096x256.Idx) : S2x262144x256.Idx := (((cfgA m hr).win 5).blk t).view.emb y

theorem under_val (t : Fin (cfgA m hr).N) (y : S2x4096x256.Idx) :
    (under m hr t y 0).val = (y 0).val ∧ (under m hr t y 1).val = 4096 * stepBlock t.val (stepsOf (tables m)) + (y 1).val
      ∧ (under m hr t y 2).val = (y 2).val := by
  have key : ∀ a : Fin 3, (under m hr t y a).val = ((cfgA m hr).win 5).index t a * ((cfgA m hr).win 5).size a + (y a).val :=
    fun a => Pipeline.Window.rect_emb_val ((cfgA m hr).win 5) t y a
  rw [win_index5] at key
  refine ⟨(key 0).trans ?_, (key 1).trans ?_, (key 2).trans ?_⟩
  · show 0 * 2 + (y 0).val = (y 0).val; omega
  · show stepBlock t.val (stepsOf (tables m)) * 4096 + (y 1).val = _; omega
  · show 0 * 256 + (y 2).val = (y 2).val; omega

/-- An element of step `s`'s rows is under an element of that step's block alone. -/
theorem of_under (t : Fin (cfgA m hr).N) (y : S2x4096x256.Idx) (s : Fin 64) (p : Fin 2) (q : Fin 2048) (h : Fin 2) (j : Fin 256)
    (hi : under m hr t y = ix3 p (⟨4096 * s.val + (2 * q.val + h.val), by omega⟩ : Fin 262144) j) :
    y = ix3 p (⟨2 * q.val + h.val, by omega⟩ : Fin 4096) j ∧ s.val = stepBlock t.val (stepsOf (tables m)) := by
  obtain ⟨k0, k1, k2⟩ := under_val m hr t y
  rw [hi] at k0 k1 k2
  have k0' : p.val = (y 0).val := k0
  have k1' : 4096 * s.val + (2 * q.val + h.val) = 4096 * stepBlock t.val (stepsOf (tables m)) + (y 1).val := k1
  have k2' : j.val = (y 2).val := k2
  have hy1 : (y 1).val < 4096 := (y 1).isLt
  have hq := q.isLt
  have hh := h.isLt
  refine ⟨?_, by omega⟩
  funext a
  fin_cases a
  · exact Fin.ext k0'.symm
  · exact Fin.ext (by show (y 1).val = 2 * q.val + h.val; omega)
  · exact Fin.ext k2'.symm

/-- A step with rows is carried back at some point. -/
theorem flushed_step (s : Fin 64) (hb : Before s.val (stepsOf (tables m))) :
    ∃ t : Fin (cfgA m hr).N, ((cfgA m hr).win 5).flush t = true ∧ stepBlock t.val (stepsOf (tables m)) = s.val := by
  have hN : (cfgA m hr).N = 64 := N_0
  by_cases hn : s.val + 1 < 64 ∧ Before (s.val + 1) (stepsOf (tables m))
  · refine ⟨⟨s.val, lt_of_lt_of_eq s.isLt hN.symm⟩, ?_, stepBlock_of_before s.isLt hb⟩
    unfold Pipeline.Window.flush
    simp only [Bool.and_eq_true, Bool.or_eq_true, decide_eq_true_eq]
    refine ⟨rfl, Or.inr ⟨lt_of_lt_of_eq hn.1 hN.symm, ?_⟩⟩
    rw [win_index5, win_index5]
    intro h
    have h1 := congrFun h (1 : Fin 3)
    have h2 : stepBlock (s.val + 1) (stepsOf (tables m)) = stepBlock s.val (stepsOf (tables m)) := h1
    rw [stepBlock_of_before s.isLt hb, stepBlock_of_before hn.1 hn.2] at h2
    omega
  · refine ⟨⟨63, lt_of_lt_of_eq (by decide) hN.symm⟩, ?_, ?_⟩
    · unfold Pipeline.Window.flush
      simp only [Bool.and_eq_true, Bool.or_eq_true, decide_eq_true_eq]
      exact ⟨rfl, Or.inl hN.symm⟩
    · by_cases h63 : s.val = 63
      · show stepBlock 63 (stepsOf (tables m)) = s.val
        rw [h63] at hb ⊢
        exact stepBlock_of_before (by omega) hb
      · exact stepBlock_last (by have := s.isLt; show s.val ≤ 63; omega) (by show 63 < 64; decide) hb (fun h => hn ⟨by have := s.isLt; omega, h⟩)

/-- The value claimed of a result element. -/
def Claimed (c : Dev nD) (i : S2x262144x256.Idx) (v : EReal) : Prop :=
  ∀ (s : Fin 64) (p : Fin 2) (r : Fin 2048) (h : Fin 2) (j : Fin 256), Before s.val (stepsOf (tables m)) → 2048 - 256 * (blk hr s).val ≤ r.val →
    i = ix3 p (⟨4096 * s.val + (2 * r.val + h.val), by omega⟩ : Fin 262144) j →
    v = (arrays m c).row (exp hr s) s r ⟨512 * h.val + (256 * p.val + j.val), by omega⟩

/-- The result array after the run. -/
theorem result (r : _) (H : Pipeline.RDat.FramePost (cfgA m hr) (fun c => rdat m hr c) (buffers m) r) (c : Dev nD)
    (s : Fin 64) (p : Fin 2) (q : Fin 2048) (h : Fin 2) (j : Fin 256) (hb : Before s.val (stepsOf (tables m))) (ho : 2048 - 256 * (blk hr s).val ≤ q.val) :
    (r.2.mem ((c : Thread nD τ).loc main_v0) : Vec Ideal S2x262144x256 .bf16) (ix3 p (⟨4096 * s.val + (2 * q.val + h.val), by omega⟩ : Fin 262144) j)
      = (arrays m c).row (exp hr s) s q ⟨512 * h.val + (256 * p.val + j.val), by omega⟩ := by
  obtain ⟨aft, hL, hV⟩ := RDat.FramePost.exists_exact H c
  have e : r.2.mem ((c : Thread nD τ).loc main_v0) = ((rdat m hr c).withAfter aft).arrAt 5 (cfgA m hr).N := hV 5
  rw [e]
  obtain ⟨t, hf, hs⟩ := flushed_step m hr s hb
  have hP := Dat.arrAt_forall_of_flushed ((rdat m hr c).withAfter aft) 5 (Claimed m hr c) (fun t hf y => ?_) (cfgA m hr).N t
    (ix3 p (⟨4096 * s.val + (2 * q.val + h.val), by omega⟩ : Fin 262144) j) t.isLt hf ?_
  · exact hP s p q h j hb ho rfl
  · intro s p q h j hb ho hi
    obtain ⟨hy, hst⟩ := of_under m hr t y s p q h j hi
    have := holds_of_leaves m hr c _ t rfl (aft 5 t) (hL 5 t hf) s hst hb p q h j ho
    rw [← hy] at this
    exact this
  · have : (ix3 p (⟨4096 * s.val + (2 * q.val + h.val), by omega⟩ : Fin 262144) j : S2x262144x256.Idx)
        = under m hr t (ix3 p (⟨2 * q.val + h.val, by omega⟩ : Fin 4096) j) := by
      obtain ⟨k0, k1, k2⟩ := under_val m hr t (ix3 p (⟨2 * q.val + h.val, by omega⟩ : Fin 4096) j)
      funext a
      fin_cases a
      · exact Fin.ext k0.symm
      · exact Fin.ext (by rw [hs] at k1; exact k1.symm)
      · exact Fin.ext k2.symm
    rw [this]
    exact View.emb_mem_set _ _

end Cert.KernelIdeal.Hand

end
-- ==== Proof.RI.Pick.lean ====
/-
  A gather that picks whole matrices out of a stack, one for each of 64 starts, read at an index.
-/
module

public import proofs.«01_k».proof.Proof.Gen.ReferenceIdeal.Read
public import Idealize.ShloMosaic.Lib.Pointwise.Index

@[expose] public section

noncomputable section

namespace Cert.ReferenceIdeal.Hand

open Cert.ReferenceIdeal Cert.ReferenceIdeal.Gen Cert.ReferenceIdeal.Read
open Idealize.ShloMosaic Idealize.ShloMosaic.Tactic

theorem one_notin : ¬(1 : Fin 3) ∈ [(0 : Fin 3)] := by decide
theorem two_notin : ¬(2 : Fin 3) ∈ [(0 : Fin 3)] := by decide

section Pick
variable {α : Type} {A B : ℕ}

/-- Picking one `A × B` matrix out of 32 for each of 64 starts. -/
abbrev pickDims (A B : ℕ)
    (wf : GatherDims.WF ⟨3, ![32, A, B]⟩ ⟨2, ![64, 1]⟩ ⟨3, ![64, A, B]⟩ [1, 2] [0] [] [0] [] 1 ![1, A, B]) :
    GatherDims ⟨3, ![32, A, B]⟩ ⟨2, ![64, 1]⟩ ⟨3, ![64, A, B]⟩ where
  offsetDims := [1, 2]
  collapsedSliceDims := [0]
  operandBatchingDims := []
  startIndicesBatchingDims := []
  startIndexMap := [0]
  indexVectorDim := 1
  sliceSizes := ![1, A, B]
  wf := wf

/-- The matrix at a start that is in range is the one the start names. -/
theorem pick_apply
    (wf : GatherDims.WF ⟨3, ![32, A, B]⟩ ⟨2, ![64, 1]⟩ ⟨3, ![64, A, B]⟩ [1, 2] [0] [] [0] [] 1 ![1, A, B])
    (x : (⟨3, ![32, A, B]⟩ : Shape).Idx → α) (idx : IVec ⟨2, ![64, 1]⟩ 32) (s : Fin 64) (a : Fin A) (b : Fin B)
    (e : Fin 32) (he : (idx (ix2 s (0 : Fin 1))).toNat = e.val) :
    Host.gather (pickDims A B wf) x idx (ix3 s a b) = x (ix3 e a b) := by
  unfold Host.gather
  congr 1
  funext k
  refine Fin.ext ?_
  show (pickDims A B wf).start (ix3 s a b) idx k + (pickDims A B wf).batchCoord (ix3 s a b) k
      + (pickDims A B wf).offCoord (ix3 s a b) k = _
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil, Nat.add_zero]
  rcases hk with rfl | rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 3) ∈ (pickDims A B wf).startIndexMap from List.mem_singleton.mpr rfl)]
    have hsi : (pickDims A B wf).siIdx (ix3 s a b) ⟨List.idxOf (0 : Fin 3) (pickDims A B wf).startIndexMap,
        List.idxOf_lt_length_iff.2 (List.mem_singleton.mpr rfl)⟩ = ix2 s (0 : Fin 1) := by
      funext c; refine Fin.ext ?_
      match c with
      | ⟨0, _⟩ => rfl
      | ⟨1, _⟩ => rfl
    rw [hsi]
    have hi : (idx (ix2 s (0 : Fin 1))).toInt = e.val := by
      rw [BitVec.toInt_eq_toNat_cond, he, if_pos (by have := e.isLt; omega)]
    rw [hi]
    show min (Int.toNat (e.val : ℤ)) (32 - 1) = e.val
    have := e.isLt
    omega
  · unfold GatherDims.start
    rw [dif_neg (show ¬(1 : Fin 3) ∈ (pickDims A B wf).startIndexMap from one_notin),
      Nat.zero_add]
    unfold GatherDims.offCoord
    rw [dif_pos ((GatherDims.mem_sKept _ _).mpr ⟨one_notin, List.not_mem_nil⟩)]
    rfl
  · unfold GatherDims.start
    rw [dif_neg (show ¬(2 : Fin 3) ∈ (pickDims A B wf).startIndexMap from two_notin),
      Nat.zero_add]
    unfold GatherDims.offCoord
    rw [dif_pos ((GatherDims.mem_sKept _ _).mpr ⟨two_notin, List.not_mem_nil⟩)]
    rfl

end Pick

end Cert.ReferenceIdeal.Hand

end
-- ==== Proof.RI.Weights.lean ====
/-
  The reference's rows of tokens, and the weights and biases of a step's expert, as the program's arrays hold them.
-/
module

public import proofs.«01_k».proof.Proof.RI.Pick
public import proofs.«01_k».proof.Proof.KI.Expect

@[expose] public section

noncomputable section

namespace Cert.ReferenceIdeal.Hand

open Cert.ReferenceIdeal Cert.ReferenceIdeal.Gen Cert.ReferenceIdeal.Read
open Idealize.ShloMosaic Idealize.ShloMosaic.Tactic
open Cert.KernelIdeal.Hand (Arrays entry)

theorem v17_at (x : Vec Ideal S2x32x1024x2048 .f32) (e : Fin 32) (d : Fin 1024) (o : Fin 2048) :
    val_main_v17 (F := Ideal) x (ix3 e d o) = x (ix4 (0 : Fin 2) e d o) := by
  rw [val_main_v17_apply, val_main_v16_apply]
  refine congrArg x (funext fun a => Fin.ext ?_)
  match a with
  | ⟨0, _⟩ => rfl
  | ⟨1, _⟩ => show ((e.val * 1024 + d.val) * 2048 + o.val) / 2097152 % 32 = e.val; omega
  | ⟨2, _⟩ => show ((e.val * 1024 + d.val) * 2048 + o.val) / 2048 % 1024 = d.val; omega
  | ⟨3, _⟩ => show ((e.val * 1024 + d.val) * 2048 + o.val) % 2048 = o.val; omega

theorem v19_at (x0 : Vec Ideal S64 .i32) (x : Vec Ideal S2x32x1024x2048 .f32) (s : Fin 64) (d : Fin 1024) (o : Fin 2048)
    (e : Fin 32) (he : (x0 (ix1 s)).toNat = e.val) :
    val_main_v19 (F := Ideal) x0 x (ix3 s d o) = x (ix4 (0 : Fin 2) e d o) := by
  unfold val_main_v19
  refine (pick_apply (A := 1024) (B := 2048) gather_S32x1024x2048_S64x1_S64x1024x2048_12_0_n_n_0_1_110242048_wf _ _ s d o e ?_).trans (v17_at x e d o)
  rw [val_main_v18_apply]
  have hi : idx_main_v18 (ix2 s (0 : Fin 1)) = ix1 s := funext fun a => match a with | ⟨0, _⟩ => rfl
  rw [hi]
  exact he

theorem v22_at (x : Vec Ideal S2x32x1x2048 .f32) (e : Fin 32) (d : Fin 1) (o : Fin 2048) :
    val_main_v22 (F := Ideal) x (ix3 e d o) = x (ix4 (0 : Fin 2) e d o) := by
  rw [val_main_v22_apply, val_main_v21_apply]
  refine congrArg x (funext fun a => Fin.ext ?_)
  match a with
  | ⟨0, _⟩ => rfl
  | ⟨1, _⟩ => show ((e.val * 1 + d.val) * 2048 + o.val) / 2048 % 32 = e.val; omega
  | ⟨2, _⟩ => show 0 = d.val; omega
  | ⟨3, _⟩ => show ((e.val * 1 + d.val) * 2048 + o.val) % 2048 = o.val; omega

theorem v24_at (x0 : Vec Ideal S64 .i32) (x : Vec Ideal S2x32x1x2048 .f32) (s : Fin 64) (d : Fin 1) (o : Fin 2048)
    (e : Fin 32) (he : (x0 (ix1 s)).toNat = e.val) :
    val_main_v24 (F := Ideal) x0 x (ix3 s d o) = x (ix4 (0 : Fin 2) e d o) := by
  unfold val_main_v24
  refine (pick_apply (A := 1) (B := 2048) gather_S32x1x2048_S64x1_S64x1x2048_12_0_n_n_0_1_112048_wf _ _ s d o e ?_).trans (v22_at x e d o)
  rw [val_main_v23_apply]
  have hi : idx_main_v23 (ix2 s (0 : Fin 1)) = ix1 s := funext fun a => match a with | ⟨0, _⟩ => rfl
  rw [hi]
  exact he

theorem v45_at (x : Vec Ideal S2x32x1024x1024 .f32) (e : Fin 32) (d : Fin 1024) (o : Fin 1024) :
    val_main_v45 (F := Ideal) x (ix3 e d o) = x (ix4 (0 : Fin 2) e d o) := by
  rw [val_main_v45_apply, val_main_v44_apply]
  refine congrArg x (funext fun a => Fin.ext ?_)
  match a with
  | ⟨0, _⟩ => rfl
  | ⟨1, _⟩ => show ((e.val * 1024 + d.val) * 1024 + o.val) / 1048576 % 32 = e.val; omega
  | ⟨2, _⟩ => show ((e.val * 1024 + d.val) * 1024 + o.val) / 1024 % 1024 = d.val; omega
  | ⟨3, _⟩ => show ((e.val * 1024 + d.val) * 1024 + o.val) % 1024 = o.val; omega

theorem v47_at (x0 : Vec Ideal S64 .i32) (x : Vec Ideal S2x32x1024x1024 .f32) (s : Fin 64) (d : Fin 1024) (o : Fin 1024)
    (e : Fin 32) (he : (x0 (ix1 s)).toNat = e.val) :
    val_main_v47 (F := Ideal) x0 x (ix3 s d o) = x (ix4 (0 : Fin 2) e d o) := by
  unfold val_main_v47
  refine (pick_apply (A := 1024) (B := 1024) gather_S32x1024x1024_S64x1_S64x1024x1024_12_0_n_n_0_1_110241024_wf _ _ s d o e ?_).trans (v45_at x e d o)
  rw [val_main_v46_apply]
  have hi : idx_main_v46 (ix2 s (0 : Fin 1)) = ix1 s := funext fun a => match a with | ⟨0, _⟩ => rfl
  rw [hi]
  exact he

theorem v50_at (x : Vec Ideal S2x32x1x1024 .f32) (e : Fin 32) (d : Fin 1) (o : Fin 1024) :
    val_main_v50 (F := Ideal) x (ix3 e d o) = x (ix4 (0 : Fin 2) e d o) := by
  rw [val_main_v50_apply, val_main_v49_apply]
  refine congrArg x (funext fun a => Fin.ext ?_)
  match a with
  | ⟨0, _⟩ => rfl
  | ⟨1, _⟩ => show ((e.val * 1 + d.val) * 1024 + o.val) / 1024 % 32 = e.val; omega
  | ⟨2, _⟩ => show 0 = d.val; omega
  | ⟨3, _⟩ => show ((e.val * 1 + d.val) * 1024 + o.val) % 1024 = o.val; omega

theorem v52_at (x0 : Vec Ideal S64 .i32) (x : Vec Ideal S2x32x1x1024 .f32) (s : Fin 64) (d : Fin 1) (o : Fin 1024)
    (e : Fin 32) (he : (x0 (ix1 s)).toNat = e.val) :
    val_main_v52 (F := Ideal) x0 x (ix3 s d o) = x (ix4 (0 : Fin 2) e d o) := by
  unfold val_main_v52
  refine (pick_apply (A := 1) (B := 1024) gather_S32x1x1024_S64x1_S64x1x1024_12_0_n_n_0_1_111024_wf _ _ s d o e ?_).trans (v50_at x e d o)
  rw [val_main_v51_apply]
  have hi : idx_main_v51 (ix2 s (0 : Fin 1)) = ix1 s := funext fun a => match a with | ⟨0, _⟩ => rfl
  rw [hi]
  exact he

end Cert.ReferenceIdeal.Hand

end
-- ==== Proof.RI.Tokens.lean ====
/-
  The reference's token rows: a row's 1024 entries are its words' low halves, then their high halves.
-/
module

public import proofs.«01_k».proof.Proof.RI.Pick
public import proofs.«01_k».proof.Proof.KI.Expect

@[expose] public section

noncomputable section

namespace Cert.ReferenceIdeal.Hand

open Cert.ReferenceIdeal Cert.ReferenceIdeal.Gen Cert.ReferenceIdeal.Read
open Idealize.ShloMosaic Idealize.ShloMosaic.Tactic
open Cert.KernelIdeal.Hand (Arrays entry)

/-- A shift left by 16 is in range, so it is the same on every unit. -/
theorem shli_host (w : BitVec 32) : IntOp.shli ArithUnit.host w 16#32 = IntOp.shli ArithUnit.vector w 16#32 := by
  unfold IntOp.shli
  rw [if_pos (by decide), if_pos (by decide)]

theorem v7_at (x : Vec Ideal S2x131072x256 .i32) (n : Fin 131072) (j : Fin 256) :
    val_main_v7 (F := Ideal) x (ix2 n j) = Ideal.ofBits FTy.f32 (IntOp.shli ArithUnit.vector (x (ix3 (0 : Fin 2) n j)) 16#32) := by
  rw [val_main_v7_apply, val_main_v6_apply]
  have e : idx_main_v6 (idx_main_v7 (ix2 n j)) = ix3 (0 : Fin 2) n j := funext fun a => Fin.ext (by
    match a with
    | ⟨0, _⟩ => rfl
    | ⟨1, _⟩ => show (n.val * 256 + j.val) / 256 % 131072 = n.val; omega
    | ⟨2, _⟩ => show (n.val * 256 + j.val) % 256 = j.val; omega)
  rw [e, val_main_v2_apply, val_main_v1_apply, val_main_v0_apply, val_main_c_apply]
  rw [shli_host]
  rfl

theorem v9_at (x : Vec Ideal S2x131072x256 .i32) (n : Fin 131072) (j : Fin 256) :
    val_main_v9 (F := Ideal) x (ix2 n j) = Ideal.ofBits FTy.f32 (IntOp.shli ArithUnit.vector (x (ix3 (1 : Fin 2) n j)) 16#32) := by
  rw [val_main_v9_apply, val_main_v8_apply]
  have e : idx_main_v8 (idx_main_v9 (ix2 n j)) = ix3 (1 : Fin 2) n j := funext fun a => Fin.ext (by
    match a with
    | ⟨0, _⟩ => rfl
    | ⟨1, _⟩ => show (n.val * 256 + j.val) / 256 % 131072 = n.val; omega
    | ⟨2, _⟩ => show (n.val * 256 + j.val) % 256 = j.val; omega)
  rw [e, val_main_v2_apply, val_main_v1_apply, val_main_v0_apply, val_main_c_apply]
  rw [shli_host]
  rfl

theorem v11_at (x : Vec Ideal S2x131072x256 .i32) (n : Fin 131072) (j : Fin 256) :
    val_main_v11 (F := Ideal) x (ix2 n j) = Ideal.ofBits FTy.f32 (IntOp.andi (x (ix3 (0 : Fin 2) n j)) 4294901760#32) := by
  rw [val_main_v11_apply, val_main_v10_apply]
  have e : idx_main_v10 (idx_main_v11 (ix2 n j)) = ix3 (0 : Fin 2) n j := funext fun a => Fin.ext (by
    match a with
    | ⟨0, _⟩ => rfl
    | ⟨1, _⟩ => show (n.val * 256 + j.val) / 256 % 131072 = n.val; omega
    | ⟨2, _⟩ => show (n.val * 256 + j.val) % 256 = j.val; omega)
  rw [e, val_main_v5_apply, val_main_v4_apply, val_main_v3_apply, val_main_c_0_apply]
  rfl

theorem v13_at (x : Vec Ideal S2x131072x256 .i32) (n : Fin 131072) (j : Fin 256) :
    val_main_v13 (F := Ideal) x (ix2 n j) = Ideal.ofBits FTy.f32 (IntOp.andi (x (ix3 (1 : Fin 2) n j)) 4294901760#32) := by
  rw [val_main_v13_apply, val_main_v12_apply]
  have e : idx_main_v12 (idx_main_v13 (ix2 n j)) = ix3 (1 : Fin 2) n j := funext fun a => Fin.ext (by
    match a with
    | ⟨0, _⟩ => rfl
    | ⟨1, _⟩ => show (n.val * 256 + j.val) / 256 % 131072 = n.val; omega
    | ⟨2, _⟩ => show (n.val * 256 + j.val) % 256 = j.val; omega)
  rw [e, val_main_v5_apply, val_main_v4_apply, val_main_v3_apply, val_main_c_0_apply]
  rfl

/-- The four groups of 256 columns. -/
def pieces (x : Vec Ideal S2x131072x256 .i32) : List ((s : Shape) × (s.Idx → EReal)) :=
  [⟨S131072x256, val_main_v7 (F := Ideal) x⟩, ⟨S131072x256, val_main_v9 (F := Ideal) x⟩,
    ⟨S131072x256, val_main_v11 (F := Ideal) x⟩, ⟨S131072x256, val_main_v13 (F := Ideal) x⟩]

theorem v14_at (x : Vec Ideal S2x131072x256 .i32) (n : Fin 131072) (d : Fin 1024) :
    val_main_v14 (F := Ideal) x (ix2 n d) = entry (fun j => x (ix3 (0 : Fin 2) n j)) (fun j => x (ix3 (1 : Fin 2) n j)) d := by
  unfold val_main_v14 entry
  split_ifs with h0 h1 h2
  · refine Eq.trans ?_ (v7_at x n (⟨d.val, h0⟩ : Fin 256))
    refine concatenate_apply_piece (t := S131072x1024) 1 (pieces x) _ _ 0 (by show 0 < 4; decide) S131072x256 (val_main_v7 (F := Ideal) x) rfl rfl 0 rfl
      (ix2 n (⟨d.val, h0⟩ : Fin 256)) (fun b hb => ?_) ?_
    · match b with
      | ⟨0, _⟩ => rfl
      | ⟨1, _⟩ => exact absurd rfl hb
    · show 0 + (d.val) = d.val; omega
  · refine Eq.trans ?_ (v9_at x n (⟨d.val - 256, h1⟩ : Fin 256))
    refine concatenate_apply_piece (t := S131072x1024) 1 (pieces x) _ _ 1 (by show 1 < 4; decide) S131072x256 (val_main_v9 (F := Ideal) x) rfl rfl 256 rfl
      (ix2 n (⟨d.val - 256, h1⟩ : Fin 256)) (fun b hb => ?_) ?_
    · match b with
      | ⟨0, _⟩ => rfl
      | ⟨1, _⟩ => exact absurd rfl hb
    · show 256 + (d.val - 256) = d.val; omega
  · refine Eq.trans ?_ (v11_at x n (⟨d.val - 256 - 256, h2⟩ : Fin 256))
    refine concatenate_apply_piece (t := S131072x1024) 1 (pieces x) _ _ 2 (by show 2 < 4; decide) S131072x256 (val_main_v11 (F := Ideal) x) rfl rfl 512 rfl
      (ix2 n (⟨d.val - 256 - 256, h2⟩ : Fin 256)) (fun b hb => ?_) ?_
    · match b with
      | ⟨0, _⟩ => rfl
      | ⟨1, _⟩ => exact absurd rfl hb
    · show 512 + (d.val - 256 - 256) = d.val; omega
  · refine Eq.trans ?_ (v13_at x n (⟨d.val - 256 - 256 - 256, (by omega)⟩ : Fin 256))
    refine concatenate_apply_piece (t := S131072x1024) 1 (pieces x) _ _ 3 (by show 3 < 4; decide) S131072x256 (val_main_v13 (F := Ideal) x) rfl rfl 768 rfl
      (ix2 n (⟨d.val - 256 - 256 - 256, (by omega)⟩ : Fin 256)) (fun b hb => ?_) ?_
    · match b with
      | ⟨0, _⟩ => rfl
      | ⟨1, _⟩ => exact absurd rfl hb
    · show 768 + (d.val - 256 - 256 - 256) = d.val; omega

/-- Row `r` of step `s`. -/
theorem v15_at (x : Vec Ideal S2x131072x256 .i32) (s : Fin 64) (r : Fin 2048) (d : Fin 1024) :
    val_main_v15 (F := Ideal) x (ix3 s r d)
      = entry (fun j => x (ix3 (0 : Fin 2) (⟨2048 * s.val + r.val, by omega⟩ : Fin 131072) j))
          (fun j => x (ix3 (1 : Fin 2) (⟨2048 * s.val + r.val, by omega⟩ : Fin 131072) j)) d := by
  rw [val_main_v15_apply]
  have e : idx_main_v15 (ix3 s r d) = ix2 (⟨2048 * s.val + r.val, by omega⟩ : Fin 131072) d := funext fun a => Fin.ext (by
    match a with
    | ⟨0, _⟩ => show ((s.val * 2048 + r.val) * 1024 + d.val) / 1024 = 2048 * s.val + r.val; omega
    | ⟨1, _⟩ => show ((s.val * 2048 + r.val) * 1024 + d.val) % 1024 = d.val; omega)
  rw [e]
  exact v14_at x _ d

end Cert.ReferenceIdeal.Hand

end
-- ==== Proof.RI.Row.lean ====
/-
  The reference's result, read row by row: each row of a step is what the step's expert makes of that row.
-/
module

public import proofs.«01_k».proof.Proof.RI.Weights
public import proofs.«01_k».proof.Proof.RI.Tokens
public import Idealize.ShloMosaic.Lib.IdealHost

@[expose] public section

noncomputable section

namespace Cert.ReferenceIdeal.Hand

open Cert.ReferenceIdeal Cert.ReferenceIdeal.Gen Cert.ReferenceIdeal.Read
open Idealize.ShloMosaic Idealize.ShloMosaic.Tactic
open Cert.KernelIdeal.Hand (Arrays entry hidden expert glu)

variable (x0 : Vec Ideal S64 .i32) (x3 : Vec Ideal S2x131072x256 .i32) (x4 : Vec Ideal S2x32x1024x2048 .f32)
  (x5 : Vec Ideal S2x32x1x2048 .f32) (x6 : Vec Ideal S2x32x1024x1024 .f32) (x7 : Vec Ideal S2x32x1x1024 .f32)

/-- The arrays the reference reads. -/
abbrev arr : Arrays := ⟨x3, x4, x5, x6, x7⟩

/-- The first product with its bias. -/
theorem v26_at (s : Fin 64) (r : Fin 2048) (o : Fin 2048) (e : Fin 32) (he : (x0 (ix1 s)).toNat = e.val) :
    val_main_v26 (F := Ideal) x0 x3 x4 x5 (ix3 s r o)
      = ∑ d, (entry ((arr x3 x4 x5 x6 x7).words 0 s r) ((arr x3 x4 x5 x6 x7).words 1 s r)) d * (arr x3 x4 x5 x6 x7).wGu e d o + (arr x3 x4 x5 x6 x7).bGu e o := by
  rw [val_main_v26_apply, val_main_v20_apply, val_main_v25_apply]
  have hb : idx_main_v25 (ix3 s r o) = ix3 s (0 : Fin 1) o := funext fun a => match a with
    | ⟨0, _⟩ => rfl | ⟨1, _⟩ => rfl | ⟨2, _⟩ => rfl
  rw [hb, v24_at x0 x5 s 0 o e he]
  refine congrArg (· + x5 (ix4 (0 : Fin 2) e (0 : Fin 1) o)) (Finset.sum_congr rfl fun d _ => ?_)
  have hl : lidx_main_v20 (ix3 s r o) d = ix3 s r d := funext fun a => match a with
    | ⟨0, _⟩ => rfl | ⟨1, _⟩ => rfl | ⟨2, _⟩ => rfl
  have hr : ridx_main_v20 (ix3 s r o) d = ix3 s d o := funext fun a => match a with
    | ⟨0, _⟩ => rfl | ⟨1, _⟩ => rfl | ⟨2, _⟩ => rfl
  rw [hl, hr, v15_at, v19_at x0 x4 s d o e he]
  rfl

/-- The activation of hidden unit `k`. -/
theorem v43_at (s : Fin 64) (r : Fin 2048) (k : Fin 1024) (e : Fin 32) (he : (x0 (ix1 s)).toNat = e.val) :
    val_main_v43 (F := Ideal) x0 x3 x4 x5 (ix3 s r k)
      = hidden (entry ((arr x3 x4 x5 x6 x7).words 0 s r) ((arr x3 x4 x5 x6 x7).words 1 s r)) ((arr x3 x4 x5 x6 x7).wGu e) ((arr x3 x4 x5 x6 x7).bGu e) k := by
  have hg : val_main_v27 (F := Ideal) x0 x3 x4 x5 (ix3 s r k)
      = ∑ d, (entry ((arr x3 x4 x5 x6 x7).words 0 s r) ((arr x3 x4 x5 x6 x7).words 1 s r)) d * (arr x3 x4 x5 x6 x7).wGu e d ⟨k.val, by omega⟩ + (arr x3 x4 x5 x6 x7).bGu e ⟨k.val, by omega⟩ := by
    rw [val_main_v27_apply, ← v26_at x0 x3 x4 x5 x6 x7 s r ⟨k.val, by omega⟩ e he]
    exact congrArg _ (funext fun a => match a with
      | ⟨0, _⟩ => rfl | ⟨1, _⟩ => rfl | ⟨2, _⟩ => rfl)
  have hu : val_main_v30 (F := Ideal) x0 x3 x4 x5 (ix3 s r k)
      = ∑ d, (entry ((arr x3 x4 x5 x6 x7).words 0 s r) ((arr x3 x4 x5 x6 x7).words 1 s r)) d * (arr x3 x4 x5 x6 x7).wGu e d ⟨1024 + k.val, by omega⟩ + (arr x3 x4 x5 x6 x7).bGu e ⟨1024 + k.val, by omega⟩ := by
    rw [val_main_v30_apply, ← v26_at x0 x3 x4 x5 x6 x7 s r ⟨1024 + k.val, by omega⟩ e he]
    exact congrArg _ (funext fun a => match a with
      | ⟨0, _⟩ => rfl | ⟨1, _⟩ => rfl | ⟨2, _⟩ => rfl)
  unfold Cert.KernelIdeal.Hand.hidden
  rw [← hg, ← hu]
  rw [val_main_v43_apply, val_main_v40_apply, val_main_v42_apply, val_main_v39_apply, val_main_v37_apply, val_main_v35_apply,
    val_main_v34_apply, val_main_v33_apply, val_main_v29_apply, val_main_v31_apply, val_main_call0_v2_apply,
    val_main_call0_v1_apply, val_main_call0_v0_apply, val_main_cst_1_apply, val_main_call0_v4_apply, val_main_call0_v3_apply,
    val_main_cst_2_apply, val_main_v28_apply, val_main_cst_apply, val_main_v32_apply, val_main_cst_3_apply,
    val_main_v36_apply, val_main_cst_4_apply, val_main_v38_apply, val_main_cst_5_apply, val_main_v41_apply, val_main_cst_6_apply]
  generalize val_main_v27 (F := Ideal) x0 x3 x4 x5 (ix3 s r k) = g
  generalize val_main_v30 (F := Ideal) x0 x3 x4 x5 (ix3 s r k) = u
  have h1 : (FloatOps.ofBits .f32 0x3F800000#32 : Ideal .f32) = (1 : EReal) := Ideal.ofBits_one_f32
  rw [h1]
  rfl

/-- The second product with its bias. -/
theorem v54_at (s : Fin 64) (r : Fin 2048) (o : Fin 1024) (e : Fin 32) (he : (x0 (ix1 s)).toNat = e.val) :
    val_main_v54 (F := Ideal) x0 x3 x4 x5 x6 x7 (ix3 s r o) = (arr x3 x4 x5 x6 x7).row e s r o := by
  rw [val_main_v54_apply, val_main_v48_apply, val_main_v53_apply]
  have hb : idx_main_v53 (ix3 s r o) = ix3 s (0 : Fin 1) o := funext fun a => match a with
    | ⟨0, _⟩ => rfl | ⟨1, _⟩ => rfl | ⟨2, _⟩ => rfl
  rw [hb, v52_at x0 x7 s 0 o e he]
  refine congrArg (· + x7 (ix4 (0 : Fin 2) e (0 : Fin 1) o)) (Finset.sum_congr rfl fun k _ => ?_)
  have hl : lidx_main_v48 (ix3 s r o) k = ix3 s r k := funext fun a => match a with
    | ⟨0, _⟩ => rfl | ⟨1, _⟩ => rfl | ⟨2, _⟩ => rfl
  have hr : ridx_main_v48 (ix3 s r o) k = ix3 s k o := funext fun a => match a with
    | ⟨0, _⟩ => rfl | ⟨1, _⟩ => rfl | ⟨2, _⟩ => rfl
  rw [hl, hr, v43_at x0 x3 x4 x5 x6 x7 s r k e he, v47_at x0 x6 s k o e he]
  rfl

/-- The result holds two half rows of 512 columns for each row, in two planes of 256 columns. -/
theorem v58_at (s : Fin 64) (p : Fin 2) (q : Fin 2048) (h : Fin 2) (j : Fin 256) (e : Fin 32)
    (he : (x0 (ix1 s)).toNat = e.val) :
    val_main_v58 (F := Ideal) x0 x3 x4 x5 x6 x7 (ix3 p (⟨4096 * s.val + (2 * q.val + h.val), by omega⟩ : Fin 262144) j)
      = (arr x3 x4 x5 x6 x7).row e s q ⟨512 * h.val + (256 * p.val + j.val), by omega⟩ := by
  rw [← v54_at x0 x3 x4 x5 x6 x7 s q ⟨512 * h.val + (256 * p.val + j.val), by omega⟩ e he]
  rw [val_main_v58_apply, val_main_v57_apply, val_main_v56_apply, val_main_v55_apply]
  have e57 : idx_main_v57 (ix3 p (⟨4096 * s.val + (2 * q.val + h.val), by omega⟩ : Fin 262144) j)
      = ix4 p (⟨2048 * s.val + q.val, by omega⟩ : Fin 131072) h j := funext fun a => Fin.ext (by
    match a with
    | ⟨0, _⟩ => show ((p.val * 262144 + (4096 * s.val + (2 * q.val + h.val))) * 256 + j.val) / 67108864 = p.val; omega
    | ⟨1, _⟩ => show ((p.val * 262144 + (4096 * s.val + (2 * q.val + h.val))) * 256 + j.val) / 512 % 131072 = 2048 * s.val + q.val; omega
    | ⟨2, _⟩ => show ((p.val * 262144 + (4096 * s.val + (2 * q.val + h.val))) * 256 + j.val) / 256 % 2 = h.val; omega
    | ⟨3, _⟩ => show ((p.val * 262144 + (4096 * s.val + (2 * q.val + h.val))) * 256 + j.val) % 256 = j.val; omega)
  have e56 : idx_main_v56 (ix4 p (⟨2048 * s.val + q.val, by omega⟩ : Fin 131072) h j)
      = ix4 (⟨2048 * s.val + q.val, by omega⟩ : Fin 131072) h p j := funext fun a => match a with
    | ⟨0, _⟩ => rfl | ⟨1, _⟩ => rfl | ⟨2, _⟩ => rfl | ⟨3, _⟩ => rfl
  have e55 : idx_main_v55 (ix4 (⟨2048 * s.val + q.val, by omega⟩ : Fin 131072) h p j)
      = ix3 s q (⟨512 * h.val + (256 * p.val + j.val), by omega⟩ : Fin 1024) := funext fun a => Fin.ext (by
    match a with
    | ⟨0, _⟩ => show ((((2048 * s.val + q.val) * 2 + h.val) * 2 + p.val) * 256 + j.val) / 2097152 = s.val; omega
    | ⟨1, _⟩ => show ((((2048 * s.val + q.val) * 2 + h.val) * 2 + p.val) * 256 + j.val) / 1024 % 2048 = q.val; omega
    | ⟨2, _⟩ => show ((((2048 * s.val + q.val) * 2 + h.val) * 2 + p.val) * 256 + j.val) % 1024 = 512 * h.val + (256 * p.val + j.val); omega)
  rw [e57, e56, e55]
  rfl

end Cert.ReferenceIdeal.Hand

end
-- ==== Proof.RI.Frame.lean ====
/-
  The reference terminates, leaves its arguments as they were and has no semaphores.
-/
module

public import proofs.«01_k».proof.Proof.Gen.ReferenceIdeal.Read
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Hand

end
-- ==== Proof.Range.lean ====
/-
  What the precondition says of the tables: every step's expert is one of the 32, its number of blocks at most eight.
-/
module

public import proofs.«01_k».proof.Proof.Gen.Pre_tables_in_range
public import Idealize.ShloMosaic.Lib.StableHlo.Predicate
public import Idealize.ShloMosaic.Lib.ReduceAll
public import Idealize.ShloMosaic.Lib.Pointwise

@[expose] public section

namespace Cert.Hand

open Idealize.ShloMosaic Cert.Pre_tables_in_range

theorem both_of_andi {a b : BitVec 1} (h : IntOp.andi a b = 1#1) : a = 1#1 ∧ b = 1#1 := by
  revert a b; decide

theorem lt_of_checked {a : BitVec 32} {n : Nat} (hn : n < 2 ^ 31) (h0 : IntOp.cmpi .sge a 0#32 = 1#1)
    (h1 : IntOp.cmpi .slt a (BitVec.ofNat 32 n) = 1#1) : a.toNat < n := by
  simp only [IntOp.cmpi, StableHlo.Predicate.ofBool_eq_one_iff, BitVec.sle_iff_toInt_le, BitVec.slt_iff_toInt_lt] at h0 h1
  rw [StableHlo.Predicate.toInt_ofNat_small n hn] at h1
  simp at h0
  rw [BitVec.toInt_eq_toNat_cond] at h0 h1
  split at h0 <;> omega

theorem le_of_checked {a : BitVec 32} {n : Nat} (hn : n < 2 ^ 31) (h0 : IntOp.cmpi .sge a 0#32 = 1#1)
    (h1 : IntOp.cmpi .sle a (BitVec.ofNat 32 n) = 1#1) : a.toNat < n + 1 := by
  simp only [IntOp.cmpi, StableHlo.Predicate.ofBool_eq_one_iff, BitVec.sle_iff_toInt_le, BitVec.slt_iff_toInt_lt] at h0 h1
  rw [StableHlo.Predicate.toInt_ofNat_small n hn] at h1
  simp at h0
  rw [BitVec.toInt_eq_toNat_cond] at h0 h1
  split at h0 <;> omega

attribute [local instance] Cert.Pre_tables_in_range.Gen.facts

theorem tables_of_pre {F : FTy → Type} [FloatOps F] {a0 a1 : IVec S64 32} {a2 : IVec S1 32} {a3 : IVec S2x131072x256 32} {a4 : FVec F S2x32x1024x2048 .f32} {a5 : FVec F S2x32x1x2048 .f32} {a6 : FVec F S2x32x1024x1024 .f32} {a7 : FVec F S2x32x1x1024 .f32}
    (h : Cert.Pre_tables_in_range.fn a0 a1 a2 a3 a4 a5 a6 a7 = fun _ => 1#1) :
    (∀ k, (a0 k).toNat < 32) ∧ ∀ k, (a1 k).toNat < 9 := by
  have e := congrFun h (Shape.Idx.first Facts.h_S_)
  obtain ⟨e0, e1⟩ := both_of_andi e
  haveI : Subsingleton S_.Idx := ⟨fun x y => funext fun a => Fin.elim0 a⟩
  constructor
  · intro k
    obtain ⟨h0, h1⟩ := both_of_andi (Host.reduce_andi_all _ _ _ _ _ e0 k)
    exact lt_of_checked (by norm_num) h0 h1
  · intro k
    obtain ⟨h0, h1⟩ := both_of_andi (Host.reduce_andi_all _ _ _ _ _ e1 k)
    exact le_of_checked (by norm_num) h0 h1

end Cert.Hand
-- ==== Proof.Mask.lean ====
/-
  The positions the claim is about: the rows of the steps with rows, from the first row of a step that holds a token on.
-/
module

public import proofs.«01_k».proof.Proof.Steps
public import proofs.«01_k».proof.Proof.Range
public import Idealize.ShloMosaic.Lib.Pipeline.Value
public import Idealize.ShloMosaic.Lib.Pointwise.Index
public import proofs.«01_k».proof.Proof.Gen.On_rows_written

@[expose] public section

noncomputable section

namespace Cert.Hand

open Cert.On_rows_written
open Idealize.ShloMosaic Idealize.ShloMosaic.Tactic

attribute [local instance] Cert.On_rows_written.Gen.facts

theorem mask_at {F : FTy → Type} [FloatOps F] {a0 a1 : IVec S64 32} {a2 : IVec S1 32} {a3 : IVec S2x131072x256 32}
    {a4 : FVec F S2x32x1024x2048 .f32} {a5 : FVec F S2x32x1x2048 .f32} {a6 : FVec F S2x32x1024x1024 .f32}
    {a7 : FVec F S2x32x1x1024 .f32} (p : Fin 2) (s : Fin 64) (t : Fin 4096) (j : Fin 256) :
    Cert.On_rows_written.fn a0 a1 a2 a3 a4 a5 a6 a7 (ix3 p (⟨4096 * s.val + t.val, by omega⟩ : Fin 262144) j)
      = IntOp.andi (IntOp.cmpi .slt (BitVec.ofNat 32 s.val) (a2 (ix1 (0 : Fin 1))))
          (IntOp.cmpi .sge (BitVec.ofNat 32 t.val) (IntOp.subi 4096#32 (IntOp.muli 512#32 (a1 (ix1 s))))) := by
  unfold Cert.On_rows_written.fn
  refine (broadcastInDim_apply _ Facts.bcast_S262144_S2x262144x256_1 _ _ (ix1 (⟨4096 * s.val + t.val, by omega⟩ : Fin 262144))
    (fun a => match a with
      | ⟨0, _⟩ => by
          show 4096 * s.val + t.val = if (262144 : ℕ) = 1 then 0 else 4096 * s.val + t.val
          rw [if_neg (by decide)])).trans ?_
  refine (shapeCast_apply _ Facts.shapeCasts_S64x4096_S262144 _ (ix2 s t) (by
    rewrite [Shape.rowMajor_val_two, Shape.rowMajor_val_one]
    show s.val * 4096 + t.val = 4096 * s.val + t.val
    omega)).trans ?_
  have h1 : broadcastInDim S64x4096 ![0] Facts.bcast_S64_S64x4096_0 a1 (ix2 s t) = a1 (ix1 s) :=
    broadcastInDim_apply _ Facts.bcast_S64_S64x4096_0 a1 (ix2 s t) (ix1 s) (fun a => match a with
      | ⟨0, _⟩ => by
          show s.val = if (64 : ℕ) = 1 then 0 else s.val
          rw [if_neg (by decide)])
  haveI : Subsingleton S1.Idx := ⟨fun x y => funext fun a => by
    have hs : ∀ u v : Fin 1, u = v := fun u v => Subsingleton.elim u v
    match a with
    | ⟨0, _⟩ => exact hs (x 0) (y 0)⟩
  have h2 : broadcastInDim S64x4096 ![] Facts.bcast_S_S64x4096 (shapeCast S_ a2 Facts.shapeCasts_S1_S_) (ix2 s t)
      = a2 (ix1 (0 : Fin 1)) := congrArg a2 (Subsingleton.elim _ _)
  rw [← h1, ← h2]
  rfl

/-- A position the claim is about lies in a step that has rows, at or after the first half row of the step's blocks. -/
theorem written_of_mask {F : FTy → Type} [FloatOps F] {a0 a1 : IVec S64 32} {a2 : IVec S1 32} {a3 : IVec S2x131072x256 32}
    {a4 : FVec F S2x32x1024x2048 .f32} {a5 : FVec F S2x32x1x2048 .f32} {a6 : FVec F S2x32x1024x1024 .f32}
    {a7 : FVec F S2x32x1x1024 .f32} (p : Fin 2) (s : Fin 64) (t : Fin 4096) (j : Fin 256) (h1 : (a1 (ix1 s)).toNat < 9)
    (h : Cert.On_rows_written.fn a0 a1 a2 a3 a4 a5 a6 a7 (ix3 p (⟨4096 * s.val + t.val, by omega⟩ : Fin 262144) j) = 1#1) :
    Before s.val (a2 (ix1 (0 : Fin 1))) ∧ 4096 - 512 * (a1 (ix1 s)).toNat ≤ t.val := by
  rw [mask_at] at h
  obtain ⟨hs, ht⟩ := both_of_andi h
  simp only [IntOp.cmpi, StableHlo.Predicate.ofBool_eq_one_iff, BitVec.sle_iff_toInt_le, BitVec.slt_iff_toInt_lt] at hs ht
  rw [StableHlo.Predicate.toInt_ofNat_small _ (by omega)] at hs ht
  refine ⟨hs, ?_⟩
  have hv : (IntOp.subi 4096#32 (IntOp.muli 512#32 (a1 (ix1 s)))).toInt = 4096 - 512 * ((a1 (ix1 s)).toNat : ℤ) := by
    have hm : (512#32 * a1 (ix1 s)).toNat = 512 * (a1 (ix1 s)).toNat := by
      rw [BitVec.toNat_mul]; show 512 * _ % 4294967296 = _; omega
    show (4096#32 - 512#32 * a1 (ix1 s)).toInt = _
    have hn : (4096#32 - 512#32 * a1 (ix1 s)).toNat = 4096 - 512 * (a1 (ix1 s)).toNat := by
      rw [BitVec.toNat_sub, hm]; show (4294967296 - _ + 4096) % 4294967296 = _; omega
    rw [BitVec.toInt_eq_toNat_cond, hn, if_pos (by omega)]
    omega
  rw [hv] at ht
  omega

end Cert.Hand

end
-- ==== Proof.Agree.lean ====
/-
  The kernel's result and the reference's agree wherever the claim asks for it.
-/
module

public import proofs.«01_k».proof.Proof.KI.Result
public import proofs.«01_k».proof.Proof.RI.Row
public import proofs.«01_k».proof.Proof.RI.Frame
public import proofs.«01_k».proof.Proof.Mask

@[expose] public section

noncomputable section

namespace Cert.Hand

open Idealize.ShloMosaic Idealize.ShloMosaic.TcCoe Idealize.ShloMosaic.Tactic Idealize.SL.Sem
open Cert.KernelIdeal.Hand (tables InRange rdat cfgA buffers exp blk arrays)

attribute [local instance] Cert.On_rows_written.Gen.facts

variable (m : (ℓ : Loc Cert.KernelIdeal.nD Cert.KernelIdeal.τ Cert.KernelIdeal.sig) → Buf (Elt Ideal) ℓ)
  (hr : InRange (tables m))

/-- What the claim's positions are to hold: the reference's result for the kernel's arguments. -/
def want (c : Dev Cert.KernelIdeal.nD) : Vec Ideal Cert.KernelIdeal.S2x262144x256 .bf16 :=
  Cert.ReferenceIdeal.Read.val_main_v58 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

/-- A position the claim asks for holds the reference's value. -/
theorem result_eq (r : _) (H : Pipeline.RDat.FramePost (cfgA m hr) (fun c => rdat m hr c) (buffers m) r) (c : Dev Cert.KernelIdeal.nD)
    (i : (⟨3, ![2, 262144, 256]⟩ : Shape).Idx)
    (hi : Cert.On_rows_written.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) i = 1#1) :
    (r.2.mem ((c.tc : Thread Cert.KernelIdeal.nD Cert.KernelIdeal.τ).loc Cert.KernelIdeal.main_v0) : Vec Ideal Cert.KernelIdeal.S2x262144x256 .bf16) i = want m c i := by
  obtain rfl : c = 0 := Subsingleton.elim c 0
  obtain ⟨p, n, j, rfl⟩ : ∃ (p : Fin 2) (n : Fin 262144) (j : Fin 256), i = ix3 p n j := ⟨i 0, i 1, i 2, eq_ix3 i⟩
  obtain ⟨s, q, h, rfl⟩ : ∃ (s : Fin 64) (q : Fin 2048) (h : Fin 2), n = ⟨4096 * s.val + (2 * q.val + h.val), by omega⟩ :=
    ⟨⟨n.val / 4096, by omega⟩, ⟨n.val % 4096 / 2, by omega⟩, ⟨n.val % 2, by omega⟩, Fin.ext (by
      show n.val = 4096 * (n.val / 4096) + (2 * (n.val % 4096 / 2) + n.val % 2); omega)⟩
  obtain ⟨hb, ho⟩ := written_of_mask p s (⟨2 * q.val + h.val, by omega⟩ : Fin 4096) j (hr.2 s) hi
  have hq : 2048 - 256 * (blk hr s).val ≤ q.val := by
    have ho' : 4096 - 512 * (blk hr s).val ≤ 2 * q.val + h.val := ho
    have := h.isLt
    omega
  exact (Cert.KernelIdeal.Hand.result m hr r H 0 s p q h j hb hq).trans
    (Cert.ReferenceIdeal.Hand.v58_at _ _ _ _ _ _ s p q h j (exp hr s) rfl).symm

end Cert.Hand

end
-- ==== Proof.Spec2.lean ====
/-
  What the final norm makes of one row: the token's entries plus the gated sum of its four experts' rows, divided by the
  root of their mean square, times the norm's weights.
-/
module

public import proofs.«01_k».proof.Proof.KI.Spec

@[expose] public section

noncomputable section

namespace Cert.Hand

open Idealize.ShloMosaic
open Cert.KernelIdeal.Hand (entry)

/-- Column `d` of a token's entries plus its four experts' rows, each times its gate. -/
def mixed (x : Fin 1024 → EReal) (w : Fin 4 → Fin 2 → Fin 256 → BitVec 32) (g : Fin 4 → EReal) (d : Fin 1024) : EReal :=
  x d + ∑ k, entry (w k 0) (w k 1) d * g k

/-- Column `d` of a row over the root of its mean square, times the weight there. -/
def normed (z : Fin 1024 → EReal) (n : Fin 1024 → EReal) (d : Fin 1024) : EReal :=
  z d * Ideal.rsqrt (Ideal.div (∑ e, z e * z e) (Ideal.ofBits FTy.f32 0x44800000#32) + Ideal.ofBits FTy.f32 0x3727C5AC#32) * n d

end Cert.Hand

end
-- ==== Proof.Row2.lean ====
/-
  A block of the final norm, row by row.
-/
module

public import proofs.«01_k».proof.Proof.Spec2
public import proofs.«01_k».proof.Proof.Gen.Kernel2Ideal.Frame
public import Idealize.ShloMosaic.Lib.Pointwise
public import Idealize.ShloMosaic.Lib.Pipeline.ValueKit.Tiles

@[expose] public section

noncomputable section

namespace Cert.Kernel2Ideal.Hand

open Cert.Kernel2Ideal Cert.Kernel2Ideal.Gen
open Idealize.ShloMosaic Idealize.ShloMosaic.TcCoe Idealize.ShloMosaic.Tactic
open Cert.Hand
open Cert.KernelIdeal.Hand (entry)

theorem norm_row (z : FVec Ideal S1024x1024 .f32) (n : FVec Ideal S1x1024 .f32) (t d : Fin 1024) :
    k0_pay1 z n (ix2 t d) = normed (fun e => z (ix2 t e)) (fun e => n (ix2 0 e)) d := by
  pointwise [k0_pay1]
  rfl

theorem mixed_row (x : Vec Ideal S1024x1024 .f32) (s : Vec Ideal S1024x128 .f32) (w : Fin 4 → Fin 2 → Vec Ideal S1x1x1024x256 .i32)
    (t d : Fin 1024) :
    k0_pay19 s (k0_pay12 (k0_pay7 x s (w 0 1)) (k0_pay9 s) (w 1 1)) (k0_pay13 (k0_pay8 x s (w 0 1)) (k0_pay9 s) (w 1 1)) (k0_pay14 s)
        (k0_pay16 s (k0_pay4 x s (w 0 0)) (k0_pay9 s) (k0_pay10 (w 1 0)) 16#32 (w 2 0))
        (k0_pay17 s (k0_pay5 x s (w 0 0)) (k0_pay9 s) (k0_pay10 (w 1 0)) (w 2 0)) (k0_pay18 (w 2 1)) (w 3 0) (w 3 1) (ix2 t d)
      = mixed (fun e => x (ix2 t e)) (fun k h j => w k h (ix4 0 0 t j))
          (fun k => s (ix2 t (⟨4 + k.val, by omega⟩ : Fin 128))) d := by
  pointwise [k0_pay19, k0_pay12, k0_pay7, k0_pay9, k0_pay13, k0_pay8, k0_pay14, k0_pay16, k0_pay4, k0_pay10, k0_pay17, k0_pay5, k0_pay18,
    k0_pay2, k0_pay3, k0_pay6, k0_pay11, k0_pay15]
  unfold mixed entry
  rw [Fin.sum_univ_four]
  split_ifs <;> simp only [mul_comm, add_assoc] <;>
    exact congrArg₂ (· + ·) (congrArg (fun e => x (ix2 t e)) (Fin.ext (by first | rfl | (dsimp only; omega)))) rfl

theorem hz : (![0, 0] : Fin 2 → ℕ) = fun _ => 0 := funext fun a => by fin_cases a <;> rfl

/-- One plane of one expert's packed rows, of a block. -/
def plane (y : Vec Ideal S4x2x1024x256 .i32) (k : Fin 4) (h : Fin 2) : Vec Ideal S1x1x1024x256 .i32 :=
  fun i => y (ix4 k h (i 2) (i 3))

theorem ld_plane (y : Vec Ideal S4x2x1024x256 .i32) (k : Fin 4) (h : Fin 2) {off : Fin 4 → ℕ} (hoff : off = ![k.val, h.val, 0, 0])
    (inb : ∀ a, off a + S1x1x1024x256.size a ≤ S4x2x1024x256.size a) :
    View.ld (Val := Elt Ideal) y (Rect.unit (s := S4x2x1024x256) off S1x1x1024x256.size inb) = plane y k h := by
  subst hoff
  funext x
  have h0 : (x 0).val < 1 := (x 0).isLt
  have h1 : (x 1).val < 1 := (x 1).isLt
  exact View.ld_unit_apply_of y _ _ inb x _ (fun a => match a with
    | ⟨0, _⟩ => by show k.val = k.val + (x 0).val; omega
    | ⟨1, _⟩ => by show h.val = h.val + (x 1).val; omega
    | ⟨2, _⟩ => by show (x 2).val = 0 + (x 2).val; omega
    | ⟨3, _⟩ => by show (x 3).val = 0 + (x 3).val; omega)

theorem block_row (x : Vec Ideal S1024x1024 .f32) (y : Vec Ideal S4x2x1024x256 .i32) (s : Vec Ideal S1024x128 .f32)
    (n : Vec Ideal S1x1024 .f32) (t d : Fin 1024) :
    out0_4 x y s n (ix2 t d)
      = normed (mixed (fun e => x (ix2 t e)) (fun k h j => y (ix4 k h t j)) (fun k => s (ix2 t (⟨4 + k.val, by omega⟩ : Fin 128))))
          (fun e => n (ix2 0 e)) d := by
  unfold out0_4 k0_pay22 k0_pay21
  rw [View.canon_unit_zero hz, norm_row]
  refine congrArg₂ (fun z n => normed z n d) (funext fun e => ?_) (funext fun e => ?_)
  · rw [View.ld_unit_zero hz, View.ld_unit_zero hz,
      show View.ld (Val := Elt Ideal) y r0_2 = plane y 0 0 from ld_plane y 0 0 rfl _,
      show View.ld (Val := Elt Ideal) y r0_3 = plane y 0 1 from ld_plane y 0 1 rfl _,
      show View.ld (Val := Elt Ideal) y r0_4 = plane y 1 0 from ld_plane y 1 0 rfl _,
      show View.ld (Val := Elt Ideal) y r0_5 = plane y 1 1 from ld_plane y 1 1 rfl _,
      show View.ld (Val := Elt Ideal) y r0_6 = plane y 2 0 from ld_plane y 2 0 rfl _,
      show View.ld (Val := Elt Ideal) y r0_7 = plane y 2 1 from ld_plane y 2 1 rfl _,
      show View.ld (Val := Elt Ideal) y r0_8 = plane y 3 0 from ld_plane y 3 0 rfl _,
      show View.ld (Val := Elt Ideal) y r0_9 = plane y 3 1 from ld_plane y 3 1 rfl _]
    exact mixed_row x s (plane y) t e
  · rw [View.ld_unit_zero hz]
    pointwise [k0_pay20]

end Cert.Kernel2Ideal.Hand

end
-- ==== Proof.Row3.lean ====
/-
  A block of the second stream's final norm: the same rows as the first's.
-/
module

public import proofs.«01_k».proof.Proof.Row2
public import proofs.«01_k».proof.Proof.Gen.Kernel3Ideal.Frame
public import Idealize.ShloMosaic.Lib.Pipeline.ValueKit.Acc

@[expose] public section

noncomputable section

namespace Cert.Kernel3Ideal.Hand

open Cert.Kernel3Ideal Cert.Kernel3Ideal.Gen
open Idealize.ShloMosaic Idealize.ShloMosaic.TcCoe Idealize.ShloMosaic.Tactic
open Cert.Hand

theorem pay1 : k0_pay1 (F := Ideal) = Cert.Kernel2Ideal.Gen.k0_pay1 := rfl
theorem pay4 : k0_pay4 (F := Ideal) = Cert.Kernel2Ideal.Gen.k0_pay4 := rfl
theorem pay5 : k0_pay5 (F := Ideal) = Cert.Kernel2Ideal.Gen.k0_pay5 := rfl
theorem pay7 : k0_pay7 (F := Ideal) = Cert.Kernel2Ideal.Gen.k0_pay7 := rfl
theorem pay8 : k0_pay8 (F := Ideal) = Cert.Kernel2Ideal.Gen.k0_pay8 := rfl
theorem pay9 : k0_pay9 (F := Ideal) = Cert.Kernel2Ideal.Gen.k0_pay9 := rfl
theorem pay10 : k0_pay10 (F := Ideal) = Cert.Kernel2Ideal.Gen.k0_pay10 := rfl
theorem pay12 : k0_pay12 (F := Ideal) = Cert.Kernel2Ideal.Gen.k0_pay12 := rfl
theorem pay13 : k0_pay13 (F := Ideal) = Cert.Kernel2Ideal.Gen.k0_pay13 := rfl
theorem pay14 : k0_pay14 (F := Ideal) = Cert.Kernel2Ideal.Gen.k0_pay14 := rfl
theorem pay16 : k0_pay16 (F := Ideal) = Cert.Kernel2Ideal.Gen.k0_pay16 := rfl
theorem pay17 : k0_pay17 (F := Ideal) = Cert.Kernel2Ideal.Gen.k0_pay17 := rfl
theorem pay18 : k0_pay18 (F := Ideal) = Cert.Kernel2Ideal.Gen.k0_pay18 := rfl
theorem pay19 : k0_pay19 (F := Ideal) = Cert.Kernel2Ideal.Gen.k0_pay19 := rfl
theorem pay20 : k0_pay20 (F := Ideal) = Cert.Kernel2Ideal.Gen.k0_pay20 := rfl

theorem block_row (c : Dev nD) (i : grid0.Coords) (a1 : Memref sig .tc .vmem S1024x1024 .f32) (h1 : a1.IsWhole)
    (a2 : Memref sig .tc .vmem S4x2x1024x256 .i32) (h2 : a2.IsWhole) (a3 : Memref sig .tc .vmem S1024x128 .f32) (h3 : a3.IsWhole)
    (a4 : Memref sig .tc .vmem S1x1024 .f32) (h4 : a4.IsWhole) (a6 : Memref sig .tc .vmem S1024x1024 .f32) (h6 : a6.IsWhole)
    (x : Vec Ideal S1024x1024 .f32) (y : Vec Ideal S4x2x1024x256 .i32) (s : Vec Ideal S1024x128 .f32) (n : Vec Ideal S1x1024 .f32)
    (t d : Fin 1024) :
    out0_A_4 (F := Ideal) c i a1 h1 a2 h2 a3 h3 a4 h4 a6 h6 x y s n (ix2 t d)
      = normed (mixed (fun e => x (ix2 t e)) (fun k h j => y (ix4 k h t j)) (fun k => s (ix2 t (⟨4 + k.val, by omega⟩ : Fin 128))))
          (fun e => n (ix2 0 e)) d := by
  have ld (k : Fin 4) (h : Fin 2) (inb : ∀ a, (![k.val, h.val, 0, 0] : Fin 4 → ℕ) a + (![1, 1, 1024, 256] : Fin 4 → ℕ) a ≤ S4x2x1024x256.size a) :
      View.ld (Val := Elt Ideal) y (Rect.unit (s := S4x2x1024x256) ![k.val, h.val, 0, 0] ![1, 1, 1024, 256] inb)
        = Cert.Kernel2Ideal.Hand.plane y k h := Cert.Kernel2Ideal.Hand.ld_plane y k h rfl inb
  frame_out
  rw [pay1, pay4, pay5, pay7, pay8, pay9, pay10, pay12, pay13, pay14, pay16, pay17, pay18, pay19, pay20,
    Cert.Kernel2Ideal.Hand.norm_row]
  refine congrArg₂ (fun z n => normed z n d) (funext fun e => ?_) (funext fun e => ?_)
  · have e00 := ld 0 0 inb_S4x2x1024x256_S1x1x1024x256_0_0_0_0
    have e01 := ld 0 1 inb_S4x2x1024x256_S1x1x1024x256_0_1_0_0
    have e10 := ld 1 0 inb_S4x2x1024x256_S1x1x1024x256_1_0_0_0
    have e11 := ld 1 1 inb_S4x2x1024x256_S1x1x1024x256_1_1_0_0
    have e20 := ld 2 0 inb_S4x2x1024x256_S1x1x1024x256_2_0_0_0
    have e21 := ld 2 1 inb_S4x2x1024x256_S1x1x1024x256_2_1_0_0
    have e30 : View.ld (Val := Elt Ideal) y (Rect.unit (s := S4x2x1024x256) ![3, 0, 0, 0] ![1, 1, 1024, 256] inb_S4x2x1024x256_S1x1x1024x256_3_0_0_0)
        = Cert.Kernel2Ideal.Hand.plane y 3 0 := ld 3 0 _
    have e31 : View.ld (Val := Elt Ideal) y (Rect.unit (s := S4x2x1024x256) ![3, 1, 0, 0] ![1, 1, 1024, 256] inb_S4x2x1024x256_S1x1x1024x256_3_1_0_0)
        = Cert.Kernel2Ideal.Hand.plane y 3 1 := ld 3 1 _
    simp only [Fin.val_zero, Fin.val_one, Fin.val_two] at e00 e01 e10 e11 e20 e21
    rw [e00, e01, e10, e11, e20, e21, e30, e31]
    exact Cert.Kernel2Ideal.Hand.mixed_row x s (Cert.Kernel2Ideal.Hand.plane y) t e
  · pointwise [Cert.Kernel2Ideal.Gen.k0_pay20]

end Cert.Kernel3Ideal.Hand

end
-- ==== Proof.Half2.lean ====
/-
  The first stream's final norm: the rows the call leaves in its result, from its arguments.
-/
module

public import proofs.«01_k».proof.Proof.Row2
public import proofs.«01_k».proof.Proof.Gen.Kernel2Ideal.Value
public import Idealize.ShloMosaic.Lib.Pipeline.ValueKit.Basic

@[expose] public section

noncomputable section

namespace Cert.Kernel2Ideal.Hand

open Cert.Kernel2Ideal Cert.Kernel2Ideal.Gen
open Idealize.ShloMosaic Idealize.ShloMosaic.TcCoe Idealize.ShloMosaic.Tactic Idealize.SL.Sem
open Cert.Hand

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0, t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

theorem lt_points (t : Fin cfg0.N) : t.val < 16 := t.isLt

/-- The row of the arguments' 16384 that is row `r` of the blocks at point `t`. -/
def row (t : Fin cfg0.N) (r : Fin 1024) : Fin 16384 := ⟨1024 * t.val + r.val, by have := lt_points t; omega⟩

theorem found0 (c : Dev nD) (t : Fin cfg0.N) (r d : Fin 1024) :
    iblk m c 0 t (ix2 r d) = m ((c : Thread nD τ).loc main_arg0) (ix2 (row t r) d) := by
  rw [← V_main_arg0 m c]
  refine congrArg (V m c main_arg0) (funext fun a => Fin.ext ?_)
  refine (Pipeline.Window.rect_emb_val (cfg0.win 0) t (ix2 r d) a).trans ?_
  rw [show (cfg0.win 0).index t = _ from index0 t]
  fin_cases a
  · show t.val * 1024 + r.val = 1024 * t.val + r.val; omega
  · show 0 * 1024 + d.val = d.val; omega

theorem found1 (c : Dev nD) (t : Fin cfg0.N) (k : Fin 4) (h : Fin 2) (r : Fin 1024) (j : Fin 256) :
    iblk m c 1 t (ix4 k h r j) = m ((c : Thread nD τ).loc main_arg1) (ix4 k h (row t r) j) := by
  rw [← V_main_arg1 m c]
  refine congrArg (V m c main_arg1) (funext fun a => Fin.ext ?_)
  refine (Pipeline.Window.rect_emb_val (cfg0.win 1) t (ix4 k h r j) a).trans ?_
  rw [show (cfg0.win 1).index t = _ from index1 t]
  fin_cases a
  · show 0 * 4 + k.val = k.val; omega
  · show 0 * 2 + h.val = h.val; omega
  · show t.val * 1024 + r.val = 1024 * t.val + r.val; omega
  · show 0 * 256 + j.val = j.val; omega

theorem found2 (c : Dev nD) (t : Fin cfg0.N) (r : Fin 1024) (l : Fin 128) :
    iblk m c 2 t (ix2 r l) = m ((c : Thread nD τ).loc main_arg2) (ix2 (row t r) l) := by
  rw [← V_main_arg2 m c]
  refine congrArg (V m c main_arg2) (funext fun a => Fin.ext ?_)
  refine (Pipeline.Window.rect_emb_val (cfg0.win 2) t (ix2 r l) a).trans ?_
  rw [show (cfg0.win 2).index t = _ from index2 t]
  fin_cases a
  · show t.val * 1024 + r.val = 1024 * t.val + r.val; omega
  · show 0 * 128 + l.val = l.val; omega

/-- The norm's weights as the call finds them: one row. -/
theorem weights (c : Dev nD) (d : Fin 1024) :
    V m c main_v0 (ix2 (0 : Fin 1) d) = m ((c : Thread nD τ).loc main_arg3) (ix1 d) := by
  have e : V m c main_v0 = shapeCast S1x1024 (m ((c : Thread nD τ).loc main_arg3)) shapeCasts_S1024_S1x1024 := by
    unfold V hostOps0
    rfl
  rw [e]
  pointwise

theorem found3 (c : Dev nD) (t : Fin cfg0.N) (d : Fin 1024) :
    iblk m c 3 t (ix2 (0 : Fin 1) d) = m ((c : Thread nD τ).loc main_arg3) (ix1 d) := by
  rw [← weights m c]
  refine congrArg (V m c main_v0) (funext fun a => Fin.ext ?_)
  refine (Pipeline.Window.rect_emb_val (cfg0.win 3) t (ix2 (0 : Fin 1) d) a).trans ?_
  rw [show (cfg0.win 3).index t = _ from index3 t]
  fin_cases a
  · show 0 * 1 + 0 = 0; omega
  · show 0 * 1024 + d.val = d.val; omega

/-- The final norm of row `p` of the stream whose arrays these are. -/
def final (x : Vec Ideal S16384x1024 .f32) (y : Vec Ideal S4x2x16384x256 .i32) (s : Vec Ideal S16384x128 .f32) (n : Vec Ideal S1024 .f32)
    (p : Fin 16384) (d : Fin 1024) : EReal :=
  normed (mixed (fun e => x (ix2 p e)) (fun k h j => y (ix4 k h p j)) (fun k => s (ix2 p (⟨4 + k.val, by omega⟩ : Fin 128))))
    (fun e => n (ix1 e)) d

theorem result_row (c : Dev nD) (p : Fin 16384) (d : Fin 1024) :
    (dats m 0 c).arrAt 4 cfg0.N (ix2 (⟨p.val, by omega⟩ : Fin 32768) d)
      = final (m ((c : Thread nD τ).loc main_arg0)) (m ((c : Thread nD τ).loc main_arg1)) (m ((c : Thread nD τ).loc main_arg2))
          (m ((c : Thread nD τ).loc main_arg3)) p d := by
  have ht : p.val / 1024 < cfg0.N := by show p.val / 1024 < 16; omega
  obtain ⟨t, r, rfl⟩ : ∃ (t : Fin cfg0.N) (r : Fin 1024), row t r = p :=
    ⟨⟨p.val / 1024, ht⟩, ⟨p.val % 1024, by omega⟩, Fin.ext (by show 1024 * (p.val / 1024) + p.val % 1024 = p.val; omega)⟩
  have h := congrFun (Value.blocks4 m c t (flush0_4 t)) (ix2 r d)
  rw [Value.flushed4] at h
  have e : ((cfg0.win 4).blk t).view.read (Elt Ideal) ((dats m 0 c).arrAt 4 cfg0.N) (ix2 r d)
      = (dats m 0 c).arrAt 4 cfg0.N (ix2 (⟨(row t r).val, by omega⟩ : Fin 32768) d) := by
    refine congrArg ((dats m 0 c).arrAt 4 cfg0.N) (funext fun a => Fin.ext ?_)
    refine (Pipeline.Window.rect_emb_val (cfg0.win 4) t (ix2 r d) a).trans ?_
    rw [show (cfg0.win 4).index t = _ from index4 t]
    fin_cases a
    · show t.val * 1024 + r.val = 1024 * t.val + r.val; omega
    · show 0 * 1024 + d.val = d.val; omega
  rw [← e, h]
  refine (block_row (iblk m c 0 t) (iblk m c 1 t) (iblk m c 2 t) (iblk m c 3 t) r d).trans ?_
  unfold final
  simp only [found0, found1, found2, found3]

end Cert.Kernel2Ideal.Hand

end
-- ==== Proof.Half3.lean ====
/-
  The second stream's final norm: the rows the call leaves in its result, from its arguments.
-/
module

public import proofs.«01_k».proof.Proof.Row3
public import proofs.«01_k».proof.Proof.Half2
public import proofs.«01_k».proof.Proof.Gen.Kernel3Ideal.Value
public import Idealize.ShloMosaic.Lib.Pipeline.ValueKit.Basic

@[expose] public section

noncomputable section

namespace Cert.Kernel3Ideal.Hand

open Cert.Kernel3Ideal Cert.Kernel3Ideal.Gen
open Idealize.ShloMosaic Idealize.ShloMosaic.TcCoe Idealize.ShloMosaic.Tactic Idealize.SL.Sem
open Cert.Hand
open Cert.Kernel2Ideal.Hand (final)

variable (m : (ℓ : Loc nD τ sig) → Buf (Elt Ideal) ℓ)

theorem index0 : ∀ t : Fin grid0.N, win0_0.index t = ![t.val, 0] := by decide +kernel
theorem index1 : ∀ t : Fin grid0.N, win0_1.index t = ![0, 0, t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![16 + t.val, 0] := by decide +kernel

theorem lt_points (t : Fin cfg0.N) : t.val < 16 := t.isLt

/-- The row of the arguments' 16384 that is row `r` of the blocks at point `t`. -/
def row (t : Fin cfg0.N) (r : Fin 1024) : Fin 16384 := ⟨1024 * t.val + r.val, by have := lt_points t; omega⟩

theorem found0 (c : Dev nD) (t : Fin cfg0.N) (r d : Fin 1024) :
    iblk m c 0 t (ix2 r d) = m ((c : Thread nD τ).loc main_arg0) (ix2 (row t r) d) := by
  rw [← V_main_arg0 m c]
  refine congrArg (V m c main_arg0) (funext fun a => Fin.ext ?_)
  refine (Pipeline.Window.rect_emb_val (cfg0.win 0) t (ix2 r d) a).trans ?_
  rw [show (cfg0.win 0).index t = _ from index0 t]
  fin_cases a
  · show t.val * 1024 + r.val = 1024 * t.val + r.val; omega
  · show 0 * 1024 + d.val = d.val; omega

theorem found1 (c : Dev nD) (t : Fin cfg0.N) (k : Fin 4) (h : Fin 2) (r : Fin 1024) (j : Fin 256) :
    iblk m c 1 t (ix4 k h r j) = m ((c : Thread nD τ).loc main_arg1) (ix4 k h (row t r) j) := by
  rw [← V_main_arg1 m c]
  refine congrArg (V m c main_arg1) (funext fun a => Fin.ext ?_)
  refine (Pipeline.Window.rect_emb_val (cfg0.win 1) t (ix4 k h r j) a).trans ?_
  rw [show (cfg0.win 1).index t = _ from index1 t]
  fin_cases a
  · show 0 * 4 + k.val = k.val; omega
  · show 0 * 2 + h.val = h.val; omega
  · show t.val * 1024 + r.val = 1024 * t.val + r.val; omega
  · show 0 * 256 + j.val = j.val; omega

theorem found2 (c : Dev nD) (t : Fin cfg0.N) (r : Fin 1024) (l : Fin 128) :
    iblk m c 2 t (ix2 r l) = m ((c : Thread nD τ).loc main_arg2) (ix2 (row t r) l) := by
  rw [← V_main_arg2 m c]
  refine congrArg (V m c main_arg2) (funext fun a => Fin.ext ?_)
  refine (Pipeline.Window.rect_emb_val (cfg0.win 2) t (ix2 r l) a).trans ?_
  rw [show (cfg0.win 2).index t = _ from index2 t]
  fin_cases a
  · show t.val * 1024 + r.val = 1024 * t.val + r.val; omega
  · show 0 * 128 + l.val = l.val; omega

/-- The norm's weights as the call finds them: one row. -/
theorem weights (c : Dev nD) (d : Fin 1024) :
    V m c main_v0 (ix2 (0 : Fin 1) d) = m ((c : Thread nD τ).loc main_arg3) (ix1 d) := by
  have e : V m c main_v0 = shapeCast S1x1024 (m ((c : Thread nD τ).loc main_arg3)) shapeCasts_S1024_S1x1024 := by
    unfold V hostOps0
    rfl
  rw [e]
  pointwise

theorem found3 (c : Dev nD) (t : Fin cfg0.N) (d : Fin 1024) :
    iblk m c 3 t (ix2 (0 : Fin 1) d) = m ((c : Thread nD τ).loc main_arg3) (ix1 d) := by
  rw [← weights m c]
  refine congrArg (V m c main_v0) (funext fun a => Fin.ext ?_)
  refine (Pipeline.Window.rect_emb_val (cfg0.win 3) t (ix2 (0 : Fin 1) d) a).trans ?_
  rw [show (cfg0.win 3).index t = _ from index3 t]
  fin_cases a
  · show 0 * 1 + 0 = 0; omega
  · show 0 * 1024 + d.val = d.val; omega

/-- The element of the result under an element of the block at a point. -/
theorem under (t : Fin cfg0.N) (r d : Fin 1024) :
    ((cfg0.win 4).blk t).view.emb (ix2 r d) = ix2 (⟨16384 + (row t r).val, by omega⟩ : Fin 32768) d := by
  refine funext fun a => Fin.ext ?_
  refine (Pipeline.Window.rect_emb_val (cfg0.win 4) t (ix2 r d) a).trans ?_
  rw [show (cfg0.win 4).index t = _ from index4 t]
  fin_cases a
  · show (16 + t.val) * 1024 + r.val = 16384 + (1024 * t.val + r.val); omega
  · show 0 * 1024 + d.val = d.val; omega

theorem cut_at (t : Fin cfg0.N) (Z : Vec Ideal S1024x1024 .f32) (r d : Fin 1024) :
    (cfg0.win 4).cut (grid0.coords t) Z (ix2 r d) = Z (ix2 r d) := rfl

/-- The rows of the second stream. -/
theorem result_row (c : Dev nD) (p : Fin 16384) (d : Fin 1024) :
    (dats m 0 c).arrAt 4 cfg0.N (ix2 (⟨16384 + p.val, by omega⟩ : Fin 32768) d)
      = final (m ((c : Thread nD τ).loc main_arg0)) (m ((c : Thread nD τ).loc main_arg1)) (m ((c : Thread nD τ).loc main_arg2))
          (m ((c : Thread nD τ).loc main_arg3)) p d := by
  have ht : p.val / 1024 < cfg0.N := by show p.val / 1024 < 16; omega
  obtain ⟨t, r, rfl⟩ : ∃ (t : Fin cfg0.N) (r : Fin 1024), row t r = p :=
    ⟨⟨p.val / 1024, ht⟩, ⟨p.val % 1024, by omega⟩, Fin.ext (by show 1024 * (p.val / 1024) + p.val % 1024 = p.val; omega)⟩
  have h := congrFun (Value.blocks4 m c t (flush0_4 t)) (ix2 r d)
  rw [Value.flushed4_A] at h
  have e : ((cfg0.win 4).blk t).view.read (Elt Ideal) ((dats m 0 c).arrAt 4 cfg0.N) (ix2 r d)
      = (dats m 0 c).arrAt 4 cfg0.N (ix2 (⟨16384 + (row t r).val, by omega⟩ : Fin 32768) d) :=
    congrArg ((dats m 0 c).arrAt 4 cfg0.N) (under t r d)
  rw [← e, h]
  rw [cut_at, block_row]
  unfold final
  simp only [found0, found1, found2, found3]

/-- The rows of the first stream are those of the array the call was given. -/
theorem kept_row (c : Dev nD) (p : Fin 16384) (d : Fin 1024) :
    (dats m 0 c).arrAt 4 cfg0.N (ix2 (⟨p.val, by omega⟩ : Fin 32768) d)
      = m ((c : Thread nD τ).loc main_arg4) (ix2 (⟨p.val, by omega⟩ : Fin 32768) d) := by
  rw [Value.entry4 m c _ (fun t _ hi => ?_)]
  · have e : V m c main_v1 = m ((c : Thread nD τ).loc main_arg4) := by
      unfold V hostOps0
      rfl
    exact congrFun e _
  · unfold View.set at hi
    obtain ⟨y, -, hy⟩ := Finset.mem_map.mp hi
    obtain ⟨r, e, rfl⟩ : ∃ r e : Fin 1024, ix2 r e = y := ⟨y 0, y 1, funext fun a => by fin_cases a <;> rfl⟩
    rw [under] at hy
    have h := congrArg Fin.val (congrFun hy (0 : Fin 2))
    have h' : 16384 + (row t r).val = p.val := h
    omega

end Cert.Kernel3Ideal.Hand

end
-- ==== Proof.Ref2.lean ====
/-
  The first stream's final norm in the reference: its value at every position.
-/
module

public import proofs.«01_k».proof.Proof.Half2
public import proofs.«01_k».proof.Proof.RI.Tokens
public import proofs.«01_k».proof.Proof.Gen.Reference2Ideal.Read
public import Idealize.ShloMosaic.Lib.Quiescent

@[expose] public section

noncomputable section

namespace Cert.Reference2Ideal.Hand

open Cert.Reference2Ideal Cert.Reference2Ideal.Gen Cert.Reference2Ideal.Read
open Idealize.ShloMosaic Idealize.ShloMosaic.TcCoe Idealize.ShloMosaic.Tactic Idealize.SL.Sem
open Cert.KernelIdeal.Hand (entry)
open Cert.ReferenceIdeal.Hand (shli_host)
open Cert.Kernel2Ideal.Hand (final)
open Cert.Hand

theorem v7_at (x : Vec Ideal S4x2x16384x256 .i32) (k : Fin 4) (p : Fin 16384) (j : Fin 256) :
    val_main_v7 (F := Ideal) x (ix3 k p j) = Ideal.ofBits FTy.f32 (IntOp.shli ArithUnit.vector (x (ix4 k (0 : Fin 2) p j)) 16#32) := by
  rw [val_main_v7_apply, val_main_v6_apply]
  have e : idx_main_v6 (idx_main_v7 (ix3 k p j)) = ix4 k (0 : Fin 2) p j := funext fun a => Fin.ext (by
    match a with
    | ⟨0, _⟩ => show ((k.val * 16384 + p.val) * 256 + j.val) / 4194304 = k.val; omega
    | ⟨1, _⟩ => rfl
    | ⟨2, _⟩ => show ((k.val * 16384 + p.val) * 256 + j.val) / 256 % 16384 = p.val; omega
    | ⟨3, _⟩ => show ((k.val * 16384 + p.val) * 256 + j.val) % 256 = j.val; omega)
  rw [e, val_main_v2_apply, val_main_v1_apply, val_main_v0_apply, val_main_c_apply]
  rw [shli_host]
  rfl

theorem v9_at (x : Vec Ideal S4x2x16384x256 .i32) (k : Fin 4) (p : Fin 16384) (j : Fin 256) :
    val_main_v9 (F := Ideal) x (ix3 k p j) = Ideal.ofBits FTy.f32 (IntOp.shli ArithUnit.vector (x (ix4 k (1 : Fin 2) p j)) 16#32) := by
  rw [val_main_v9_apply, val_main_v8_apply]
  have e : idx_main_v8 (idx_main_v9 (ix3 k p j)) = ix4 k (1 : Fin 2) p j := funext fun a => Fin.ext (by
    match a with
    | ⟨0, _⟩ => show ((k.val * 16384 + p.val) * 256 + j.val) / 4194304 = k.val; omega
    | ⟨1, _⟩ => rfl
    | ⟨2, _⟩ => show ((k.val * 16384 + p.val) * 256 + j.val) / 256 % 16384 = p.val; omega
    | ⟨3, _⟩ => show ((k.val * 16384 + p.val) * 256 + j.val) % 256 = j.val; omega)
  rw [e, val_main_v2_apply, val_main_v1_apply, val_main_v0_apply, val_main_c_apply]
  rw [shli_host]
  rfl

theorem v11_at (x : Vec Ideal S4x2x16384x256 .i32) (k : Fin 4) (p : Fin 16384) (j : Fin 256) :
    val_main_v11 (F := Ideal) x (ix3 k p j) = Ideal.ofBits FTy.f32 (IntOp.andi (x (ix4 k (0 : Fin 2) p j)) 4294901760#32) := by
  rw [val_main_v11_apply, val_main_v10_apply]
  have e : idx_main_v10 (idx_main_v11 (ix3 k p j)) = ix4 k (0 : Fin 2) p j := funext fun a => Fin.ext (by
    match a with
    | ⟨0, _⟩ => show ((k.val * 16384 + p.val) * 256 + j.val) / 4194304 = k.val; omega
    | ⟨1, _⟩ => rfl
    | ⟨2, _⟩ => show ((k.val * 16384 + p.val) * 256 + j.val) / 256 % 16384 = p.val; omega
    | ⟨3, _⟩ => show ((k.val * 16384 + p.val) * 256 + j.val) % 256 = j.val; omega)
  rw [e, val_main_v5_apply, val_main_v4_apply, val_main_v3_apply, val_main_c_0_apply]
  rfl

theorem v13_at (x : Vec Ideal S4x2x16384x256 .i32) (k : Fin 4) (p : Fin 16384) (j : Fin 256) :
    val_main_v13 (F := Ideal) x (ix3 k p j) = Ideal.ofBits FTy.f32 (IntOp.andi (x (ix4 k (1 : Fin 2) p j)) 4294901760#32) := by
  rw [val_main_v13_apply, val_main_v12_apply]
  have e : idx_main_v12 (idx_main_v13 (ix3 k p j)) = ix4 k (1 : Fin 2) p j := funext fun a => Fin.ext (by
    match a with
    | ⟨0, _⟩ => show ((k.val * 16384 + p.val) * 256 + j.val) / 4194304 = k.val; omega
    | ⟨1, _⟩ => rfl
    | ⟨2, _⟩ => show ((k.val * 16384 + p.val) * 256 + j.val) / 256 % 16384 = p.val; omega
    | ⟨3, _⟩ => show ((k.val * 16384 + p.val) * 256 + j.val) % 256 = j.val; omega)
  rw [e, val_main_v5_apply, val_main_v4_apply, val_main_v3_apply, val_main_c_0_apply]
  rfl

/-- The four groups of 256 columns. -/
def pieces (x : Vec Ideal S4x2x16384x256 .i32) : List ((s : Shape) × (s.Idx → EReal)) :=
  [⟨S4x16384x256, val_main_v7 (F := Ideal) x⟩, ⟨S4x16384x256, val_main_v9 (F := Ideal) x⟩,
    ⟨S4x16384x256, val_main_v11 (F := Ideal) x⟩, ⟨S4x16384x256, val_main_v13 (F := Ideal) x⟩]

theorem v14_at (x : Vec Ideal S4x2x16384x256 .i32) (k : Fin 4) (p : Fin 16384) (d : Fin 1024) :
    val_main_v14 (F := Ideal) x (ix3 k p d)
      = entry (fun j => x (ix4 k (0 : Fin 2) p j)) (fun j => x (ix4 k (1 : Fin 2) p j)) d := by
  unfold val_main_v14 entry
  split_ifs with h0 h1 h2
  · refine Eq.trans ?_ (v7_at x k p (⟨d.val, h0⟩ : Fin 256))
    refine concatenate_apply_piece (t := S4x16384x1024) 2 (pieces x) _ _ 0 (by show 0 < 4; decide) S4x16384x256 (val_main_v7 (F := Ideal) x) rfl rfl 0 rfl
      (ix3 k p (⟨d.val, h0⟩ : Fin 256)) (fun b hb => ?_) ?_
    · match b with
      | ⟨0, _⟩ => rfl
      | ⟨1, _⟩ => rfl
      | ⟨2, _⟩ => exact absurd rfl hb
    · show 0 + (d.val) = d.val; omega
  · refine Eq.trans ?_ (v9_at x k p (⟨d.val - 256, h1⟩ : Fin 256))
    refine concatenate_apply_piece (t := S4x16384x1024) 2 (pieces x) _ _ 1 (by show 1 < 4; decide) S4x16384x256 (val_main_v9 (F := Ideal) x) rfl rfl 256 rfl
      (ix3 k p (⟨d.val - 256, h1⟩ : Fin 256)) (fun b hb => ?_) ?_
    · match b with
      | ⟨0, _⟩ => rfl
      | ⟨1, _⟩ => rfl
      | ⟨2, _⟩ => exact absurd rfl hb
    · show 256 + (d.val - 256) = d.val; omega
  · refine Eq.trans ?_ (v11_at x k p (⟨d.val - 256 - 256, h2⟩ : Fin 256))
    refine concatenate_apply_piece (t := S4x16384x1024) 2 (pieces x) _ _ 2 (by show 2 < 4; decide) S4x16384x256 (val_main_v11 (F := Ideal) x) rfl rfl 512 rfl
      (ix3 k p (⟨d.val - 256 - 256, h2⟩ : Fin 256)) (fun b hb => ?_) ?_
    · match b with
      | ⟨0, _⟩ => rfl
      | ⟨1, _⟩ => rfl
      | ⟨2, _⟩ => exact absurd rfl hb
    · show 512 + (d.val - 256 - 256) = d.val; omega
  · refine Eq.trans ?_ (v13_at x k p (⟨d.val - 256 - 256 - 256, (by omega)⟩ : Fin 256))
    refine concatenate_apply_piece (t := S4x16384x1024) 2 (pieces x) _ _ 3 (by show 3 < 4; decide) S4x16384x256 (val_main_v13 (F := Ideal) x) rfl rfl 768 rfl
      (ix3 k p (⟨d.val - 256 - 256 - 256, (by omega)⟩ : Fin 256)) (fun b hb => ?_) ?_
    · match b with
      | ⟨0, _⟩ => rfl
      | ⟨1, _⟩ => rfl
      | ⟨2, _⟩ => exact absurd rfl hb
    · show 768 + (d.val - 256 - 256 - 256) = d.val; omega

theorem v18_at (g : Vec Ideal S16384x128 .f32) (k : Fin 4) (p : Fin 16384) (d : Fin 1024) :
    val_main_v18 (F := Ideal) g (ix3 k p d) = g (ix2 p (⟨4 + k.val, by omega⟩ : Fin 128)) := by
  rw [val_main_v18_apply, val_main_v17_apply, val_main_v16_apply, val_main_v15_apply]
  exact congrArg g (funext fun a => Fin.ext (by
    match a with
    | ⟨0, _⟩ => rfl
    | ⟨1, _⟩ => rfl))

/-- Row `p` before the norm. -/
def before (x : Vec Ideal S16384x1024 .f32) (y : Vec Ideal S4x2x16384x256 .i32) (g : Vec Ideal S16384x128 .f32) (p : Fin 16384)
    (d : Fin 1024) : EReal :=
  mixed (fun e => x (ix2 p e)) (fun k h j => y (ix4 k h p j)) (fun k => g (ix2 p (⟨4 + k.val, by omega⟩ : Fin 128))) d

theorem v21_at (x : Vec Ideal S16384x1024 .f32) (y : Vec Ideal S4x2x16384x256 .i32) (g : Vec Ideal S16384x128 .f32) (p : Fin 16384)
    (d : Fin 1024) : val_main_v21 (F := Ideal) x y g (ix2 p d) = before x y g p d := by
  rw [val_main_v21_apply, val_main_v20_apply, val_main_cst_apply]
  unfold before mixed
  show x (ix2 p d) + (Ideal.ofBits FTy.f32 0x00000000#32 + _) = _
  rw [Ideal.ofBits_zero, zero_add]
  refine congrArg (x (ix2 p d) + ·) (Finset.sum_congr rfl fun k _ => ?_)
  have e : idx_main_v20 (ix2 p d) k = ix3 k p d := funext fun a => Fin.ext (by
    match a with
    | ⟨0, _⟩ => rfl
    | ⟨1, _⟩ => rfl
    | ⟨2, _⟩ => rfl)
  rw [e, val_main_v19_apply, v14_at, v18_at]
  rfl

theorem v23_at (x : Vec Ideal S16384x1024 .f32) (y : Vec Ideal S4x2x16384x256 .i32) (g : Vec Ideal S16384x128 .f32) (p : Fin 16384) :
    val_main_v23 (F := Ideal) x y g (ix1 p) = ∑ e, before x y g p e * before x y g p e := by
  rw [val_main_v23_apply, val_main_cst_1_apply]
  show Ideal.ofBits FTy.f32 0x00000000#32 + _ = _
  rw [Ideal.ofBits_zero, zero_add]
  refine Finset.sum_congr rfl fun k _ => ?_
  have e : idx_main_v23 (ix1 p) k = ix2 p k := funext fun a => Fin.ext (by
    match a with
    | ⟨0, _⟩ => rfl
    | ⟨1, _⟩ => rfl)
  rw [e, val_main_v22_apply, v21_at]
  rfl

/-- The normed row is the specification's. -/
theorem v34_at (x : Vec Ideal S16384x1024 .f32) (y : Vec Ideal S4x2x16384x256 .i32) (g : Vec Ideal S16384x128 .f32)
    (n : Vec Ideal S1024 .f32) (p : Fin 16384) (d : Fin 1024) :
    val_main_v34 (F := Ideal) x y g n (ix2 p d) = final x y g n p d := by
  rw [val_main_v34_apply, val_main_v31_apply, val_main_v30_apply, val_main_v29_apply, val_main_v28_apply, val_main_v26_apply,
    val_main_v24_apply, val_main_v25_apply, val_main_v27_apply, val_main_cst_2_apply, val_main_cst_3_apply, val_main_v33_apply,
    val_main_v32_apply, v21_at]
  have e : idx_main_v24 (idx_main_v30 (ix2 p d)) = ix1 p := funext fun a => Fin.ext (by
    match a with
    | ⟨0, _⟩ => rfl)
  have e' : idx_main_v32 (idx_main_v33 (ix2 p d)) = ix1 d := funext fun a => Fin.ext (by
    match a with
    | ⟨0, _⟩ => rfl)
  rw [e, e', v23_at]
  rfl

/-- The result's first 16384 rows. -/
theorem v36_at (x : Vec Ideal S16384x1024 .f32) (y : Vec Ideal S4x2x16384x256 .i32) (g : Vec Ideal S16384x128 .f32)
    (n : Vec Ideal S1024 .f32) (p : Fin 16384) (d : Fin 1024) :
    val_main_v36 (F := Ideal) x y g n (ix2 (⟨p.val, by omega⟩ : Fin 32768) d) = final x y g n p d := by
  rw [← v34_at]
  unfold val_main_v36
  refine concatenate_apply_piece (t := S32768x1024) 0
    [⟨S16384x1024, val_main_v34 (F := Ideal) x y g n⟩, ⟨S16384x1024, val_main_v35 (F := Ideal)⟩] _ _ 0 (by show 0 < 2; decide)
    S16384x1024 (val_main_v34 (F := Ideal) x y g n) rfl rfl 0 rfl (ix2 p d) (fun b hb => ?_) ?_
  · match b with
    | ⟨0, _⟩ => exact absurd rfl hb
    | ⟨1, _⟩ => rfl
  · show 0 + p.val = p.val; omega

variable (m : (ℓ : Loc nD τ sig) → Buf (Elt Ideal) ℓ) (ρ : Dev nD → PrngReg)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.Reference2Ideal.Value.run m ρ)

end Cert.Reference2Ideal.Hand

end
-- ==== Proof.Ref3.lean ====
/-
  The second stream's final norm in the reference: its value at every position.
-/
module

public import proofs.«01_k».proof.Proof.Ref2
public import proofs.«01_k».proof.Proof.Gen.Reference3Ideal.Read

@[expose] public section

noncomputable section

namespace Cert.Reference3Ideal.Hand

open Cert.Reference3Ideal Cert.Reference3Ideal.Gen Cert.Reference3Ideal.Read
open Idealize.ShloMosaic Idealize.ShloMosaic.TcCoe Idealize.ShloMosaic.Tactic Idealize.SL.Sem
open Cert.Kernel2Ideal.Hand (final)
open Cert.Hand

variable (x : Vec Ideal S16384x1024 .f32) (y : Vec Ideal S4x2x16384x256 .i32) (g : Vec Ideal S16384x128 .f32) (n : Vec Ideal S1024 .f32)
  (o : Vec Ideal S32768x1024 .f32)

/-- The operations are the first stream's. -/
theorem v21_same : val_main_v21 (F := Ideal) x y g = Cert.Reference2Ideal.Read.val_main_v21 x y g := rfl

theorem v29_same : val_main_v29 (F := Ideal) x y g = Cert.Reference2Ideal.Read.val_main_v29 x y g := rfl

theorem v32_same : val_main_v32 (F := Ideal) x y g = Cert.Reference2Ideal.Read.val_main_v31 x y g := by
  unfold val_main_v32 val_main_v31 Cert.Reference2Ideal.Read.val_main_v31 Cert.Reference2Ideal.Read.val_main_v30
  rw [v21_same, v29_same]

theorem v35_at (p : Fin 16384) (d : Fin 1024) : val_main_v35 (F := Ideal) x y g n (ix2 p d) = final x y g n p d := by
  rw [← Cert.Reference2Ideal.Hand.v34_at]
  unfold val_main_v35 Cert.Reference2Ideal.Read.val_main_v34
  rw [v32_same]
  rfl

theorem v30_at (p : Fin 16384) (d : Fin 1024) :
    val_main_v30 (F := Ideal) o (ix2 p d) = o (ix2 (⟨p.val, by omega⟩ : Fin 32768) d) := by
  rw [val_main_v30_apply]
  exact congrArg o (funext fun a => Fin.ext (by
    match a with
    | ⟨0, _⟩ => rfl
    | ⟨1, _⟩ => rfl))

/-- The two halves of the result. -/
def halves : List ((s : Shape) × (s.Idx → EReal)) :=
  [⟨S16384x1024, val_main_v30 (F := Ideal) o⟩, ⟨S16384x1024, val_main_v35 (F := Ideal) x y g n⟩]

/-- The result's first 16384 rows. -/
theorem v36_first (p : Fin 16384) (d : Fin 1024) :
    val_main_v36 (F := Ideal) x y g n o (ix2 (⟨p.val, by omega⟩ : Fin 32768) d) = o (ix2 (⟨p.val, by omega⟩ : Fin 32768) d) := by
  refine Eq.trans ?_ (v30_at o p d)
  unfold val_main_v36
  refine concatenate_apply_piece (t := S32768x1024) 0 (halves x y g n o) _ _ 0 (by show 0 < 2; decide)
    S16384x1024 (val_main_v30 (F := Ideal) o) rfl rfl 0 rfl (ix2 p d) (fun b hb => ?_) ?_
  · match b with
    | ⟨0, _⟩ => exact absurd rfl hb
    | ⟨1, _⟩ => rfl
  · show 0 + p.val = p.val; omega

/-- The result's other 16384 rows. -/
theorem v36_second (p : Fin 16384) (d : Fin 1024) :
    val_main_v36 (F := Ideal) x y g n o (ix2 (⟨16384 + p.val, by omega⟩ : Fin 32768) d) = final x y g n p d := by
  refine Eq.trans ?_ (v35_at x y g n p d)
  unfold val_main_v36
  refine concatenate_apply_piece (t := S32768x1024) 0 (halves x y g n o) _ _ 1 (by show 1 < 2; decide)
    S16384x1024 (val_main_v35 (F := Ideal) x y g n) rfl rfl 16384 rfl (ix2 p d) (fun b hb => ?_) ?_
  · match b with
    | ⟨0, _⟩ => exact absurd rfl hb
    | ⟨1, _⟩ => rfl
  · show 16384 + p.val = 16384 + p.val; rfl

variable (m : (ℓ : Loc nD τ sig) → Buf (Elt Ideal) ℓ) (ρ : Dev nD → PrngReg)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Cert.Reference3Ideal.Value.run m ρ)

end Cert.Reference3Ideal.Hand

end
-- ==== Proof.Norm.lean ====
/-
  The final norm's two calls: over the extended reals each computes what its reference computes.
-/
module

public import proofs.«01_k».proof.Defs
public import proofs.«01_k».proof.Proof.Half3
public import proofs.«01_k».proof.Proof.Ref3
public import proofs.«01_k».proof.Proof.Mask
public import proofs.«01_k».proof.Proof.Gen.On_first_half

@[expose] public section

noncomputable section

namespace Cert.Hand

open Idealize.ShloMosaic Idealize.ShloMosaic.TcCoe Idealize.ShloMosaic.Tactic Idealize.SL.Sem

attribute [local instance] Cert.On_first_half.Gen.facts Cert.Kernel2Ideal.Gen.facts Cert.Reference2Ideal.Gen.facts
  Cert.Kernel3Ideal.Gen.facts Cert.Reference3Ideal.Gen.facts

/-- The rows the first call's claim is about. -/
theorem first_of_mask {F : FTy → Type} [FloatOps F] {a0 : FVec F ⟨2, ![16384, 1024]⟩ .f32} {a1 : IVec ⟨4, ![4, 2, 16384, 256]⟩ 32}
    {a2 : FVec F ⟨2, ![16384, 128]⟩ .f32} {a3 : FVec F ⟨1, ![1024]⟩ .f32} (p : Fin 32768) (d : Fin 1024)
    (h : Cert.On_first_half.fn a0 a1 a2 a3 (ix2 p d) = 1#1) : p.val < 16384 := by
  have h' : IntOp.cmpi .slt (BitVec.ofNat 32 p.val) 16384#32 = 1#1 := h
  simp only [IntOp.cmpi, StableHlo.Predicate.ofBool_eq_one_iff, BitVec.slt_iff_toInt_lt] at h'
  rw [StableHlo.Predicate.toInt_ofNat_small _ (by omega)] at h'
  have e : (16384#32 : BitVec 32).toInt = 16384 := by decide
  omega

theorem split2 (i : (⟨2, ![32768, 1024]⟩ : Shape).Idx) : ∃ (p : Fin 32768) (d : Fin 1024), ix2 p d = i :=
  ⟨i 0, i 1, funext fun a => by fin_cases a <;> rfl⟩

theorem agree2 : algebraic_Kernel2Ideal_Reference2Ideal_on_first_half := by
  intro m g m' g' _ hm
  refine ⟨fun c => Cert.Reference2Ideal.Read.val_main_v36 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · refine (θ_run _ _ _).mono (fun r h c => ⟨fun i hi => ?_, (h c).2⟩) (Cert.Kernel2Ideal.Value.run_blocks m g)
    obtain ⟨p, d, rfl⟩ := split2 i
    have hp := first_of_mask p d hi
    rw [(h c).1]
    exact (Cert.Kernel2Ideal.Hand.result_row m c ⟨p.val, hp⟩ d).trans (Cert.Reference2Ideal.Hand.v36_at _ _ _ _ ⟨p.val, hp⟩ d).symm
  · refine (θ_run _ _ _).mono (fun r h c => ⟨fun i hi => ?_, (h c).2⟩) (Cert.Reference2Ideal.Value.run m' g')
    obtain ⟨h0, h1, h2, h3⟩ := hm c
    rw [(h c).1, Cert.Reference2Ideal.Read.val_main_v36_eq, h0, h1, h2, h3]

theorem agree3 : algebraic_Kernel3Ideal_Reference3Ideal := by
  intro m g m' g' _ hm
  refine ⟨fun c => Cert.Reference3Ideal.Read.val_main_v36 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run _ _ _).mono (fun r h c => ⟨?_, (h c).2⟩) (Cert.Kernel3Ideal.Value.run_blocks m g)
    refine (h c).1.trans (funext fun i => ?_)
    obtain ⟨p, d, rfl⟩ := split2 i
    by_cases hp : p.val < 16384
    · exact (Cert.Kernel3Ideal.Hand.kept_row m c ⟨p.val, hp⟩ d).trans (Cert.Reference3Ideal.Hand.v36_first _ _ _ _ _ ⟨p.val, hp⟩ d).symm
    · obtain ⟨q, hq⟩ : ∃ q : Fin 16384, p = (⟨16384 + q.val, by omega⟩ : Fin 32768) :=
        ⟨⟨p.val - 16384, by omega⟩, Fin.ext (by show p.val = 16384 + (p.val - 16384); omega)⟩
      rw [hq]
      exact (Cert.Kernel3Ideal.Hand.result_row m c q d).trans (Cert.Reference3Ideal.Hand.v36_second _ _ _ _ _ q d).symm
  · refine (θ_run _ _ _).mono (fun r h c => ⟨?_, (h c).2⟩) (Cert.Reference3Ideal.Value.run m' g')
    obtain ⟨h0, h1, h2, h3, h4⟩ := hm c
    rw [(h c).1, Cert.Reference3Ideal.Read.val_main_v36_eq, h0, h1, h2, h3, h4]

end Cert.Hand

end
-- ==== Proof.lean ====
/-
  The claim: the routed experts kernel and the two final norms terminate and leave their arguments alone, as printed and over the
  extended reals; over the extended reals they compute what their references compute, the experts at every row of the steps the
  kernel works on, the first norm at the rows of its stream, the second at every row.
-/
module

public import proofs.«01_k».proof.Defs
public import proofs.«01_k».proof.Proof.K.Launch
public import proofs.«01_k».proof.Proof.Agree
public import Idealize.ShloMosaic.Lib.Bf16Pair
public import proofs.«01_k».proof.Proof.Norm
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value

@[expose] public section

noncomputable section

namespace Cert.Proof

open Idealize.ShloMosaic Idealize.SL.Sem
open Cert.Hand

attribute [local instance] Cert.Pre_tables_in_range.Gen.facts Cert.On_rows_written.Gen.facts

theorem kernel_range {m : (ℓ : Loc Cert.Kernel.nD Cert.Kernel.τ Cert.Kernel.sig) → Buf (Elt Bits) ℓ} (h : Pre_Kernel m) :
    Cert.Kernel.Hand.InRange (Cert.Kernel.Hand.tables m) :=
  ⟨fun k => (tables_of_pre (h 0)).1 _, fun k => (tables_of_pre (h 0)).2 _⟩

theorem ideal_range {m : (ℓ : Loc Cert.KernelIdeal.nD Cert.KernelIdeal.τ Cert.KernelIdeal.sig) → Buf (Elt Ideal) ℓ} (h : Pre_KernelIdeal m) :
    Cert.KernelIdeal.Hand.InRange (Cert.KernelIdeal.Hand.tables m) :=
  ⟨fun k => (tables_of_pre (h 0)).1 _, fun k => (tables_of_pre (h 0)).2 _⟩

theorem preserved : preserves_Kernel_KernelIdeal :=
  ⟨IdealRules.bf16_pair.packStatement _, IdealRules.bf16_pair.statement _ _,
    IdealRules.bf16_pair.packStatement _, IdealRules.bf16_pair.statement _ _,
    IdealRules.bf16_pair.packStatement _, IdealRules.bf16_pair.statement _ _⟩

theorem agree : algebraic_KernelIdeal_ReferenceIdeal_on_rows_written := by
  intro m g m' g' hP hm
  have hr := ideal_range hP
  refine ⟨fun c => want m c, ?_, ?_⟩
  · refine (θ_run _ _ _).mono (fun r h c => ⟨fun i hi => result_eq m hr r h.1 c i hi, ?_⟩) (Cert.KernelIdeal.Hand.run_main m g hr)
    exact Cert.KernelIdeal.Hand.args_kept m hr r h.1 c
  · refine (θ_run _ _ _).mono (fun r h c => ⟨fun i hi => ?_, (h c).2⟩) (Cert.ReferenceIdeal.Value.run m' g')
    obtain ⟨h0, _, _, h3, h4, h5, h6, h7⟩ := hm c
    rw [(h c).1, Cert.ReferenceIdeal.Read.val_main_v58_eq, h0, h3, h4, h5, h6, h7]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_tables_in_range.Gen.facts, Cert.On_rows_written.Gen.facts, Cert.On_first_half.Gen.facts,
    fun m g h => Cert.Kernel.Hand.frame m g (kernel_range h),
    fun m g h => Cert.KernelIdeal.Hand.frame m g (ideal_range h),
    fun m g _ => Cert.ReferenceIdeal.Hand.frame m g,
    fun m g _ => Cert.ReferenceIdeal.Hand.frame m g,
    fun m g _ => Cert.Kernel2.Gen.frame m g,
    fun m g _ => Cert.Kernel2Ideal.Gen.frame m g,
    fun m g _ => Cert.Reference2Ideal.Hand.frame m g,
    fun m g _ => Cert.Kernel3.Gen.frame m g,
    fun m g _ => Cert.Kernel3Ideal.Gen.frame m g,
    fun m g _ => Cert.Reference3Ideal.Hand.frame m g,
    preserved, agree, trivial, agree2, trivial, agree3⟩

end Cert.Proof

end
